-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_merge_finite [hPre_merge_finite : Cert.Pre_merge_finite.Facts] (m : (ℓ : Loc Cert.MergeIdeal.nD Cert.MergeIdeal.τ Cert.MergeIdeal.sig) → Buf (Elt Ideal) ℓ) : Prop :=
  ∀ c : Dev Cert.MergeIdeal.nD,
    (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_merge_finite [hPre_merge_finite : Cert.Pre_merge_finite.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7))) = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectRefIdeal (m : (ℓ : Loc Cert.ProjectRefIdeal.nD Cert.ProjectRefIdeal.τ Cert.ProjectRefIdeal.sig) → Buf (Elt Ideal) ℓ) : Prop :=
  True

def Pre_ProjectSample (m : (ℓ : Loc Cert.ProjectSample.nD Cert.ProjectSample.τ Cert.ProjectSample.sig) → Buf (Elt Bits) ℓ) : Prop :=
  True

def Pre_ProjectSampleIdeal (m : (ℓ : Loc Cert.ProjectSampleIdeal.nD Cert.ProjectSampleIdeal.τ Cert.ProjectSampleIdeal.sig) → Buf (Elt Ideal) ℓ) : Prop :=
  True

def Pre_ProjectSampleRefIdeal (m : (ℓ : Loc Cert.ProjectSampleRefIdeal.nD Cert.ProjectSampleRefIdeal.τ Cert.ProjectSampleRefIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleIdeal_ffn_sample_finite [hPre_ffn_sample_finite : Cert.Pre_ffn_sample_finite.Facts] (m : (ℓ : Loc Cert.FfnSampleIdeal.nD Cert.FfnSampleIdeal.τ Cert.FfnSampleIdeal.sig) → Buf (Elt Ideal) ℓ) : Prop :=
  ∀ c : Dev Cert.FfnSampleIdeal.nD,
    (Cert.Pre_ffn_sample_finite.fn (F := Ideal) (m ((c.tc : Thread Cert.FfnSampleIdeal.nD Cert.FfnSampleIdeal.τ).loc Cert.FfnSampleIdeal.main_arg0)) (m ((c.tc : Thread Cert.FfnSampleIdeal.nD Cert.FfnSampleIdeal.τ).loc Cert.FfnSampleIdeal.main_arg1)) (m ((c.tc : Thread Cert.FfnSampleIdeal.nD Cert.FfnSampleIdeal.τ).loc Cert.FfnSampleIdeal.main_arg2)) (m ((c.tc : Thread Cert.FfnSampleIdeal.nD Cert.FfnSampleIdeal.τ).loc Cert.FfnSampleIdeal.main_arg3))) = (fun _ => 1#1)

def Pre_FfnSampleRefIdeal (m : (ℓ : Loc Cert.FfnSampleRefIdeal.nD Cert.FfnSampleRefIdeal.τ Cert.FfnSampleRefIdeal.sig) → Buf (Elt Ideal) ℓ) : Prop :=
  True

def Pre_FfnSampleRefIdeal_ffn_sample_finite [hPre_ffn_sample_finite : Cert.Pre_ffn_sample_finite.Facts] (m : (ℓ : Loc Cert.FfnSampleRefIdeal.nD Cert.FfnSampleRefIdeal.τ Cert.FfnSampleRefIdeal.sig) → Buf (Elt Ideal) ℓ) : Prop :=
  ∀ c : Dev Cert.FfnSampleRefIdeal.nD,
    (Cert.Pre_ffn_sample_finite.fn (F := Ideal) (m ((c.tc : Thread Cert.FfnSampleRefIdeal.nD Cert.FfnSampleRefIdeal.τ).loc Cert.FfnSampleRefIdeal.main_arg0)) (m ((c.tc : Thread Cert.FfnSampleRefIdeal.nD Cert.FfnSampleRefIdeal.τ).loc Cert.FfnSampleRefIdeal.main_arg1)) (m ((c.tc : Thread Cert.FfnSampleRefIdeal.nD Cert.FfnSampleRefIdeal.τ).loc Cert.FfnSampleRefIdeal.main_arg2)) (m ((c.tc : Thread Cert.FfnSampleRefIdeal.nD Cert.FfnSampleRefIdeal.τ).loc Cert.FfnSampleRefIdeal.main_arg3))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvIdeal_conv_finite [hPre_conv_finite : Cert.Pre_conv_finite.Facts] (m : (ℓ : Loc Cert.ConvIdeal.nD Cert.ConvIdeal.τ Cert.ConvIdeal.sig) → Buf (Elt Ideal) ℓ) : Prop :=
  ∀ c : Dev Cert.ConvIdeal.nD,
    (Cert.Pre_conv_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4)) (m ((c.tc : Thread Cert.ConvIdeal.nD Cert.ConvIdeal.τ).loc Cert.ConvIdeal.main_arg5)) (m ((c.tc : Thread Cert.ConvIdeal.nD Cert.ConvIdeal.τ).loc Cert.ConvIdeal.main_arg6))) = (fun _ => 1#1)

def Pre_ConvRefIdeal (m : (ℓ : Loc Cert.ConvRefIdeal.nD Cert.ConvRefIdeal.τ Cert.ConvRefIdeal.sig) → Buf (Elt Ideal) ℓ) : Prop :=
  True

def Pre_ConvRefIdeal_conv_finite [hPre_conv_finite : Cert.Pre_conv_finite.Facts] (m : (ℓ : Loc Cert.ConvRefIdeal.nD Cert.ConvRefIdeal.τ Cert.ConvRefIdeal.sig) → Buf (Elt Ideal) ℓ) : Prop :=
  ∀ c : Dev Cert.ConvRefIdeal.nD,
    (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3)) (m ((c.tc : Thread Cert.ConvRefIdeal.nD Cert.ConvRefIdeal.τ).loc Cert.ConvRefIdeal.main_arg4)) (m ((c.tc : Thread Cert.ConvRefIdeal.nD Cert.ConvRefIdeal.τ).loc Cert.ConvRefIdeal.main_arg5)) (m ((c.tc : Thread Cert.ConvRefIdeal.nD Cert.ConvRefIdeal.τ).loc Cert.ConvRefIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeIdeal_pre_merge_finite [hMergeIdeal : Cert.MergeIdeal.Facts] [hPre_merge_finite : Cert.Pre_merge_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_merge_finite m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_MergeRefIdeal_pre_merge_finite [hMergeRefIdeal : Cert.MergeRefIdeal.Facts] [hPre_merge_finite : Cert.Pre_merge_finite.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_merge_finite m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1)
      ∧ r.2.mem ((c.tc : Thread Cert.ProjectRefIdeal.nD Cert.ProjectRefIdeal.τ).loc Cert.ProjectRefIdeal.main_arg2) = m ((c.tc : Thread Cert.ProjectRefIdeal.nD Cert.ProjectRefIdeal.τ).loc Cert.ProjectRefIdeal.main_arg2)
      ∧ r.2.mem ((c.tc : Thread Cert.ProjectRefIdeal.nD Cert.ProjectRefIdeal.τ).loc Cert.ProjectRefIdeal.main_arg3) = m ((c.tc : Thread Cert.ProjectRefIdeal.nD Cert.ProjectRefIdeal.τ).loc Cert.ProjectRefIdeal.main_arg3)
      ∧ r.2.mem ((c.tc : Thread Cert.ProjectRefIdeal.nD Cert.ProjectRefIdeal.τ).loc Cert.ProjectRefIdeal.main_arg4) = m ((c.tc : Thread Cert.ProjectRefIdeal.nD Cert.ProjectRefIdeal.τ).loc Cert.ProjectRefIdeal.main_arg4))
      ∧ r.2.sem = fun _ => 0)

def quiescent_ProjectSample [hProjectSample : Cert.ProjectSample.Facts] : Prop :=
  ∀ (m : (ℓ : Loc Cert.ProjectSample.nD Cert.ProjectSample.τ Cert.ProjectSample.sig) → Buf (Elt Bits) ℓ) (g : Dev Cert.ProjectSample.nD → PrngReg), Pre_ProjectSample m →
    θ_run (Cert.ProjectSample.defs (F := Bits)) (onTc (τ := Cert.ProjectSample.τ) (Cert.ProjectSample.main (F := Bits))) ⟨m, fun _ => 0, g⟩ (fun r => (∀ c : Dev Cert.ProjectSample.nD,
      r.2.mem ((c.tc : Thread Cert.ProjectSample.nD Cert.ProjectSample.τ).loc Cert.ProjectSample.main_arg0) = m ((c.tc : Thread Cert.ProjectSample.nD Cert.ProjectSample.τ).loc Cert.ProjectSample.main_arg0)
      ∧ r.2.mem ((c.tc : Thread Cert.ProjectSample.nD Cert.ProjectSample.τ).loc Cert.ProjectSample.main_arg1) = m ((c.tc : Thread Cert.ProjectSample.nD Cert.ProjectSample.τ).loc Cert.ProjectSample.main_arg1)
      ∧ r.2.mem ((c.tc : Thread Cert.ProjectSample.nD Cert.ProjectSample.τ).loc Cert.ProjectSample.main_arg2) = m ((c.tc : Thread Cert.ProjectSample.nD Cert.ProjectSample.τ).loc Cert.ProjectSample.main_arg2)
      ∧ r.2.mem ((c.tc : Thread Cert.ProjectSample.nD Cert.ProjectSample.τ).loc Cert.ProjectSample.main_arg3) = m ((c.tc : Thread Cert.ProjectSample.nD Cert.ProjectSample.τ).loc Cert.ProjectSample.main_arg3)
      ∧ r.2.mem ((c.tc : Thread Cert.ProjectSample.nD Cert.ProjectSample.τ).loc Cert.ProjectSample.main_arg4) = m ((c.tc : Thread Cert.ProjectSample.nD Cert.ProjectSample.τ).loc Cert.ProjectSample.main_arg4))
      ∧ r.2.sem = fun _ => 0)

def quiescent_ProjectSampleIdeal [hProjectSampleIdeal : Cert.ProjectSampleIdeal.Facts] : Prop :=
  ∀ (m : (ℓ : Loc Cert.ProjectSampleIdeal.nD Cert.ProjectSampleIdeal.τ Cert.ProjectSampleIdeal.sig) → Buf (Elt Ideal) ℓ) (g : Dev Cert.ProjectSampleIdeal.nD → PrngReg), Pre_ProjectSampleIdeal m →
    θ_run (Cert.ProjectSampleIdeal.defs (F := Ideal)) (onTc (τ := Cert.ProjectSampleIdeal.τ) (Cert.ProjectSampleIdeal.main (F := Ideal))) ⟨m, fun _ => 0, g⟩ (fun r => (∀ c : Dev Cert.ProjectSampleIdeal.nD,
      r.2.mem ((c.tc : Thread Cert.ProjectSampleIdeal.nD Cert.ProjectSampleIdeal.τ).loc Cert.ProjectSampleIdeal.main_arg0) = m ((c.tc : Thread Cert.ProjectSampleIdeal.nD Cert.ProjectSampleIdeal.τ).loc Cert.ProjectSampleIdeal.main_arg0)
      ∧ r.2.mem ((c.tc : Thread Cert.ProjectSampleIdeal.nD Cert.ProjectSampleIdeal.τ).loc Cert.ProjectSampleIdeal.main_arg1) = m ((c.tc : Thread Cert.ProjectSampleIdeal.nD Cert.ProjectSampleIdeal.τ).loc Cert.ProjectSampleIdeal.main_arg1)
      ∧ r.2.mem ((c.tc : Thread Cert.ProjectSampleIdeal.nD Cert.ProjectSampleIdeal.τ).loc Cert.ProjectSampleIdeal.main_arg2) = m ((c.tc : Thread Cert.ProjectSampleIdeal.nD Cert.ProjectSampleIdeal.τ).loc Cert.ProjectSampleIdeal.main_arg2)
      ∧ r.2.mem ((c.tc : Thread Cert.ProjectSampleIdeal.nD Cert.ProjectSampleIdeal.τ).loc Cert.ProjectSampleIdeal.main_arg3) = m ((c.tc : Thread Cert.ProjectSampleIdeal.nD Cert.ProjectSampleIdeal.τ).loc Cert.ProjectSampleIdeal.main_arg3)
      ∧ r.2.mem ((c.tc : Thread Cert.ProjectSampleIdeal.nD Cert.ProjectSampleIdeal.τ).loc Cert.ProjectSampleIdeal.main_arg4) = m ((c.tc : Thread Cert.ProjectSampleIdeal.nD Cert.ProjectSampleIdeal.τ).loc Cert.ProjectSampleIdeal.main_arg4))
      ∧ r.2.sem = fun _ => 0)

def quiescent_ProjectSampleRefIdeal [hProjectSampleRefIdeal : Cert.ProjectSampleRefIdeal.Facts] : Prop :=
  ∀ (m : (ℓ : Loc Cert.ProjectSampleRefIdeal.nD Cert.ProjectSampleRefIdeal.τ Cert.ProjectSampleRefIdeal.sig) → Buf (Elt Ideal) ℓ) (g : Dev Cert.ProjectSampleRefIdeal.nD → PrngReg), Pre_ProjectSampleRefIdeal m →
    θ_run (Cert.ProjectSampleRefIdeal.defs (F := Ideal)) (onTc (τ := Cert.ProjectSampleRefIdeal.τ) (Cert.ProjectSampleRefIdeal.main (F := Ideal))) ⟨m, fun _ => 0, g⟩ (fun r => (∀ c : Dev Cert.ProjectSampleRefIdeal.nD,
      r.2.mem ((c.tc : Thread Cert.ProjectSampleRefIdeal.nD Cert.ProjectSampleRefIdeal.τ).loc Cert.ProjectSampleRefIdeal.main_arg0) = m ((c.tc : Thread Cert.ProjectSampleRefIdeal.nD Cert.ProjectSampleRefIdeal.τ).loc Cert.ProjectSampleRefIdeal.main_arg0)
      ∧ r.2.mem ((c.tc : Thread Cert.ProjectSampleRefIdeal.nD Cert.ProjectSampleRefIdeal.τ).loc Cert.ProjectSampleRefIdeal.main_arg1) = m ((c.tc : Thread Cert.ProjectSampleRefIdeal.nD Cert.ProjectSampleRefIdeal.τ).loc Cert.ProjectSampleRefIdeal.main_arg1)
      ∧ r.2.mem ((c.tc : Thread Cert.ProjectSampleRefIdeal.nD Cert.ProjectSampleRefIdeal.τ).loc Cert.ProjectSampleRefIdeal.main_arg2) = m ((c.tc : Thread Cert.ProjectSampleRefIdeal.nD Cert.ProjectSampleRefIdeal.τ).loc Cert.ProjectSampleRefIdeal.main_arg2)
      ∧ r.2.mem ((c.tc : Thread Cert.ProjectSampleRefIdeal.nD Cert.ProjectSampleRefIdeal.τ).loc Cert.ProjectSampleRefIdeal.main_arg3) = m ((c.tc : Thread Cert.ProjectSampleRefIdeal.nD Cert.ProjectSampleRefIdeal.τ).loc Cert.ProjectSampleRefIdeal.main_arg3)
      ∧ r.2.mem ((c.tc : Thread Cert.ProjectSampleRefIdeal.nD Cert.ProjectSampleRefIdeal.τ).loc Cert.ProjectSampleRefIdeal.main_arg4) = m ((c.tc : Thread Cert.ProjectSampleRefIdeal.nD Cert.ProjectSampleRefIdeal.τ).loc Cert.ProjectSampleRefIdeal.main_arg4))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3))
      ∧ r.2.sem = fun _ => 0)

def quiescent_FfnSampleIdeal_pre_ffn_sample_finite [hFfnSampleIdeal : Cert.FfnSampleIdeal.Facts] [hPre_ffn_sample_finite : Cert.Pre_ffn_sample_finite.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal_ffn_sample_finite m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3))
      ∧ r.2.sem = fun _ => 0)

def quiescent_FfnSampleRefIdeal [hFfnSampleRefIdeal : Cert.FfnSampleRefIdeal.Facts] : Prop :=
  ∀ (m : (ℓ : Loc Cert.FfnSampleRefIdeal.nD Cert.FfnSampleRefIdeal.τ Cert.FfnSampleRefIdeal.sig) → Buf (Elt Ideal) ℓ) (g : Dev Cert.FfnSampleRefIdeal.nD → PrngReg), Pre_FfnSampleRefIdeal m →
    θ_run (Cert.FfnSampleRefIdeal.defs (F := Ideal)) (onTc (τ := Cert.FfnSampleRefIdeal.τ) (Cert.FfnSampleRefIdeal.main (F := Ideal))) ⟨m, fun _ => 0, g⟩ (fun r => (∀ c : Dev Cert.FfnSampleRefIdeal.nD,
      r.2.mem ((c.tc : Thread Cert.FfnSampleRefIdeal.nD Cert.FfnSampleRefIdeal.τ).loc Cert.FfnSampleRefIdeal.main_arg0) = m ((c.tc : Thread Cert.FfnSampleRefIdeal.nD Cert.FfnSampleRefIdeal.τ).loc Cert.FfnSampleRefIdeal.main_arg0)
      ∧ r.2.mem ((c.tc : Thread Cert.FfnSampleRefIdeal.nD Cert.FfnSampleRefIdeal.τ).loc Cert.FfnSampleRefIdeal.main_arg1) = m ((c.tc : Thread Cert.FfnSampleRefIdeal.nD Cert.FfnSampleRefIdeal.τ).loc Cert.FfnSampleRefIdeal.main_arg1)
      ∧ r.2.mem ((c.tc : Thread Cert.FfnSampleRefIdeal.nD Cert.FfnSampleRefIdeal.τ).loc Cert.FfnSampleRefIdeal.main_arg2) = m ((c.tc : Thread Cert.FfnSampleRefIdeal.nD Cert.FfnSampleRefIdeal.τ).loc Cert.FfnSampleRefIdeal.main_arg2)
      ∧ r.2.mem ((c.tc : Thread Cert.FfnSampleRefIdeal.nD Cert.FfnSampleRefIdeal.τ).loc Cert.FfnSampleRefIdeal.main_arg3) = m ((c.tc : Thread Cert.FfnSampleRefIdeal.nD Cert.FfnSampleRefIdeal.τ).loc Cert.FfnSampleRefIdeal.main_arg3))
      ∧ r.2.sem = fun _ => 0)

def quiescent_FfnSampleRefIdeal_pre_ffn_sample_finite [hFfnSampleRefIdeal : Cert.FfnSampleRefIdeal.Facts] [hPre_ffn_sample_finite : Cert.Pre_ffn_sample_finite.Facts] : Prop :=
  ∀ (m : (ℓ : Loc Cert.FfnSampleRefIdeal.nD Cert.FfnSampleRefIdeal.τ Cert.FfnSampleRefIdeal.sig) → Buf (Elt Ideal) ℓ) (g : Dev Cert.FfnSampleRefIdeal.nD → PrngReg), Pre_FfnSampleRefIdeal_ffn_sample_finite m →
    θ_run (Cert.FfnSampleRefIdeal.defs (F := Ideal)) (onTc (τ := Cert.FfnSampleRefIdeal.τ) (Cert.FfnSampleRefIdeal.main (F := Ideal))) ⟨m, fun _ => 0, g⟩ (fun r => (∀ c : Dev Cert.FfnSampleRefIdeal.nD,
      r.2.mem ((c.tc : Thread Cert.FfnSampleRefIdeal.nD Cert.FfnSampleRefIdeal.τ).loc Cert.FfnSampleRefIdeal.main_arg0) = m ((c.tc : Thread Cert.FfnSampleRefIdeal.nD Cert.FfnSampleRefIdeal.τ).loc Cert.FfnSampleRefIdeal.main_arg0)
      ∧ r.2.mem ((c.tc : Thread Cert.FfnSampleRefIdeal.nD Cert.FfnSampleRefIdeal.τ).loc Cert.FfnSampleRefIdeal.main_arg1) = m ((c.tc : Thread Cert.FfnSampleRefIdeal.nD Cert.FfnSampleRefIdeal.τ).loc Cert.FfnSampleRefIdeal.main_arg1)
      ∧ r.2.mem ((c.tc : Thread Cert.FfnSampleRefIdeal.nD Cert.FfnSampleRefIdeal.τ).loc Cert.FfnSampleRefIdeal.main_arg2) = m ((c.tc : Thread Cert.FfnSampleRefIdeal.nD Cert.FfnSampleRefIdeal.τ).loc Cert.FfnSampleRefIdeal.main_arg2)
      ∧ r.2.mem ((c.tc : Thread Cert.FfnSampleRefIdeal.nD Cert.FfnSampleRefIdeal.τ).loc Cert.FfnSampleRefIdeal.main_arg3) = m ((c.tc : Thread Cert.FfnSampleRefIdeal.nD Cert.FfnSampleRefIdeal.τ).loc Cert.FfnSampleRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6))
      ∧ r.2.sem = fun _ => 0)

def quiescent_ConvIdeal_pre_conv_finite [hConvIdeal : Cert.ConvIdeal.Facts] [hPre_conv_finite : Cert.Pre_conv_finite.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal_conv_finite m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6))
      ∧ r.2.sem = fun _ => 0)

def quiescent_ConvRefIdeal_pre_conv_finite [hConvRefIdeal : Cert.ConvRefIdeal.Facts] [hPre_conv_finite : Cert.Pre_conv_finite.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal_conv_finite m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v19) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Merge_MergeIdeal : Prop :=
  True

def algebraic_MergeIdeal_MergeRefIdeal_pre_merge_finite [hMergeIdeal : Cert.MergeIdeal.Facts] [hMergeRefIdeal : Cert.MergeRefIdeal.Facts] [hPre_merge_finite : Cert.Pre_merge_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_merge_finite m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v10)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v10) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v45) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Project_ProjectIdeal : Prop :=
  True

def algebraic_ProjectIdeal_ProjectRefIdeal [hProjectIdeal : Cert.ProjectIdeal.Facts] [hProjectRefIdeal : Cert.ProjectRefIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)
      ∧ m' ((c.tc : Thread Cert.ProjectRefIdeal.nD Cert.ProjectRefIdeal.τ).loc Cert.ProjectRefIdeal.main_arg2) = m ((c.tc : Thread Cert.ProjectIdeal.nD Cert.ProjectIdeal.τ).loc Cert.ProjectIdeal.main_arg2)
      ∧ m' ((c.tc : Thread Cert.ProjectRefIdeal.nD Cert.ProjectRefIdeal.τ).loc Cert.ProjectRefIdeal.main_arg3) = m ((c.tc : Thread Cert.ProjectIdeal.nD Cert.ProjectIdeal.τ).loc Cert.ProjectIdeal.main_arg3)
      ∧ m' ((c.tc : Thread Cert.ProjectRefIdeal.nD Cert.ProjectRefIdeal.τ).loc Cert.ProjectRefIdeal.main_arg4) = m ((c.tc : Thread Cert.ProjectIdeal.nD Cert.ProjectIdeal.τ).loc Cert.ProjectIdeal.main_arg4)) →
    ∃ (v0 : (c : Dev Cert.ProjectIdeal.nD) → Buf (Elt Ideal) ((c.tc : Thread Cert.ProjectIdeal.nD Cert.ProjectIdeal.τ).loc Cert.ProjectIdeal.main_v19_0)) (v1 : (c : Dev Cert.ProjectIdeal.nD) → Buf (Elt Ideal) ((c.tc : Thread Cert.ProjectIdeal.nD Cert.ProjectIdeal.τ).loc Cert.ProjectIdeal.main_v19_1)) (v2 : (c : Dev Cert.ProjectIdeal.nD) → Buf (Elt Ideal) ((c.tc : Thread Cert.ProjectIdeal.nD Cert.ProjectIdeal.τ).loc Cert.ProjectIdeal.main_v19_2)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v19_0) = v0 c
          ∧ r.2.mem ((c.tc : Thread Cert.ProjectIdeal.nD Cert.ProjectIdeal.τ).loc Cert.ProjectIdeal.main_v19_1) = v1 c
          ∧ r.2.mem ((c.tc : Thread Cert.ProjectIdeal.nD Cert.ProjectIdeal.τ).loc Cert.ProjectIdeal.main_v19_2) = v2 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          r.2.mem ((c.tc : Thread Cert.ProjectRefIdeal.nD Cert.ProjectRefIdeal.τ).loc Cert.ProjectRefIdeal.main_v49) = v0 c
          ∧ r.2.mem ((c.tc : Thread Cert.ProjectRefIdeal.nD Cert.ProjectRefIdeal.τ).loc Cert.ProjectRefIdeal.main_v52) = v1 c
          ∧ r.2.mem ((c.tc : Thread Cert.ProjectRefIdeal.nD Cert.ProjectRefIdeal.τ).loc Cert.ProjectRefIdeal.main_v50) = v2 c
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1)
          ∧ r.2.mem ((c.tc : Thread Cert.ProjectRefIdeal.nD Cert.ProjectRefIdeal.τ).loc Cert.ProjectRefIdeal.main_arg2) = m' ((c.tc : Thread Cert.ProjectRefIdeal.nD Cert.ProjectRefIdeal.τ).loc Cert.ProjectRefIdeal.main_arg2)
          ∧ r.2.mem ((c.tc : Thread Cert.ProjectRefIdeal.nD Cert.ProjectRefIdeal.τ).loc Cert.ProjectRefIdeal.main_arg3) = m' ((c.tc : Thread Cert.ProjectRefIdeal.nD Cert.ProjectRefIdeal.τ).loc Cert.ProjectRefIdeal.main_arg3)
          ∧ r.2.mem ((c.tc : Thread Cert.ProjectRefIdeal.nD Cert.ProjectRefIdeal.τ).loc Cert.ProjectRefIdeal.main_arg4) = m' ((c.tc : Thread Cert.ProjectRefIdeal.nD Cert.ProjectRefIdeal.τ).loc Cert.ProjectRefIdeal.main_arg4))

def preserves_ProjectSample_ProjectSampleIdeal : Prop :=
  True

def algebraic_ProjectSampleIdeal_ProjectSampleRefIdeal [hProjectSampleIdeal : Cert.ProjectSampleIdeal.Facts] [hProjectSampleRefIdeal : Cert.ProjectSampleRefIdeal.Facts] : Prop :=
  ∀ (m : (ℓ : Loc Cert.ProjectSampleIdeal.nD Cert.ProjectSampleIdeal.τ Cert.ProjectSampleIdeal.sig) → Buf (Elt Ideal) ℓ) (g : Dev Cert.ProjectSampleIdeal.nD → PrngReg)
    (m' : (ℓ : Loc Cert.ProjectSampleRefIdeal.nD Cert.ProjectSampleRefIdeal.τ Cert.ProjectSampleRefIdeal.sig) → Buf (Elt Ideal) ℓ) (g' : Dev Cert.ProjectSampleRefIdeal.nD → PrngReg), Pre_ProjectSampleIdeal m →
    (∀ c : Dev Cert.ProjectSampleIdeal.nD,
      m' ((c.tc : Thread Cert.ProjectSampleRefIdeal.nD Cert.ProjectSampleRefIdeal.τ).loc Cert.ProjectSampleRefIdeal.main_arg0) = m ((c.tc : Thread Cert.ProjectSampleIdeal.nD Cert.ProjectSampleIdeal.τ).loc Cert.ProjectSampleIdeal.main_arg0)
      ∧ m' ((c.tc : Thread Cert.ProjectSampleRefIdeal.nD Cert.ProjectSampleRefIdeal.τ).loc Cert.ProjectSampleRefIdeal.main_arg1) = m ((c.tc : Thread Cert.ProjectSampleIdeal.nD Cert.ProjectSampleIdeal.τ).loc Cert.ProjectSampleIdeal.main_arg1)
      ∧ m' ((c.tc : Thread Cert.ProjectSampleRefIdeal.nD Cert.ProjectSampleRefIdeal.τ).loc Cert.ProjectSampleRefIdeal.main_arg2) = m ((c.tc : Thread Cert.ProjectSampleIdeal.nD Cert.ProjectSampleIdeal.τ).loc Cert.ProjectSampleIdeal.main_arg2)
      ∧ m' ((c.tc : Thread Cert.ProjectSampleRefIdeal.nD Cert.ProjectSampleRefIdeal.τ).loc Cert.ProjectSampleRefIdeal.main_arg3) = m ((c.tc : Thread Cert.ProjectSampleIdeal.nD Cert.ProjectSampleIdeal.τ).loc Cert.ProjectSampleIdeal.main_arg3)
      ∧ m' ((c.tc : Thread Cert.ProjectSampleRefIdeal.nD Cert.ProjectSampleRefIdeal.τ).loc Cert.ProjectSampleRefIdeal.main_arg4) = m ((c.tc : Thread Cert.ProjectSampleIdeal.nD Cert.ProjectSampleIdeal.τ).loc Cert.ProjectSampleIdeal.main_arg4)) →
    ∃ (v0 : (c : Dev Cert.ProjectSampleIdeal.nD) → Buf (Elt Ideal) ((c.tc : Thread Cert.ProjectSampleIdeal.nD Cert.ProjectSampleIdeal.τ).loc Cert.ProjectSampleIdeal.main_v19_0)) (v1 : (c : Dev Cert.ProjectSampleIdeal.nD) → Buf (Elt Ideal) ((c.tc : Thread Cert.ProjectSampleIdeal.nD Cert.ProjectSampleIdeal.τ).loc Cert.ProjectSampleIdeal.main_v19_1)) (v2 : (c : Dev Cert.ProjectSampleIdeal.nD) → Buf (Elt Ideal) ((c.tc : Thread Cert.ProjectSampleIdeal.nD Cert.ProjectSampleIdeal.τ).loc Cert.ProjectSampleIdeal.main_v19_2)),
      θ_run (Cert.ProjectSampleIdeal.defs (F := Ideal)) (onTc (τ := Cert.ProjectSampleIdeal.τ) (Cert.ProjectSampleIdeal.main (F := Ideal))) ⟨m, fun _ => 0, g⟩ (fun r => ∀ c : Dev Cert.ProjectSampleIdeal.nD,
          r.2.mem ((c.tc : Thread Cert.ProjectSampleIdeal.nD Cert.ProjectSampleIdeal.τ).loc Cert.ProjectSampleIdeal.main_v19_0) = v0 c
          ∧ r.2.mem ((c.tc : Thread Cert.ProjectSampleIdeal.nD Cert.ProjectSampleIdeal.τ).loc Cert.ProjectSampleIdeal.main_v19_1) = v1 c
          ∧ r.2.mem ((c.tc : Thread Cert.ProjectSampleIdeal.nD Cert.ProjectSampleIdeal.τ).loc Cert.ProjectSampleIdeal.main_v19_2) = v2 c
          ∧ r.2.mem ((c.tc : Thread Cert.ProjectSampleIdeal.nD Cert.ProjectSampleIdeal.τ).loc Cert.ProjectSampleIdeal.main_arg0) = m ((c.tc : Thread Cert.ProjectSampleIdeal.nD Cert.ProjectSampleIdeal.τ).loc Cert.ProjectSampleIdeal.main_arg0)
          ∧ r.2.mem ((c.tc : Thread Cert.ProjectSampleIdeal.nD Cert.ProjectSampleIdeal.τ).loc Cert.ProjectSampleIdeal.main_arg1) = m ((c.tc : Thread Cert.ProjectSampleIdeal.nD Cert.ProjectSampleIdeal.τ).loc Cert.ProjectSampleIdeal.main_arg1)
          ∧ r.2.mem ((c.tc : Thread Cert.ProjectSampleIdeal.nD Cert.ProjectSampleIdeal.τ).loc Cert.ProjectSampleIdeal.main_arg2) = m ((c.tc : Thread Cert.ProjectSampleIdeal.nD Cert.ProjectSampleIdeal.τ).loc Cert.ProjectSampleIdeal.main_arg2)
          ∧ r.2.mem ((c.tc : Thread Cert.ProjectSampleIdeal.nD Cert.ProjectSampleIdeal.τ).loc Cert.ProjectSampleIdeal.main_arg3) = m ((c.tc : Thread Cert.ProjectSampleIdeal.nD Cert.ProjectSampleIdeal.τ).loc Cert.ProjectSampleIdeal.main_arg3)
          ∧ r.2.mem ((c.tc : Thread Cert.ProjectSampleIdeal.nD Cert.ProjectSampleIdeal.τ).loc Cert.ProjectSampleIdeal.main_arg4) = m ((c.tc : Thread Cert.ProjectSampleIdeal.nD Cert.ProjectSampleIdeal.τ).loc Cert.ProjectSampleIdeal.main_arg4))
      ∧ θ_run (Cert.ProjectSampleRefIdeal.defs (F := Ideal)) (onTc (τ := Cert.ProjectSampleRefIdeal.τ) (Cert.ProjectSampleRefIdeal.main (F := Ideal))) ⟨m', fun _ => 0, g'⟩ (fun r => ∀ c : Dev Cert.ProjectSampleRefIdeal.nD,
          r.2.mem ((c.tc : Thread Cert.ProjectSampleRefIdeal.nD Cert.ProjectSampleRefIdeal.τ).loc Cert.ProjectSampleRefIdeal.main_v49) = v0 c
          ∧ r.2.mem ((c.tc : Thread Cert.ProjectSampleRefIdeal.nD Cert.ProjectSampleRefIdeal.τ).loc Cert.ProjectSampleRefIdeal.main_v51) = v1 c
          ∧ r.2.mem ((c.tc : Thread Cert.ProjectSampleRefIdeal.nD Cert.ProjectSampleRefIdeal.τ).loc Cert.ProjectSampleRefIdeal.main_v50) = v2 c
          ∧ r.2.mem ((c.tc : Thread Cert.ProjectSampleRefIdeal.nD Cert.ProjectSampleRefIdeal.τ).loc Cert.ProjectSampleRefIdeal.main_arg0) = m' ((c.tc : Thread Cert.ProjectSampleRefIdeal.nD Cert.ProjectSampleRefIdeal.τ).loc Cert.ProjectSampleRefIdeal.main_arg0)
          ∧ r.2.mem ((c.tc : Thread Cert.ProjectSampleRefIdeal.nD Cert.ProjectSampleRefIdeal.τ).loc Cert.ProjectSampleRefIdeal.main_arg1) = m' ((c.tc : Thread Cert.ProjectSampleRefIdeal.nD Cert.ProjectSampleRefIdeal.τ).loc Cert.ProjectSampleRefIdeal.main_arg1)
          ∧ r.2.mem ((c.tc : Thread Cert.ProjectSampleRefIdeal.nD Cert.ProjectSampleRefIdeal.τ).loc Cert.ProjectSampleRefIdeal.main_arg2) = m' ((c.tc : Thread Cert.ProjectSampleRefIdeal.nD Cert.ProjectSampleRefIdeal.τ).loc Cert.ProjectSampleRefIdeal.main_arg2)
          ∧ r.2.mem ((c.tc : Thread Cert.ProjectSampleRefIdeal.nD Cert.ProjectSampleRefIdeal.τ).loc Cert.ProjectSampleRefIdeal.main_arg3) = m' ((c.tc : Thread Cert.ProjectSampleRefIdeal.nD Cert.ProjectSampleRefIdeal.τ).loc Cert.ProjectSampleRefIdeal.main_arg3)
          ∧ r.2.mem ((c.tc : Thread Cert.ProjectSampleRefIdeal.nD Cert.ProjectSampleRefIdeal.τ).loc Cert.ProjectSampleRefIdeal.main_arg4) = m' ((c.tc : Thread Cert.ProjectSampleRefIdeal.nD Cert.ProjectSampleRefIdeal.τ).loc Cert.ProjectSampleRefIdeal.main_arg4))

def preserves_FfnSample_FfnSampleIdeal : Prop :=
  True

def algebraic_FfnSampleIdeal_FfnSampleRefIdeal_pre_ffn_sample_finite [hFfnSampleIdeal : Cert.FfnSampleIdeal.Facts] [hFfnSampleRefIdeal : Cert.FfnSampleRefIdeal.Facts] [hPre_ffn_sample_finite : Cert.Pre_ffn_sample_finite.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleRefIdeal.nD Cert.FfnSampleRefIdeal.τ Cert.FfnSampleRefIdeal.sig) → Buf (Elt Ideal) ℓ) (g' : Dev Cert.FfnSampleRefIdeal.nD → PrngReg), Pre_FfnSampleIdeal_ffn_sample_finite m →
    (∀ c : Dev Cert.FfnSampleIdeal.nD,
      m' ((c.tc : Thread Cert.FfnSampleRefIdeal.nD Cert.FfnSampleRefIdeal.τ).loc Cert.FfnSampleRefIdeal.main_arg0) = m ((c.tc : Thread Cert.FfnSampleIdeal.nD Cert.FfnSampleIdeal.τ).loc Cert.FfnSampleIdeal.main_arg0)
      ∧ m' ((c.tc : Thread Cert.FfnSampleRefIdeal.nD Cert.FfnSampleRefIdeal.τ).loc Cert.FfnSampleRefIdeal.main_arg1) = m ((c.tc : Thread Cert.FfnSampleIdeal.nD Cert.FfnSampleIdeal.τ).loc Cert.FfnSampleIdeal.main_arg1)
      ∧ m' ((c.tc : Thread Cert.FfnSampleRefIdeal.nD Cert.FfnSampleRefIdeal.τ).loc Cert.FfnSampleRefIdeal.main_arg2) = m ((c.tc : Thread Cert.FfnSampleIdeal.nD Cert.FfnSampleIdeal.τ).loc Cert.FfnSampleIdeal.main_arg2)
      ∧ m' ((c.tc : Thread Cert.FfnSampleRefIdeal.nD Cert.FfnSampleRefIdeal.τ).loc Cert.FfnSampleRefIdeal.main_arg3) = m ((c.tc : Thread Cert.FfnSampleIdeal.nD Cert.FfnSampleIdeal.τ).loc Cert.FfnSampleIdeal.main_arg3)) →
    ∃ (v0 : (c : Dev Cert.FfnSampleIdeal.nD) → Buf (Elt Ideal) ((c.tc : Thread Cert.FfnSampleIdeal.nD Cert.FfnSampleIdeal.τ).loc Cert.FfnSampleIdeal.main_v3)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v3) = v0 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3))
      ∧ θ_run (Cert.FfnSampleRefIdeal.defs (F := Ideal)) (onTc (τ := Cert.FfnSampleRefIdeal.τ) (Cert.FfnSampleRefIdeal.main (F := Ideal))) ⟨m', fun _ => 0, g'⟩ (fun r => ∀ c : Dev Cert.FfnSampleRefIdeal.nD,
          r.2.mem ((c.tc : Thread Cert.FfnSampleRefIdeal.nD Cert.FfnSampleRefIdeal.τ).loc Cert.FfnSampleRefIdeal.main_v19) = v0 c
          ∧ r.2.mem ((c.tc : Thread Cert.FfnSampleRefIdeal.nD Cert.FfnSampleRefIdeal.τ).loc Cert.FfnSampleRefIdeal.main_arg0) = m' ((c.tc : Thread Cert.FfnSampleRefIdeal.nD Cert.FfnSampleRefIdeal.τ).loc Cert.FfnSampleRefIdeal.main_arg0)
          ∧ r.2.mem ((c.tc : Thread Cert.FfnSampleRefIdeal.nD Cert.FfnSampleRefIdeal.τ).loc Cert.FfnSampleRefIdeal.main_arg1) = m' ((c.tc : Thread Cert.FfnSampleRefIdeal.nD Cert.FfnSampleRefIdeal.τ).loc Cert.FfnSampleRefIdeal.main_arg1)
          ∧ r.2.mem ((c.tc : Thread Cert.FfnSampleRefIdeal.nD Cert.FfnSampleRefIdeal.τ).loc Cert.FfnSampleRefIdeal.main_arg2) = m' ((c.tc : Thread Cert.FfnSampleRefIdeal.nD Cert.FfnSampleRefIdeal.τ).loc Cert.FfnSampleRefIdeal.main_arg2)
          ∧ r.2.mem ((c.tc : Thread Cert.FfnSampleRefIdeal.nD Cert.FfnSampleRefIdeal.τ).loc Cert.FfnSampleRefIdeal.main_arg3) = m' ((c.tc : Thread Cert.FfnSampleRefIdeal.nD Cert.FfnSampleRefIdeal.τ).loc Cert.FfnSampleRefIdeal.main_arg3))

def preserves_Conv_ConvIdeal : Prop :=
  True

def algebraic_ConvIdeal_ConvRefIdeal_pre_conv_finite [hConvIdeal : Cert.ConvIdeal.Facts] [hConvRefIdeal : Cert.ConvRefIdeal.Facts] [hPre_conv_finite : Cert.Pre_conv_finite.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal_conv_finite m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)
      ∧ m' ((c.tc : Thread Cert.ConvRefIdeal.nD Cert.ConvRefIdeal.τ).loc Cert.ConvRefIdeal.main_arg6) = m ((c.tc : Thread Cert.ConvIdeal.nD Cert.ConvIdeal.τ).loc Cert.ConvIdeal.main_arg6)) →
    ∃ (v0 : (c : Dev Cert.ConvIdeal.nD) → Buf (Elt Ideal) ((c.tc : Thread Cert.ConvIdeal.nD Cert.ConvIdeal.τ).loc Cert.ConvIdeal.main_v12_0)) (v1 : (c : Dev Cert.ConvIdeal.nD) → Buf (Elt Ideal) ((c.tc : Thread Cert.ConvIdeal.nD Cert.ConvIdeal.τ).loc Cert.ConvIdeal.main_v12_1)) (v2 : (c : Dev Cert.ConvIdeal.nD) → Buf (Elt Ideal) ((c.tc : Thread Cert.ConvIdeal.nD Cert.ConvIdeal.τ).loc Cert.ConvIdeal.main_v12_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v12_0) = v0 c
          ∧ r.2.mem ((c.tc : Thread Cert.ConvIdeal.nD Cert.ConvIdeal.τ).loc Cert.ConvIdeal.main_v12_1) = v1 c
          ∧ r.2.mem ((c.tc : Thread Cert.ConvIdeal.nD Cert.ConvIdeal.τ).loc Cert.ConvIdeal.main_v12_2) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v91) = v0 c
          ∧ r.2.mem ((c.tc : Thread Cert.ConvRefIdeal.nD Cert.ConvRefIdeal.τ).loc Cert.ConvRefIdeal.main_v95) = v1 c
          ∧ r.2.mem ((c.tc : Thread Cert.ConvRefIdeal.nD Cert.ConvRefIdeal.τ).loc Cert.ConvRefIdeal.main_v97) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5)
          ∧ r.2.mem ((c.tc : Thread Cert.ConvRefIdeal.nD Cert.ConvRefIdeal.τ).loc Cert.ConvRefIdeal.main_arg6) = m' ((c.tc : Thread Cert.ConvRefIdeal.nD Cert.ConvRefIdeal.τ).loc Cert.ConvRefIdeal.main_arg6))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hProject : Cert.Project.Facts) (hProjectIdeal : Cert.ProjectIdeal.Facts) (hProjectRefIdeal : Cert.ProjectRefIdeal.Facts) (hProjectSample : Cert.ProjectSample.Facts) (hProjectSampleIdeal : Cert.ProjectSampleIdeal.Facts) (hProjectSampleRefIdeal : Cert.ProjectSampleRefIdeal.Facts) (hFfnSample : Cert.FfnSample.Facts) (hFfnSampleIdeal : Cert.FfnSampleIdeal.Facts) (hFfnSampleRefIdeal : Cert.FfnSampleRefIdeal.Facts) (hConv : Cert.Conv.Facts) (hConvIdeal : Cert.ConvIdeal.Facts) (hConvRefIdeal : Cert.ConvRefIdeal.Facts) (hPre_finite_inputs : Cert.Pre_finite_inputs.Facts) (hPre_ffn_finite : Cert.Pre_ffn_finite.Facts) (hPre_merge_finite : Cert.Pre_merge_finite.Facts) (hPre_ffn_sample_finite : Cert.Pre_ffn_sample_finite.Facts) (hPre_conv_finite : Cert.Pre_conv_finite.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Merge (hMerge := hMerge)
    ∧ quiescent_MergeIdeal (hMergeIdeal := hMergeIdeal)
    ∧ quiescent_MergeIdeal_pre_merge_finite (hMergeIdeal := hMergeIdeal) (hPre_merge_finite := hPre_merge_finite)
    ∧ quiescent_MergeRefIdeal (hMergeRefIdeal := hMergeRefIdeal)
    ∧ quiescent_MergeRefIdeal_pre_merge_finite (hMergeRefIdeal := hMergeRefIdeal) (hPre_merge_finite := hPre_merge_finite)
    ∧ quiescent_Project (hProject := hProject)
    ∧ quiescent_ProjectIdeal (hProjectIdeal := hProjectIdeal)
    ∧ quiescent_ProjectRefIdeal (hProjectRefIdeal := hProjectRefIdeal)
    ∧ quiescent_ProjectSample (hProjectSample := hProjectSample)
    ∧ quiescent_ProjectSampleIdeal (hProjectSampleIdeal := hProjectSampleIdeal)
    ∧ quiescent_ProjectSampleRefIdeal (hProjectSampleRefIdeal := hProjectSampleRefIdeal)
    ∧ quiescent_FfnSample (hFfnSample := hFfnSample)
    ∧ quiescent_FfnSampleIdeal (hFfnSampleIdeal := hFfnSampleIdeal)
    ∧ quiescent_FfnSampleIdeal_pre_ffn_sample_finite (hFfnSampleIdeal := hFfnSampleIdeal) (hPre_ffn_sample_finite := hPre_ffn_sample_finite)
    ∧ quiescent_FfnSampleRefIdeal (hFfnSampleRefIdeal := hFfnSampleRefIdeal)
    ∧ quiescent_FfnSampleRefIdeal_pre_ffn_sample_finite (hFfnSampleRefIdeal := hFfnSampleRefIdeal) (hPre_ffn_sample_finite := hPre_ffn_sample_finite)
    ∧ quiescent_Conv (hConv := hConv)
    ∧ quiescent_ConvIdeal (hConvIdeal := hConvIdeal)
    ∧ quiescent_ConvIdeal_pre_conv_finite (hConvIdeal := hConvIdeal) (hPre_conv_finite := hPre_conv_finite)
    ∧ quiescent_ConvRefIdeal (hConvRefIdeal := hConvRefIdeal)
    ∧ quiescent_ConvRefIdeal_pre_conv_finite (hConvRefIdeal := hConvRefIdeal) (hPre_conv_finite := hPre_conv_finite)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Merge_MergeIdeal
    ∧ algebraic_MergeIdeal_MergeRefIdeal_pre_merge_finite (hMergeIdeal := hMergeIdeal) (hMergeRefIdeal := hMergeRefIdeal) (hPre_merge_finite := hPre_merge_finite)
    ∧ preserves_Project_ProjectIdeal
    ∧ algebraic_ProjectIdeal_ProjectRefIdeal (hProjectIdeal := hProjectIdeal) (hProjectRefIdeal := hProjectRefIdeal)
    ∧ preserves_ProjectSample_ProjectSampleIdeal
    ∧ algebraic_ProjectSampleIdeal_ProjectSampleRefIdeal (hProjectSampleIdeal := hProjectSampleIdeal) (hProjectSampleRefIdeal := hProjectSampleRefIdeal)
    ∧ preserves_FfnSample_FfnSampleIdeal
    ∧ algebraic_FfnSampleIdeal_FfnSampleRefIdeal_pre_ffn_sample_finite (hFfnSampleIdeal := hFfnSampleIdeal) (hFfnSampleRefIdeal := hFfnSampleRefIdeal) (hPre_ffn_sample_finite := hPre_ffn_sample_finite)
    ∧ preserves_Conv_ConvIdeal
    ∧ algebraic_ConvIdeal_ConvRefIdeal_pre_conv_finite (hConvIdeal := hConvIdeal) (hConvRefIdeal := hConvRefIdeal) (hPre_conv_finite := hPre_conv_finite)
-- ==== Pre_conv_finite.lean ====
abbrev S16x2048x1024 : Shape := ⟨3, ![16, 2048, 1024]⟩
abbrev S16x3x3072 : Shape := ⟨3, ![16, 3, 3072]⟩
abbrev S1024 : Shape := ⟨1, ![1024]⟩
abbrev S1024x9232 : Shape := ⟨2, ![1024, 9232]⟩
abbrev S4x3072 : Shape := ⟨2, ![4, 3072]⟩
abbrev S8 : Shape := ⟨1, ![8]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S16x3x3072 : S_.BroadcastsInDim S16x3x3072 (![] : Fin 0 → Fin S16x3x3072.rank)
  reducesTo_S16x3x3072_S_d0_1_2 : S16x3x3072.ReducesTo [0, 1, 2] S_
  bcast_S_S1024 : S_.BroadcastsInDim S1024 (![] : Fin 0 → Fin S1024.rank)
  reducesTo_S1024_S_d0 : S1024.ReducesTo [0] S_
  bcast_S_S1024x9232 : S_.BroadcastsInDim S1024x9232 (![] : Fin 0 → Fin S1024x9232.rank)
  reducesTo_S1024x9232_S_d0_1 : S1024x9232.ReducesTo [0, 1] S_
  bcast_S_S4x3072 : S_.BroadcastsInDim S4x3072 (![] : Fin 0 → Fin S4x3072.rank)
  reducesTo_S4x3072_S_d0_1 : S4x3072.ReducesTo [0, 1] S_

variable [Facts]

def fn_part1 {F : FTy → Type} [FloatOps F] (main_arg4 : FVec F S4x3072 .f32) (main_v13 : IVec S_ 1) (main_v16 : IVec S1024x9232 1) : IVec S_ 1 :=
  let main_c_5 : IVec S_ 1 := constantI S_ 1 1#1
  let main_v17 : IVec S_ 1 := (fun x v => Host.reduce IntOp.andi x v reducesTo_S1024x9232_S_d0_1 h_S_) main_v16 main_c_5
  let main_v18 : IVec S_ 1 := andi main_v13 main_v17
  let main_v19 : FVec F S4x3072 .f32 := Host.absf main_arg4
  let main_cst_6 : FVec F S_ .f32 := constant S_ .f32 0x7F800000#32
  let main_v20 : FVec F S4x3072 .f32 := broadcastInDim S4x3072 ![] bcast_S_S4x3072 main_cst_6
  let main_v21 : IVec S4x3072 1 := cmpf .olt main_v19 main_v20
  let main_c_7 : IVec S_ 1 := constantI S_ 1 1#1
  let main_v22 : IVec S_ 1 := (fun x v => Host.reduce IntOp.andi x v reducesTo_S4x3072_S_d0_1 h_S_) main_v21 main_c_7
  let main_v23 : IVec S_ 1 := andi main_v18 main_v22
  main_v23

def fn {F : FTy → Type} [FloatOps F] (main_arg0 : FVec F S16x2048x1024 .f32) (main_arg1 : FVec F S16x3x3072 .f32) (main_arg2 : FVec F S1024 .f32) (main_arg3 : FVec F S1024x9232 .f32) (main_arg4 : FVec F S4x3072 .f32) (main_arg5 : FVec F S8 .f32) (main_arg6 : FVec F S8 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S16x3x3072 .f32 := Host.absf main_arg1
  let main_cst_0 : FVec F S_ .f32 := constant S_ .f32 0x7F800000#32
  let main_v5 : FVec F S16x3x3072 .f32 := broadcastInDim S16x3x3072 ![] bcast_S_S16x3x3072 main_cst_0
  let main_v6 : IVec S16x3x3072 1 := cmpf .olt main_v4 main_v5
  let main_c_1 : IVec S_ 1 := constantI S_ 1 1#1
  let main_v7 : IVec S_ 1 := (fun x v => Host.reduce IntOp.andi x v reducesTo_S16x3x3072_S_d0_1_2 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x9232 .f32 := Host.absf main_arg3
  let main_cst_4 : FVec F S_ .f32 := constant S_ .f32 0x7F800000#32
  let main_v15 : FVec F S1024x9232 .f32 := broadcastInDim S1024x9232 ![] bcast_S_S1024x9232 main_cst_4
  let main_v16 : IVec S1024x9232 1 := cmpf .olt main_v14 main_v15
  fn_part1 (F := F) main_arg4 main_v13 main_v16
-- ==== Pre_ffn_finite.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_

variable [Facts]

def fn {F : FTy → Type} [FloatOps F] (main_arg0 : FVec F S32768x1024 .f32) (main_arg1 : FVec F S1024 .f32) (main_arg2 : FVec F S1024x5632 .f32) (main_arg3 : FVec F S2816x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  main_v13
-- ==== Pre_ffn_sample_finite.lean ====
abbrev S512x1024 : Shape := ⟨2, ![512, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_

variable [Facts]

def fn {F : FTy → Type} [FloatOps F] (main_arg0 : FVec F S512x1024 .f32) (main_arg1 : FVec F S1024 .f32) (main_arg2 : FVec F S1024x5632 .f32) (main_arg3 : FVec F S2816x1024 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  main_v13
-- ==== Pre_finite_inputs.lean ====
abbrev S16x32x1024 : Shape := ⟨3, ![16, 32, 1024]⟩
abbrev S16x4096x8x2x64 : Shape := ⟨5, ![16, 4096, 8, 2, 64]⟩
abbrev S16x4096x8x128 : Shape := ⟨4, ![16, 4096, 8, 128]⟩
abbrev S64 : Shape := ⟨1, ![64]⟩
abbrev S128 : Shape := ⟨1, ![128]⟩
abbrev S_ : Shape := ⟨0, ![]⟩

class Facts : Prop where
  bitsLt_bf16_f32 : FTy.bits .bf16 < FTy.bits .f32
  bcast_S_S16x32x1024 : S_.BroadcastsInDim S16x32x1024 (![] : Fin 0 → Fin S16x32x1024.rank)
  reducesTo_S16x32x1024_S_d0_1_2 : S16x32x1024.ReducesTo [0, 1, 2] S_
  h_S_ : 0 < S_.numel
  bcast_S_S16x4096x8x2x64 : S_.BroadcastsInDim S16x4096x8x2x64 (![] : Fin 0 → Fin S16x4096x8x2x64.rank)
  reducesTo_S16x4096x8x2x64_S_d0_1_2_3_4 : S16x4096x8x2x64.ReducesTo [0, 1, 2, 3, 4] S_
  bcast_S_S16x4096x8x128 : S_.BroadcastsInDim S16x4096x8x128 (![] : Fin 0 → Fin S16x4096x8x128.rank)
  reducesTo_S16x4096x8x128_S_d0_1_2_3 : S16x4096x8x128.ReducesTo [0, 1, 2, 3] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_arg8 : FVec F S64 .f32) (main_v29 : IVec S_ 1) (main_v33 : IVec S_ 1) : IVec S_ 1 :=
  let main_v34 : IVec S_ 1 := andi main_v29 main_v33
  let main_v35 : FVec F S64 .f32 := Host.absf main_arg7
  let main_cst_12 : FVec F S_ .f32 := constant S_ .f32 0x7F800000#32
  let main_v36 : FVec F S64 .f32 := broadcastInDim S64 ![] bcast_S_S64 main_cst_12
  let main_v37 : IVec S64 1 := cmpf .olt main_v35 main_v36
  let main_c_13 : IVec S_ 1 := constantI S_ 1 1#1
  let main_v38 : IVec S_ 1 := (fun x v => Host.reduce IntOp.andi x v reducesTo_S64_S_d0 h_S_) main_v37 main_c_13
  let main_v39 : IVec S_ 1 := andi main_v34 main_v38
  let main_v40 : FVec F S64 .f32 := Host.absf main_arg8
  let main_cst_14 : FVec F S_ .f32 := constant S_ .f32 0x7F800000#32
  let main_v41 : FVec F S64 .f32 := broadcastInDim S64 ![] bcast_S_S64 main_cst_14
  let main_v42 : IVec S64 1 := cmpf .olt main_v40 main_v41
  let main_c_15 : IVec S_ 1 := constantI S_ 1 1#1
  let main_v43 : IVec S_ 1 := (fun x v => Host.reduce IntOp.andi x v reducesTo_S64_S_d0 h_S_) main_v42 main_c_15
  let main_v44 : IVec S_ 1 := andi main_v39 main_v43
  main_v44

def fn_part1 {F : FTy → Type} [FloatOps F] (main_arg4 : FVec F S16x32x1024 .f32) (main_arg5 : FVec F S64 .f32) (main_arg6 : FVec F S64 .f32) (main_arg7 : FVec F S64 .f32) (main_arg8 : FVec F S64 .f32) (main_v14 : IVec S_ 1) (main_v15 : FVec F S16x32x1024 .f32) (main_v16 : FVec F S16x32x1024 .f32) : IVec S_ 1 :=
  let main_v17 : IVec S16x32x1024 1 := cmpf .olt main_v15 main_v16
  let main_c_5 : IVec S_ 1 := constantI S_ 1 1#1
  let main_v18 : IVec S_ 1 := (fun x v => Host.reduce IntOp.andi x v reducesTo_S16x32x1024_S_d0_1_2 h_S_) main_v17 main_c_5
  let main_v19 : IVec S_ 1 := andi main_v14 main_v18
  let main_v20 : FVec F S16x32x1024 .f32 := Host.absf main_arg4
  let main_cst_6 : FVec F S_ .f32 := constant S_ .f32 0x7F800000#32
  let main_v21 : FVec F S16x32x1024 .f32 := broadcastInDim S16x32x1024 ![] bcast_S_S16x32x1024 main_cst_6
  let main_v22 : IVec S16x32x1024 1 := cmpf .olt main_v20 main_v21
  let main_c_7 : IVec S_ 1 := constantI S_ 1 1#1
  let main_v23 : IVec S_ 1 := (fun x v => Host.reduce IntOp.andi x v reducesTo_S16x32x1024_S_d0_1_2 h_S_) main_v22 main_c_7
  let main_v24 : IVec S_ 1 := andi main_v19 main_v23
  let main_v25 : FVec F S64 .f32 := Host.absf main_arg5
  let main_cst_8 : FVec F S_ .f32 := constant S_ .f32 0x7F800000#32
  let main_v26 : FVec F S64 .f32 := broadcastInDim S64 ![] bcast_S_S64 main_cst_8
  let main_v27 : IVec S64 1 := cmpf .olt main_v25 main_v26
  let main_c_9 : IVec S_ 1 := constantI S_ 1 1#1
  let main_v28 : IVec S_ 1 := (fun x v => Host.reduce IntOp.andi x v reducesTo_S64_S_d0 h_S_) main_v27 main_c_9
  let main_v29 : IVec S_ 1 := andi main_v24 main_v28
  let main_v30 : FVec F S64 .f32 := Host.absf main_arg6
  let main_cst_10 : FVec F S_ .f32 := constant S_ .f32 0x7F800000#32
  let main_v31 : FVec F S64 .f32 := broadcastInDim S64 ![] bcast_S_S64 main_cst_10
  let main_v32 : IVec S64 1 := cmpf .olt main_v30 main_v31
  let main_c_11 : IVec S_ 1 := constantI S_ 1 1#1
  let main_v33 : IVec S_ 1 := (fun x v => Host.reduce IntOp.andi x v reducesTo_S64_S_d0 h_S_) main_v32 main_c_11
  fn_part2 (F := F) main_arg7 main_arg8 main_v29 main_v33

def fn {F : FTy → Type} [FloatOps F] (main_arg0 : FVec F S16x32x1024 .bf16) (main_arg1 : FVec F S16x4096x8x2x64 .f32) (main_arg2 : FVec F S16x4096x8x128 .f32) (main_arg3 : FVec F S16x32x1024 .f32) (main_arg4 : FVec F S16x32x1024 .f32) (main_arg5 : FVec F S64 .f32) (main_arg6 : FVec F S64 .f32) (main_arg7 : FVec F S64 .f32) (main_arg8 : FVec F S64 .f32) (main_arg9 : FVec F S128 .f32) : IVec S_ 1 :=
  let main_v0 : FVec F S16x32x1024 .f32 := (extf .f32 · bitsLt_bf16_f32) main_arg0
  let main_v1 : FVec F S16x32x1024 .f32 := Host.absf main_v0
  let main_cst : FVec F S_ .f32 := constant S_ .f32 0x7F800000#32
  let main_v2 : FVec F S16x32x1024 .f32 := broadcastInDim S16x32x1024 ![] bcast_S_S16x32x1024 main_cst
  let main_v3 : IVec S16x32x1024 1 := cmpf .olt main_v1 main_v2
  let main_c : IVec S_ 1 := constantI S_ 1 1#1
  let main_v4 : IVec S_ 1 := (fun x v => Host.reduce IntOp.andi x v reducesTo_S16x32x1024_S_d0_1_2 h_S_) main_v3 main_c
  let main_v5 : FVec F S16x4096x8x2x64 .f32 := Host.absf main_arg1
  let main_cst_0 : FVec F S_ .f32 := constant S_ .f32 0x7F800000#32
  let main_v6 : FVec F S16x4096x8x2x64 .f32 := broadcastInDim S16x4096x8x2x64 ![] bcast_S_S16x4096x8x2x64 main_cst_0
  let main_v7 : IVec S16x4096x8x2x64 1 := cmpf .olt main_v5 main_v6
  let main_c_1 : IVec S_ 1 := constantI S_ 1 1#1
  let main_v8 : IVec S_ 1 := (fun x v => Host.reduce IntOp.andi x v reducesTo_S16x4096x8x2x64_S_d0_1_2_3_4 h_S_) main_v7 main_c_1
  let main_v9 : IVec S_ 1 := andi main_v4 main_v8
  let main_v10 : FVec F S16x4096x8x128 .f32 := Host.absf main_arg2
  let main_cst_2 : FVec F S_ .f32 := constant S_ .f32 0x7F800000#32
  let main_v11 : FVec F S16x4096x8x128 .f32 := broadcastInDim S16x4096x8x128 ![] bcast_S_S16x4096x8x128 main_cst_2
  let main_v12 : IVec S16x4096x8x128 1 := cmpf .olt main_v10 main_v11
  let main_c_3 : IVec S_ 1 := constantI S_ 1 1#1
  let main_v13 : IVec S_ 1 := (fun x v => Host.reduce IntOp.andi x v reducesTo_S16x4096x8x128_S_d0_1_2_3 h_S_) main_v12 main_c_3
  let main_v14 : IVec S_ 1 := andi main_v9 main_v13
  let main_v15 : FVec F S16x32x1024 .f32 := Host.absf main_arg3
  let main_cst_4 : FVec F S_ .f32 := constant S_ .f32 0x7F800000#32
  let main_v16 : FVec F S16x32x1024 .f32 := broadcastInDim S16x32x1024 ![] bcast_S_S16x32x1024 main_cst_4
  fn_part1 (F := F) main_arg4 main_arg5 main_arg6 main_arg7 main_arg8 main_v14 main_v15 main_v16
-- ==== Pre_merge_finite.lean ====
abbrev S32768x1024 : Shape := ⟨2, ![32768, 1024]⟩
abbrev S1024 : Shape := ⟨1, ![1024]⟩
abbrev S1024x9232 : Shape := ⟨2, ![1024, 9232]⟩
abbrev S1024x1024 : Shape := ⟨2, ![1024, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x9232 : S_.BroadcastsInDim S1024x9232 (![] : Fin 0 → Fin S1024x9232.rank)
  reducesTo_S1024x9232_S_d0_1 : S1024x9232.ReducesTo [0, 1] S_

variable [Facts]

def fn {F : FTy → Type} [FloatOps F] (main_arg0 : FVec F S32768x1024 .f32) (main_arg1 : FVec F S32768x1024 .bf16) (main_arg2 : FVec F S32768x1024 .bf16) (main_arg3 : FVec F S1024 .f32) (main_arg4 : FVec F S1024x9232 .f32) (main_arg5 : FVec F S1024x1024 .f32) (main_arg6 : FVec F S1024x1024 .f32) (main_arg7 : FVec F S1024x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024 .f32 := Host.absf main_arg3
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x9232 .f32 := Host.absf main_arg4
  let main_cst_2 : FVec F S_ .f32 := constant S_ .f32 0x7F800000#32
  let main_v10 : FVec F S1024x9232 .f32 := broadcastInDim S1024x9232 ![] bcast_S_S1024x9232 main_cst_2
  let main_v11 : IVec S1024x9232 1 := cmpf .olt main_v9 main_v10
  let main_c_3 : IVec S_ 1 := constantI S_ 1 1#1
  let main_v12 : IVec S_ 1 := (fun x v => Host.reduce IntOp.andi x v reducesTo_S1024x9232_S_d0_1 h_S_) main_v11 main_c_3
  let main_v13 : IVec S_ 1 := andi main_v8 main_v12
  main_v13
-- ==== Kernel.lean ====
abbrev S16x32x1024 : Shape := ⟨3, ![16, 32, 1024]⟩
abbrev S16x4096x8x2x64 : Shape := ⟨5, ![16, 4096, 8, 2, 64]⟩
abbrev S16x4096x8x128 : Shape := ⟨4, ![16, 4096, 8, 128]⟩
abbrev S64 : Shape := ⟨1, ![64]⟩
abbrev S128 : Shape := ⟨1, ![128]⟩
abbrev S16x8x2x64x4096 : Shape := ⟨5, ![16, 8, 2, 64, 4096]⟩
abbrev S16x8x128x4096 : Shape := ⟨4, ![16, 8, 128, 4096]⟩
abbrev S1x64 : Shape := ⟨2, ![1, 64]⟩
abbrev S16x32768x128 : Shape := ⟨3, ![16, 32768, 128]⟩
abbrev S1x128 : Shape := ⟨2, ![1, 128]⟩
abbrev S1x32x512 : Shape := ⟨3, ![1, 32, 512]⟩
abbrev S1x4x128x4096 : Shape := ⟨4, ![1, 4, 128, 4096]⟩
abbrev S1x32768x128 : Shape := ⟨3, ![1, 32768, 128]⟩
abbrev S1 : Shape := ⟨1, ![1]⟩
abbrev S1x1 : Shape := ⟨2, ![1, 1]⟩
abbrev S1x32x128 : Shape := ⟨3, ![1, 32, 128]⟩
abbrev S32x128 : Shape := ⟨2, ![32, 128]⟩
abbrev S64x128 : Shape := ⟨2, ![64, 128]⟩
abbrev S1x4096x128 : Shape := ⟨3, ![1, 4096, 128]⟩
abbrev S4096x128 : Shape := ⟨2, ![4096, 128]⟩
abbrev S1x1x128x4096 : Shape := ⟨4, ![1, 1, 128, 4096]⟩
abbrev S128x4096 : Shape := ⟨2, ![128, 4096]⟩
abbrev S64x4096 : Shape := ⟨2, ![64, 4096]⟩
abbrev S64x32 : Shape := ⟨2, ![64, 32]⟩
abbrev S64x1 : Shape := ⟨2, ![64, 1]⟩
abbrev S32 : Shape := ⟨1, ![32]⟩
abbrev S32x1 : Shape := ⟨2, ![32, 1]⟩

abbrev nBuf : Space → Nat
  | .hbm => 19
  | .vmem => 17
  | .smem => 0
  | _ => 0

abbrev bufTy : (tb : Table) → Fin (tcTables nBuf tb) → BufTy
  | .hbm, ⟨0, _⟩ => ⟨S16x32x1024, .bf16⟩
  | .hbm, ⟨1, _⟩ => ⟨S16x4096x8x2x64, .f32⟩
  | .hbm, ⟨2, _⟩ => ⟨S16x4096x8x128, .f32⟩
  | .hbm, ⟨3, _⟩ => ⟨S16x32x1024, .f32⟩
  | .hbm, ⟨4, _⟩ => ⟨S16x32x1024, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S16x8x2x64x4096, .f32⟩
  | .hbm, ⟨11, _⟩ => ⟨S16x8x128x4096, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S16x32768x128, .f32⟩
  | .hbm, ⟨17, _⟩ => ⟨S1x128, .f32⟩
  | .hbm, ⟨18, _⟩ => ⟨S16x32x1024, .bf16⟩
  | .local _ .vmem, ⟨0, _⟩ => ⟨S1x32x512, .bf16⟩
  | .local _ .vmem, ⟨1, _⟩ => ⟨S1x32x512, .bf16⟩
  | .local _ .vmem, ⟨2, _⟩ => ⟨S1x4x128x4096, .f32⟩
  | .local _ .vmem, ⟨3, _⟩ => ⟨S1x4x128x4096, .f32⟩
  | .local _ .vmem, ⟨4, _⟩ => ⟨S1x32768x128, .f32⟩
  | .local _ .vmem, ⟨5, _⟩ => ⟨S1x32768x128, .f32⟩
  | .local _ .vmem, ⟨6, _⟩ => ⟨S1x32x512, .f32⟩
  | .local _ .vmem, ⟨7, _⟩ => ⟨S1x32x512, .f32⟩
  | .local _ .vmem, ⟨8, _⟩ => ⟨S1x32x512, .f32⟩
  | .local _ .vmem, ⟨9, _⟩ => ⟨S1x32x512, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x128, .f32⟩
  | .local _ .vmem, ⟨15, _⟩ => ⟨S1x32x512, .bf16⟩
  | .local _ .vmem, ⟨16, _⟩ => ⟨S1x32x512, .bf16⟩
  | _, _ => ⟨S16x32x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![16, 2], ![false, false]⟩

def k0_off1 (i : grid0.Coords) (c0_i32 : BitVec 32) : Fin 3 → Nat :=
  let c0_14 : Index := 0#32
  let arg1 : BitVec 32 := BitVec.ofNat 32 (i 1).val
  let c4_i32 : BitVec 32 := 4#32
  let v19 : BitVec 32 := Scalar.muli arg1 c4_i32
  let v20 : BitVec 32 := Scalar.addi v19 c0_i32
  let v32 : Index := Scalar.indexCast v20
  let c0_15 : Index := 0#32
  ![0, v32.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x32x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32768x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x32x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S16x32x1024 : Shape := ⟨3, ![16, 32, 1024]⟩
abbrev S16x4096x8x2x64 : Shape := ⟨5, ![16, 4096, 8, 2, 64]⟩
abbrev S16x4096x8x128 : Shape := ⟨4, ![16, 4096, 8, 128]⟩
abbrev S64 : Shape := ⟨1, ![64]⟩
abbrev S128 : Shape := ⟨1, ![128]⟩
abbrev S16x32x8x2x64 : Shape := ⟨5, ![16, 32, 8, 2, 64]⟩
abbrev S16x32x8x128 : Shape := ⟨4, ![16, 32, 8, 128]⟩
abbrev S_ : Shape := ⟨0, ![]⟩
abbrev S16x4128x8x2x64 : Shape := ⟨5, ![16, 4128, 8, 2, 64]⟩
abbrev S16x4128x8x128 : Shape := ⟨4, ![16, 4128, 8, 128]⟩
abbrev S16x8x2x32x4128 : Shape := ⟨5, ![16, 8, 2, 32, 4128]⟩
abbrev S16x8x2x32 : Shape := ⟨4, ![16, 8, 2, 32]⟩
abbrev S16x8x2x32x1 : Shape := ⟨5, ![16, 8, 2, 32, 1]⟩
abbrev S16x8x1x32x4128 : Shape := ⟨5, ![16, 8, 1, 32, 4128]⟩
abbrev S16x8x32x4128 : Shape := ⟨4, ![16, 8, 32, 4128]⟩
abbrev S16x8x128x32 : Shape := ⟨4, ![16, 8, 128, 32]⟩
abbrev S16x32x8 : Shape := ⟨3, ![16, 32, 8]⟩
abbrev S16x32x8x1 : Shape := ⟨4, ![16, 32, 8, 1]⟩
abbrev S1x1x1x128 : Shape := ⟨4, ![1, 1, 1, 128]⟩

abbrev nBuf : Space → Nat
  | .hbm => 76
  | .vmem => 0
  | .smem => 0
  | _ => 0

abbrev bufTy : (tb : Table) → Fin (tcTables nBuf tb) → BufTy
  | .hbm, ⟨0, _⟩ => ⟨S16x32x1024, .bf16⟩
  | .hbm, ⟨1, _⟩ => ⟨S16x4096x8x2x64, .f32⟩
  | .hbm, ⟨2, _⟩ => ⟨S16x4096x8x128, .f32⟩
  | .hbm, ⟨3, _⟩ => ⟨S16x32x1024, .f32⟩
  | .hbm, ⟨4, _⟩ => ⟨S16x32x1024, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S16x32x1024, .f32⟩
  | .hbm, ⟨11, _⟩ => ⟨S16x32x8x2x64, .f32⟩
  | .hbm, ⟨12, _⟩ => ⟨S16x32x8x2x64, .f32⟩
  | .hbm, ⟨13, _⟩ => ⟨S16x32x8x128, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S16x4128x8x2x64, .f32⟩
  | .hbm, ⟨26, _⟩ => ⟨S16x4128x8x128, .f32⟩
  | .hbm, ⟨27, _⟩ => ⟨S16x8x2x32x4128, .f32⟩
  | .hbm, ⟨28, _⟩ => ⟨S_, .f32⟩
  | .hbm, ⟨29, _⟩ => ⟨S_, .f32⟩
  | .hbm, ⟨30, _⟩ => ⟨S16x8x2x32x4128, .f32⟩
  | .hbm, ⟨31, _⟩ => ⟨S16x8x2x32x4128, .f32⟩
  | .hbm, ⟨32, _⟩ => ⟨S_, .f32⟩
  | .hbm, ⟨33, _⟩ => ⟨S16x8x2x32, .f32⟩
  | .hbm, ⟨34, _⟩ => ⟨S_, .f32⟩
  | .hbm, ⟨35, _⟩ => ⟨S16x8x2x32, .f32⟩
  | .hbm, ⟨36, _⟩ => ⟨S16x8x2x32, .f32⟩
  | .hbm, ⟨37, _⟩ => ⟨S16x8x2x32x1, .f32⟩
  | .hbm, ⟨38, _⟩ => ⟨S16x8x2x32x4128, .f32⟩
  | .hbm, ⟨39, _⟩ => ⟨S16x8x2x32x4128, .f32⟩
  | .hbm, ⟨40, _⟩ => ⟨S16x8x2x32x4128, .f32⟩
  | .hbm, ⟨41, _⟩ => ⟨S_, .f32⟩
  | .hbm, ⟨42, _⟩ => ⟨S16x8x2x32, .f32⟩
  | .hbm, ⟨43, _⟩ => ⟨S16x8x2x32x1, .f32⟩
  | .hbm, ⟨44, _⟩ => ⟨S16x8x2x32x4128, .f32⟩
  | .hbm, ⟨45, _⟩ => ⟨S16x8x2x32x4128, .f32⟩
  | .hbm, ⟨46, _⟩ => ⟨S16x8x1x32x4128, .f32⟩
  | .hbm, ⟨47, _⟩ => ⟨S16x8x32x4128, .f32⟩
  | .hbm, ⟨48, _⟩ => ⟨S16x8x1x32x4128, .f32⟩
  | .hbm, ⟨49, _⟩ => ⟨S16x8x32x4128, .f32⟩
  | .hbm, ⟨50, _⟩ => ⟨S16x8x32x4128, .f32⟩
  | .hbm, ⟨51, _⟩ => ⟨S16x8x32x4128, .f32⟩
  | .hbm, ⟨52, _⟩ => ⟨S16x8x32x4128, .f32⟩
  | .hbm, ⟨53, _⟩ => ⟨S16x8x128x32, .f32⟩
  | .hbm, ⟨54, _⟩ => ⟨S16x32x8x128, .f32⟩
  | .hbm, ⟨55, _⟩ => ⟨S16x32x8x128, .f32⟩
  | .hbm, ⟨56, _⟩ => ⟨S_, .f32⟩
  | .hbm, ⟨57, _⟩ => ⟨S16x32x8, .f32⟩
  | .hbm, ⟨58, _⟩ => ⟨S16x32x8x1, .f32⟩
  | .hbm, ⟨59, _⟩ => ⟨S_, .f32⟩
  | .hbm, ⟨60, _⟩ => ⟨S16x32x8x1, .f32⟩
  | .hbm, ⟨61, _⟩ => ⟨S16x32x8x1, .f32⟩
  | .hbm, ⟨62, _⟩ => ⟨S_, .f32⟩
  | .hbm, ⟨63, _⟩ => ⟨S16x32x8x1, .f32⟩
  | .hbm, ⟨64, _⟩ => ⟨S16x32x8x1, .f32⟩
  | .hbm, ⟨65, _⟩ => ⟨S16x32x8x1, .f32⟩
  | .hbm, ⟨66, _⟩ => ⟨S16x32x8x128, .f32⟩
  | .hbm, ⟨67, _⟩ => ⟨S16x32x8x128, .f32⟩
  | .hbm, ⟨68, _⟩ => ⟨S1x1x1x128, .f32⟩
  | .hbm, ⟨69, _⟩ => ⟨S16x32x8x128, .f32⟩
  | .hbm, ⟨70, _⟩ => ⟨S16x32x8x128, .f32⟩
  | .hbm, ⟨71, _⟩ => ⟨S_, .f32⟩
  | .hbm, ⟨72, _⟩ => ⟨S16x32x8x128, .f32⟩
  | .hbm, ⟨73, _⟩ => ⟨S16x32x8x128, .f32⟩
  | .hbm, ⟨74, _⟩ => ⟨S16x32x1024, .f32⟩
  | .hbm, ⟨75, _⟩ => ⟨S16x32x1024, .bf16⟩
  | _, _ => ⟨S16x32x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Ffn.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1024x1280 : Shape := ⟨2, ![1024, 1280]⟩
abbrev S512x1280 : Shape := ⟨2, ![512, 1280]⟩
abbrev S1536x1024 : Shape := ⟨2, ![1536, 1024]⟩
abbrev S1280x1024 : Shape := ⟨2, ![1280, 1024]⟩

abbrev nBuf : Space → Nat
  | .hbm => 8
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S1024x5632, .bf16⟩
  | .hbm, ⟨6, _⟩ => ⟨S2816x1024, .bf16⟩
  | .hbm, ⟨7, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnRefIdeal.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩

abbrev nBuf : Space → Nat
  | .hbm => 35
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x5632, .f32⟩
  | .hbm, ⟨21, _⟩ => ⟨S32768x2816, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S_, .f32⟩
  | .hbm, ⟨26, _⟩ => ⟨S32768x2816, .f32⟩
  | .hbm, ⟨27, _⟩ => ⟨S32768x2816, .f32⟩
  | .hbm, ⟨28, _⟩ => ⟨S_, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x1024, .f32⟩
  | .hbm, ⟨34, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== Merge.lean ====
abbrev S32768x1024 : Shape := ⟨2, ![32768, 1024]⟩
abbrev S1024 : Shape := ⟨1, ![1024]⟩
abbrev S1024x9232 : Shape := ⟨2, ![1024, 9232]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 19
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x1024, .bf16⟩
  | .hbm, ⟨3, _⟩ => ⟨S1024, .f32⟩
  | .hbm, ⟨4, _⟩ => ⟨S1024x9232, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1x1024, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .bf16⟩
  | .hbm, ⟨16, _⟩ => ⟨S1024x1024, .bf16⟩
  | .hbm, ⟨17, _⟩ => ⟨S1024x1024, .bf16⟩
  | .hbm, ⟨18, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeRefIdeal.lean ====
abbrev S32768x1024 : Shape := ⟨2, ![32768, 1024]⟩
abbrev S1024 : Shape := ⟨1, ![1024]⟩
abbrev S1024x9232 : Shape := ⟨2, ![1024, 9232]⟩
abbrev S1024x1024 : Shape := ⟨2, ![1024, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x9232 : Shape := ⟨2, ![32768, 9232]⟩
abbrev S32768x3072 : Shape := ⟨2, ![32768, 3072]⟩
abbrev S32768x8 : Shape := ⟨2, ![32768, 8]⟩

abbrev nBuf : Space → Nat
  | .hbm => 69
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x1024, .bf16⟩
  | .hbm, ⟨3, _⟩ => ⟨S1024, .f32⟩
  | .hbm, ⟨4, _⟩ => ⟨S1024x9232, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S32768x1024, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x1024, .f32⟩
  | .hbm, ⟨20, _⟩ => ⟨S32768x1024, .f32⟩
  | .hbm, ⟨21, _⟩ => ⟨S1x1024, .f32⟩
  | .hbm, ⟨22, _⟩ => ⟨S32768x1024, .f32⟩
  | .hbm, ⟨23, _⟩ => ⟨S32768x1024, .f32⟩
  | .hbm, ⟨24, _⟩ => ⟨S32768x9232, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S32768x3072, .f32⟩
  | .hbm, ⟨29, _⟩ => ⟨S32768x1024, .f32⟩
  | .hbm, ⟨30, _⟩ => ⟨S32768x8, .f32⟩
  | .hbm, ⟨31, _⟩ => ⟨S32768x8, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S_, .f32⟩
  | .hbm, ⟨40, _⟩ => ⟨S32768x1024, .f32⟩
  | .hbm, ⟨41, _⟩ => ⟨S32768x1024, .f32⟩
  | .hbm, ⟨42, _⟩ => ⟨S_, .f32⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S32768x1024, .f32⟩
  | .hbm, ⟨50, _⟩ => ⟨S_, .f32⟩
  | .hbm, ⟨51, _⟩ => ⟨S32768x1024, .f32⟩
  | .hbm, ⟨52, _⟩ => ⟨S32768x1024, .f32⟩
  | .hbm, ⟨53, _⟩ => ⟨S_, .f32⟩
  | .hbm, ⟨54, _⟩ => ⟨S32768x1024, .f32⟩
  | .hbm, ⟨55, _⟩ => ⟨S32768x1024, .f32⟩
  | .hbm, ⟨56, _⟩ => ⟨S32768x1024, .f32⟩
  | .hbm, ⟨57, _⟩ => ⟨S32768x1024, .f32⟩
  | .hbm, ⟨58, _⟩ => ⟨S32768x1024, .f32⟩
  | .hbm, ⟨59, _⟩ => ⟨S_, .f32⟩
  | .hbm, ⟨60, _⟩ => ⟨S32768x1024, .f32⟩
  | .hbm, ⟨61, _⟩ => ⟨S32768x1024, .f32⟩
  | .hbm, ⟨62, _⟩ => ⟨S_, .f32⟩
  | .hbm, ⟨63, _⟩ => ⟨S32768x1024, .f32⟩
  | .hbm, ⟨64, _⟩ => ⟨S32768x1024, .f32⟩
  | .hbm, ⟨65, _⟩ => ⟨S32768x1024, .f32⟩
  | .hbm, ⟨66, _⟩ => ⟨S32768x1024, .f32⟩
  | .hbm, ⟨67, _⟩ => ⟨S32768x1024, .f32⟩
  | .hbm, ⟨68, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_2 : Ref sig .tc := ⟨.hbm, 50, rfl⟩
abbrev main_v31 : Ref sig .tc := ⟨.hbm, 51, rfl⟩
abbrev main_v32 : Ref sig .tc := ⟨.hbm, 52, rfl⟩
abbrev main_cst_3 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_4 : Ref sig .tc := ⟨.hbm, 59, rfl⟩
abbrev main_v38 : Ref sig .tc := ⟨.hbm, 60, rfl⟩
abbrev main_v39 : Ref sig .tc := ⟨.hbm, 61, rfl⟩
abbrev main_cst_5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩

abbrev nD : Nat := 1
abbrev τ : Topo := Topo.v7x

variable {F : FTy → Type} [FloatOps F]
-- ==== Project.lean ====
abbrev S16x2048x1024 : Shape := ⟨3, ![16, 2048, 1024]⟩
abbrev S1024 : Shape := ⟨1, ![1024]⟩
abbrev S1024x9232 : Shape := ⟨2, ![1024, 9232]⟩
abbrev S64 : Shape := ⟨1, ![64]⟩
abbrev S32768x1024 : Shape := ⟨2, ![32768, 1024]⟩
abbrev S1x1024 : Shape := ⟨2, ![1, 1024]⟩
abbrev S1024x3072 : Shape := ⟨2, ![1024, 3072]⟩
abbrev S1024x1024 : Shape := ⟨2, ![1024, 1024]⟩
abbrev S1x64 : Shape := ⟨2, ![1, 64]⟩
abbrev S16x64 : Shape := ⟨2, ![16, 64]⟩
abbrev S1024x1 : Shape := ⟨2, ![1024, 1]⟩
abbrev S16x1024x2048 : Shape := ⟨3, ![16, 1024, 2048]⟩
abbrev S1x1024x1024 : Shape := ⟨3, ![1, 1024, 1024]⟩
abbrev S256x256 : Shape := ⟨2, ![256, 256]⟩
abbrev S1024x256 : Shape := ⟨2, ![1024, 256]⟩
abbrev S16x64x1024 : Shape := ⟨3, ![16, 64, 1024]⟩
abbrev S16x1024 : Shape := ⟨2, ![16, 1024]⟩
abbrev S16x1x1024 : Shape := ⟨3, ![16, 1, 1024]⟩
abbrev S16x64x1 : Shape := ⟨3, ![16, 64, 1]⟩

abbrev nBuf : Space → Nat
  | .hbm => 27
  | .vmem => 14
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x9232, .f32⟩
  | .hbm, ⟨3, _⟩ => ⟨S64, .f32⟩
  | .hbm, ⟨4, _⟩ => ⟨S64, .f32⟩
  | .hbm, ⟨5, _⟩ => ⟨S32768x1024, .f32⟩
  | .hbm, ⟨6, _⟩ => ⟨S1x1024, .f32⟩
  | .hbm, ⟨7, _⟩ => ⟨S1024x3072, .f32⟩
  | .hbm, ⟨8, _⟩ => ⟨S1024x3072, .bf16⟩
  | .hbm, ⟨9, _⟩ => ⟨S1024x1024, .f32⟩
  | .hbm, ⟨10, _⟩ => ⟨S1024x1024, .f32⟩
  | .hbm, ⟨11, _⟩ => ⟨S1024x1024, .bf16⟩
  | .hbm, ⟨12, _⟩ => ⟨S1x64, .f32⟩
  | .hbm, ⟨13, _⟩ => ⟨S16x64, .f32⟩
  | .hbm, ⟨14, _⟩ => ⟨S1024, .f32⟩
  | .hbm, ⟨15, _⟩ => ⟨S1x1024, .f32⟩
  | .hbm, ⟨16, _⟩ => ⟨S1x64, .f32⟩
  | .hbm, ⟨17, _⟩ => ⟨S16x64, .f32⟩
  | .hbm, ⟨18, _⟩ => ⟨S1024, .f32⟩
  | .hbm, ⟨19, _⟩ => ⟨S1x1024, .f32⟩
  | .hbm, ⟨20, _⟩ => ⟨S1x64, .f32⟩
  | .hbm, ⟨21, _⟩ => ⟨S16x64, .f32⟩
  | .hbm, ⟨22, _⟩ => ⟨S1024, .f32⟩
  | .hbm, ⟨23, _⟩ => ⟨S1024x1, .f32⟩
  | .hbm, ⟨24, _⟩ => ⟨S32768x1024, .bf16⟩
  | .hbm, ⟨25, _⟩ => ⟨S16x1024x2048, .f32⟩
  | .hbm, ⟨26, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x1, .f32⟩
  | .local _ .vmem, ⟨8, _⟩ => ⟨S1024x1024, .bf16⟩
  | .local _ .vmem, ⟨9, _⟩ => ⟨S1024x1024, .bf16⟩
  | .local _ .vmem, ⟨10, _⟩ => ⟨S1x1024x1024, .f32⟩
  | .local _ .vmem, ⟨11, _⟩ => ⟨S1x1024x1024, .f32⟩
  | .local _ .vmem, ⟨12, _⟩ => ⟨S1024x1024, .f32⟩
  | .local _ .vmem, ⟨13, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19_0 : Ref sig .tc := ⟨.hbm, 24, rfl⟩
abbrev main_v19_1 : Ref sig .tc := ⟨.hbm, 25, rfl⟩
abbrev main_v19_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ProjectRefIdeal.lean ====
abbrev S16x2048x1024 : Shape := ⟨3, ![16, 2048, 1024]⟩
abbrev S1024 : Shape := ⟨1, ![1024]⟩
abbrev S1024x9232 : Shape := ⟨2, ![1024, 9232]⟩
abbrev S64 : Shape := ⟨1, ![64]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x3072 : Shape := ⟨2, ![1024, 3072]⟩
abbrev S16x2048x3072 : Shape := ⟨3, ![16, 2048, 3072]⟩
abbrev S16x2048x8x2x64 : Shape := ⟨5, ![16, 2048, 8, 2, 64]⟩
abbrev S16x2048x8x2 : Shape := ⟨4, ![16, 2048, 8, 2]⟩
abbrev S16x2048x8x2x1 : Shape := ⟨5, ![16, 2048, 8, 2, 1]⟩
abbrev S1x1x1x1x64 : Shape := ⟨5, ![1, 1, 1, 1, 64]⟩
abbrev S32768x1024 : Shape := ⟨2, ![32768, 1024]⟩
abbrev S16x8x2x64x2048 : Shape := ⟨5, ![16, 8, 2, 64, 2048]⟩
abbrev S16x1024x2048 : Shape := ⟨3, ![16, 1024, 2048]⟩

abbrev nBuf : Space → Nat
  | .hbm => 68
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x9232, .f32⟩
  | .hbm, ⟨3, _⟩ => ⟨S64, .f32⟩
  | .hbm, ⟨4, _⟩ => ⟨S64, .f32⟩
  | .hbm, ⟨5, _⟩ => ⟨S16x2048x1024, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x1024, .f32⟩
  | .hbm, ⟨17, _⟩ => ⟨S16x2048x1024, .f32⟩
  | .hbm, ⟨18, _⟩ => ⟨S1x1x1024, .f32⟩
  | .hbm, ⟨19, _⟩ => ⟨S16x2048x1024, .f32⟩
  | .hbm, ⟨20, _⟩ => ⟨S16x2048x1024, .f32⟩
  | .hbm, ⟨21, _⟩ => ⟨S1024x3072, .f32⟩
  | .hbm, ⟨22, _⟩ => ⟨S16x2048x3072, .f32⟩
  | .hbm, ⟨23, _⟩ => ⟨S16x2048x1024, .f32⟩
  | .hbm, ⟨24, _⟩ => ⟨S16x2048x1024, .f32⟩
  | .hbm, ⟨25, _⟩ => ⟨S16x2048x1024, .f32⟩
  | .hbm, ⟨26, _⟩ => ⟨S16x2048x8x2x64, .f32⟩
  | .hbm, ⟨27, _⟩ => ⟨S16x2048x8x2x64, .f32⟩
  | .hbm, ⟨28, _⟩ => ⟨S_, .f32⟩
  | .hbm, ⟨29, _⟩ => ⟨S16x2048x8x2, .f32⟩
  | .hbm, ⟨30, _⟩ => ⟨S16x2048x8x2x1, .f32⟩
  | .hbm, ⟨31, _⟩ => ⟨S_, .f32⟩
  | .hbm, ⟨32, _⟩ => ⟨S16x2048x8x2x1, .f32⟩
  | .hbm, ⟨33, _⟩ => ⟨S16x2048x8x2x1, .f32⟩
  | .hbm, ⟨34, _⟩ => ⟨S_, .f32⟩
  | .hbm, ⟨35, _⟩ => ⟨S16x2048x8x2x1, .f32⟩
  | .hbm, ⟨36, _⟩ => ⟨S16x2048x8x2x1, .f32⟩
  | .hbm, ⟨37, _⟩ => ⟨S16x2048x8x2x1, .f32⟩
  | .hbm, ⟨38, _⟩ => ⟨S16x2048x8x2x64, .f32⟩
  | .hbm, ⟨39, _⟩ => ⟨S16x2048x8x2x64, .f32⟩
  | .hbm, ⟨40, _⟩ => ⟨S1x1x1x1x64, .f32⟩
  | .hbm, ⟨41, _⟩ => ⟨S16x2048x8x2x64, .f32⟩
  | .hbm, ⟨42, _⟩ => ⟨S16x2048x8x2x64, .f32⟩
  | .hbm, ⟨43, _⟩ => ⟨S16x2048x8x2x64, .f32⟩
  | .hbm, ⟨44, _⟩ => ⟨S16x2048x8x2x64, .f32⟩
  | .hbm, ⟨45, _⟩ => ⟨S_, .f32⟩
  | .hbm, ⟨46, _⟩ => ⟨S16x2048x8x2, .f32⟩
  | .hbm, ⟨47, _⟩ => ⟨S16x2048x8x2x1, .f32⟩
  | .hbm, ⟨48, _⟩ => ⟨S_, .f32⟩
  | .hbm, ⟨49, _⟩ => ⟨S16x2048x8x2x1, .f32⟩
  | .hbm, ⟨50, _⟩ => ⟨S16x2048x8x2x1, .f32⟩
  | .hbm, ⟨51, _⟩ => ⟨S_, .f32⟩
  | .hbm, ⟨52, _⟩ => ⟨S16x2048x8x2x1, .f32⟩
  | .hbm, ⟨53, _⟩ => ⟨S16x2048x8x2x1, .f32⟩
  | .hbm, ⟨54, _⟩ => ⟨S16x2048x8x2x1, .f32⟩
  | .hbm, ⟨55, _⟩ => ⟨S16x2048x8x2x64, .f32⟩
  | .hbm, ⟨56, _⟩ => ⟨S16x2048x8x2x64, .f32⟩
  | .hbm, ⟨57, _⟩ => ⟨S1x1x1x1x64, .f32⟩
  | .hbm, ⟨58, _⟩ => ⟨S16x2048x8x2x64, .f32⟩
  | .hbm, ⟨59, _⟩ => ⟨S16x2048x8x2x64, .f32⟩
  | .hbm, ⟨60, _⟩ => ⟨S_, .f32⟩
  | .hbm, ⟨61, _⟩ => ⟨S16x2048x8x2x64, .f32⟩
  | .hbm, ⟨62, _⟩ => ⟨S16x2048x8x2x64, .f32⟩
  | .hbm, ⟨63, _⟩ => ⟨S16x2048x8x2x64, .bf16⟩
  | .hbm, ⟨64, _⟩ => ⟨S32768x1024, .bf16⟩
  | .hbm, ⟨65, _⟩ => ⟨S32768x1024, .f32⟩
  | .hbm, ⟨66, _⟩ => ⟨S16x8x2x64x2048, .f32⟩
  | .hbm, ⟨67, _⟩ => ⟨S16x1024x2048, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== ProjectSample.lean ====
abbrev S16x32x1024 : Shape := ⟨3, ![16, 32, 1024]⟩
abbrev S1024 : Shape := ⟨1, ![1024]⟩
abbrev S1024x9232 : Shape := ⟨2, ![1024, 9232]⟩
abbrev S64 : Shape := ⟨1, ![64]⟩
abbrev S512x1024 : Shape := ⟨2, ![512, 1024]⟩
abbrev S1x1024 : Shape := ⟨2, ![1, 1024]⟩
abbrev S1024x3072 : Shape := ⟨2, ![1024, 3072]⟩
abbrev S1024x1024 : Shape := ⟨2, ![1024, 1024]⟩
abbrev S1x64 : Shape := ⟨2, ![1, 64]⟩
abbrev S16x64 : Shape := ⟨2, ![16, 64]⟩
abbrev S1024x1 : Shape := ⟨2, ![1024, 1]⟩
abbrev S512 : Shape := ⟨1, ![512]⟩
abbrev S512x1 : Shape := ⟨2, ![512, 1]⟩
abbrev S256x256 : Shape := ⟨2, ![256, 256]⟩
abbrev S512x256 : Shape := ⟨2, ![512, 256]⟩

abbrev nBuf : Space → Nat
  | .hbm => 27
  | .vmem => 10
  | .smem => 0
  | _ => 0

abbrev bufTy : (tb : Table) → Fin (tcTables nBuf tb) → BufTy
  | .hbm, ⟨0, _⟩ => ⟨S16x32x1024, .f32⟩
  | .hbm, ⟨1, _⟩ => ⟨S1024, .f32⟩
  | .hbm, ⟨2, _⟩ => ⟨S1024x9232, .f32⟩
  | .hbm, ⟨3, _⟩ => ⟨S64, .f32⟩
  | .hbm, ⟨4, _⟩ => ⟨S64, .f32⟩
  | .hbm, ⟨5, _⟩ => ⟨S512x1024, .f32⟩
  | .hbm, ⟨6, _⟩ => ⟨S1x1024, .f32⟩
  | .hbm, ⟨7, _⟩ => ⟨S1024x3072, .f32⟩
  | .hbm, ⟨8, _⟩ => ⟨S1024x3072, .bf16⟩
  | .hbm, ⟨9, _⟩ => ⟨S1024x1024, .f32⟩
  | .hbm, ⟨10, _⟩ => ⟨S1024x1024, .f32⟩
  | .hbm, ⟨11, _⟩ => ⟨S1024x1024, .bf16⟩
  | .hbm, ⟨12, _⟩ => ⟨S1x64, .f32⟩
  | .hbm, ⟨13, _⟩ => ⟨S16x64, .f32⟩
  | .hbm, ⟨14, _⟩ => ⟨S1024, .f32⟩
  | .hbm, ⟨15, _⟩ => ⟨S1x1024, .f32⟩
  | .hbm, ⟨16, _⟩ => ⟨S1x64, .f32⟩
  | .hbm, ⟨17, _⟩ => ⟨S16x64, .f32⟩
  | .hbm, ⟨18, _⟩ => ⟨S1024, .f32⟩
  | .hbm, ⟨19, _⟩ => ⟨S1x1024, .f32⟩
  | .hbm, ⟨20, _⟩ => ⟨S1x64, .f32⟩
  | .hbm, ⟨21, _⟩ => ⟨S16x64, .f32⟩
  | .hbm, ⟨22, _⟩ => ⟨S1024, .f32⟩
  | .hbm, ⟨23, _⟩ => ⟨S1024x1, .f32⟩
  | .hbm, ⟨24, _⟩ => ⟨S512x1024, .bf16⟩
  | .hbm, ⟨25, _⟩ => ⟨S512x1024, .f32⟩
  | .hbm, ⟨26, _⟩ => ⟨S512x1024, .f32⟩
  | .local _ .vmem, ⟨0, _⟩ => ⟨S512x1024, .f32⟩
  | .local _ .vmem, ⟨1, _⟩ => ⟨S1x1024, .f32⟩
  | .local _ .vmem, ⟨2, _⟩ => ⟨S1024x3072, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1, .f32⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S16x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19_0 : Ref sig .tc := ⟨.hbm, 24, rfl⟩
abbrev main_v19_1 : Ref sig .tc := ⟨.hbm, 25, rfl⟩
abbrev main_v19_2 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== ProjectSampleRefIdeal.lean ====
abbrev S16x32x1024 : Shape := ⟨3, ![16, 32, 1024]⟩
abbrev S1024 : Shape := ⟨1, ![1024]⟩
abbrev S1024x9232 : Shape := ⟨2, ![1024, 9232]⟩
abbrev S64 : Shape := ⟨1, ![64]⟩
abbrev S_ : Shape := ⟨0, ![]⟩
abbrev S16x32 : Shape := ⟨2, ![16, 32]⟩
abbrev S16x32x1 : Shape := ⟨3, ![16, 32, 1]⟩
abbrev S1x1x1024 : Shape := ⟨3, ![1, 1, 1024]⟩
abbrev S1024x3072 : Shape := ⟨2, ![1024, 3072]⟩
abbrev S16x32x3072 : Shape := ⟨3, ![16, 32, 3072]⟩
abbrev S16x32x8x2x64 : Shape := ⟨5, ![16, 32, 8, 2, 64]⟩
abbrev S16x32x8x2 : Shape := ⟨4, ![16, 32, 8, 2]⟩
abbrev S16x32x8x2x1 : Shape := ⟨5, ![16, 32, 8, 2, 1]⟩
abbrev S1x1x1x1x64 : Shape := ⟨5, ![1, 1, 1, 1, 64]⟩
abbrev S512x1024 : Shape := ⟨2, ![512, 1024]⟩

abbrev nBuf : Space → Nat
  | .hbm => 67
  | .vmem => 0
  | .smem => 0
  | _ => 0

abbrev bufTy : (tb : Table) → Fin (tcTables nBuf tb) → BufTy
  | .hbm, ⟨0, _⟩ => ⟨S16x32x1024, .f32⟩
  | .hbm, ⟨1, _⟩ => ⟨S1024, .f32⟩
  | .hbm, ⟨2, _⟩ => ⟨S1024x9232, .f32⟩
  | .hbm, ⟨3, _⟩ => ⟨S64, .f32⟩
  | .hbm, ⟨4, _⟩ => ⟨S64, .f32⟩
  | .hbm, ⟨5, _⟩ => ⟨S16x32x1024, .f32⟩
  | .hbm, ⟨6, _⟩ => ⟨S_, .f32⟩
  | .hbm, ⟨7, _⟩ => ⟨S16x32, .f32⟩
  | .hbm, ⟨8, _⟩ => ⟨S16x32x1, .f32⟩
  | .hbm, ⟨9, _⟩ => ⟨S_, .f32⟩
  | .hbm, ⟨10, _⟩ => ⟨S16x32x1, .f32⟩
  | .hbm, ⟨11, _⟩ => ⟨S16x32x1, .f32⟩
  | .hbm, ⟨12, _⟩ => ⟨S_, .f32⟩
  | .hbm, ⟨13, _⟩ => ⟨S16x32x1, .f32⟩
  | .hbm, ⟨14, _⟩ => ⟨S16x32x1, .f32⟩
  | .hbm, ⟨15, _⟩ => ⟨S16x32x1, .f32⟩
  | .hbm, ⟨16, _⟩ => ⟨S16x32x1024, .f32⟩
  | .hbm, ⟨17, _⟩ => ⟨S16x32x1024, .f32⟩
  | .hbm, ⟨18, _⟩ => ⟨S1x1x1024, .f32⟩
  | .hbm, ⟨19, _⟩ => ⟨S16x32x1024, .f32⟩
  | .hbm, ⟨20, _⟩ => ⟨S16x32x1024, .f32⟩
  | .hbm, ⟨21, _⟩ => ⟨S1024x3072, .f32⟩
  | .hbm, ⟨22, _⟩ => ⟨S16x32x3072, .f32⟩
  | .hbm, ⟨23, _⟩ => ⟨S16x32x1024, .f32⟩
  | .hbm, ⟨24, _⟩ => ⟨S16x32x1024, .f32⟩
  | .hbm, ⟨25, _⟩ => ⟨S16x32x1024, .f32⟩
  | .hbm, ⟨26, _⟩ => ⟨S16x32x8x2x64, .f32⟩
  | .hbm, ⟨27, _⟩ => ⟨S16x32x8x2x64, .f32⟩
  | .hbm, ⟨28, _⟩ => ⟨S_, .f32⟩
  | .hbm, ⟨29, _⟩ => ⟨S16x32x8x2, .f32⟩
  | .hbm, ⟨30, _⟩ => ⟨S16x32x8x2x1, .f32⟩
  | .hbm, ⟨31, _⟩ => ⟨S_, .f32⟩
  | .hbm, ⟨32, _⟩ => ⟨S16x32x8x2x1, .f32⟩
  | .hbm, ⟨33, _⟩ => ⟨S16x32x8x2x1, .f32⟩
  | .hbm, ⟨34, _⟩ => ⟨S_, .f32⟩
  | .hbm, ⟨35, _⟩ => ⟨S16x32x8x2x1, .f32⟩
  | .hbm, ⟨36, _⟩ => ⟨S16x32x8x2x1, .f32⟩
  | .hbm, ⟨37, _⟩ => ⟨S16x32x8x2x1, .f32⟩
  | .hbm, ⟨38, _⟩ => ⟨S16x32x8x2x64, .f32⟩
  | .hbm, ⟨39, _⟩ => ⟨S16x32x8x2x64, .f32⟩
  | .hbm, ⟨40, _⟩ => ⟨S1x1x1x1x64, .f32⟩
  | .hbm, ⟨41, _⟩ => ⟨S16x32x8x2x64, .f32⟩
  | .hbm, ⟨42, _⟩ => ⟨S16x32x8x2x64, .f32⟩
  | .hbm, ⟨43, _⟩ => ⟨S16x32x8x2x64, .f32⟩
  | .hbm, ⟨44, _⟩ => ⟨S16x32x8x2x64, .f32⟩
  | .hbm, ⟨45, _⟩ => ⟨S_, .f32⟩
  | .hbm, ⟨46, _⟩ => ⟨S16x32x8x2, .f32⟩
  | .hbm, ⟨47, _⟩ => ⟨S16x32x8x2x1, .f32⟩
  | .hbm, ⟨48, _⟩ => ⟨S_, .f32⟩
  | .hbm, ⟨49, _⟩ => ⟨S16x32x8x2x1, .f32⟩
  | .hbm, ⟨50, _⟩ => ⟨S16x32x8x2x1, .f32⟩
  | .hbm, ⟨51, _⟩ => ⟨S_, .f32⟩
  | .hbm, ⟨52, _⟩ => ⟨S16x32x8x2x1, .f32⟩
  | .hbm, ⟨53, _⟩ => ⟨S16x32x8x2x1, .f32⟩
  | .hbm, ⟨54, _⟩ => ⟨S16x32x8x2x1, .f32⟩
  | .hbm, ⟨55, _⟩ => ⟨S16x32x8x2x64, .f32⟩
  | .hbm, ⟨56, _⟩ => ⟨S16x32x8x2x64, .f32⟩
  | .hbm, ⟨57, _⟩ => ⟨S1x1x1x1x64, .f32⟩
  | .hbm, ⟨58, _⟩ => ⟨S16x32x8x2x64, .f32⟩
  | .hbm, ⟨59, _⟩ => ⟨S16x32x8x2x64, .f32⟩
  | .hbm, ⟨60, _⟩ => ⟨S_, .f32⟩
  | .hbm, ⟨61, _⟩ => ⟨S16x32x8x2x64, .f32⟩
  | .hbm, ⟨62, _⟩ => ⟨S16x32x8x2x64, .f32⟩
  | .hbm, ⟨63, _⟩ => ⟨S16x32x8x2x64, .bf16⟩
  | .hbm, ⟨64, _⟩ => ⟨S512x1024, .bf16⟩
  | .hbm, ⟨65, _⟩ => ⟨S512x1024, .f32⟩
  | .hbm, ⟨66, _⟩ => ⟨S512x1024, .f32⟩
  | _, _ => ⟨S16x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== FfnSample.lean ====
abbrev S512x1024 : Shape := ⟨2, ![512, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1024x1280 : Shape := ⟨2, ![1024, 1280]⟩
abbrev S512x1280 : Shape := ⟨2, ![512, 1280]⟩
abbrev S1536x1024 : Shape := ⟨2, ![1536, 1024]⟩
abbrev S1280x1024 : Shape := ⟨2, ![1280, 1024]⟩

abbrev nBuf : Space → Nat
  | .hbm => 8
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S1024x5632, .bf16⟩
  | .hbm, ⟨6, _⟩ => ⟨S2816x1024, .bf16⟩
  | .hbm, ⟨7, _⟩ => ⟨S512x1024, .f32⟩
  | .local _ .vmem, ⟨0, _⟩ => ⟨S512x1024, .f32⟩
  | .local _ .vmem, ⟨1, _⟩ => ⟨S1x1024, .f32⟩
  | .local _ .vmem, ⟨2, _⟩ => ⟨S1024x5632, .bf16⟩
  | .local _ .vmem, ⟨3, _⟩ => ⟨S2816x1024, .bf16⟩
  | .local _ .vmem, ⟨4, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== FfnSampleRefIdeal.lean ====
abbrev S512x1024 : Shape := ⟨2, ![512, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x5632 : Shape := ⟨2, ![512, 5632]⟩
abbrev S512x2816 : Shape := ⟨2, ![512, 2816]⟩

abbrev nBuf : Space → Nat
  | .hbm => 35
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S512x1024, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S_, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S512x1024, .f32⟩
  | .hbm, ⟨16, _⟩ => ⟨S512x1024, .f32⟩
  | .hbm, ⟨17, _⟩ => ⟨S1x1024, .f32⟩
  | .hbm, ⟨18, _⟩ => ⟨S512x1024, .f32⟩
  | .hbm, ⟨19, _⟩ => ⟨S512x1024, .f32⟩
  | .hbm, ⟨20, _⟩ => ⟨S512x5632, .f32⟩
  | .hbm, ⟨21, _⟩ => ⟨S512x2816, .f32⟩
  | .hbm, ⟨22, _⟩ => ⟨S512x2816, .f32⟩
  | .hbm, ⟨23, _⟩ => ⟨S512x2816, .f32⟩
  | .hbm, ⟨24, _⟩ => ⟨S512x2816, .f32⟩
  | .hbm, ⟨25, _⟩ => ⟨S_, .f32⟩
  | .hbm, ⟨26, _⟩ => ⟨S512x2816, .f32⟩
  | .hbm, ⟨27, _⟩ => ⟨S512x2816, .f32⟩
  | .hbm, ⟨28, _⟩ => ⟨S_, .f32⟩
  | .hbm, ⟨29, _⟩ => ⟨S512x2816, .f32⟩
  | .hbm, ⟨30, _⟩ => ⟨S512x2816, .f32⟩
  | .hbm, ⟨31, _⟩ => ⟨S512x2816, .f32⟩
  | .hbm, ⟨32, _⟩ => ⟨S512x2816, .f32⟩
  | .hbm, ⟨33, _⟩ => ⟨S512x1024, .f32⟩
  | .hbm, ⟨34, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== Conv.lean ====
abbrev S16x2048x1024 : Shape := ⟨3, ![16, 2048, 1024]⟩
abbrev S16x3x3072 : Shape := ⟨3, ![16, 3, 3072]⟩
abbrev S1024 : Shape := ⟨1, ![1024]⟩
abbrev S1024x9232 : Shape := ⟨2, ![1024, 9232]⟩
abbrev S4x3072 : Shape := ⟨2, ![4, 3072]⟩
abbrev S8 : Shape := ⟨1, ![8]⟩
abbrev S1024x3072 : Shape := ⟨2, ![1024, 3072]⟩
abbrev S1024x16 : Shape := ⟨2, ![1024, 16]⟩
abbrev S_ : Shape := ⟨0, ![]⟩
abbrev S1024x128 : Shape := ⟨2, ![1024, 128]⟩
abbrev S16x8x3072 : Shape := ⟨3, ![16, 8, 3072]⟩
abbrev S32768x1024 : Shape := ⟨2, ![32768, 1024]⟩
abbrev S1x1024 : Shape := ⟨2, ![1, 1024]⟩
abbrev S128 : Shape := ⟨1, ![128]⟩
abbrev S1x128 : Shape := ⟨2, ![1, 128]⟩
abbrev S32768x3072 : Shape := ⟨2, ![32768, 3072]⟩
abbrev S32768x128 : Shape := ⟨2, ![32768, 128]⟩
abbrev S32x8x3072 : Shape := ⟨3, ![32, 8, 3072]⟩
abbrev S1024x1024 : Shape := ⟨2, ![1024, 1024]⟩
abbrev S1x8x3072 : Shape := ⟨3, ![1, 8, 3072]⟩
abbrev S8x3072 : Shape := ⟨2, ![8, 3072]⟩
abbrev S1024x1 : Shape := ⟨2, ![1024, 1]⟩
abbrev S4x1024 : Shape := ⟨2, ![4, 1024]⟩
abbrev S1x8x1024 : Shape := ⟨3, ![1, 8, 1024]⟩
abbrev S8x1024 : Shape := ⟨2, ![8, 1024]⟩
abbrev S1032x1024 : Shape := ⟨2, ![1032, 1024]⟩
abbrev S129x8x1024 : Shape := ⟨3, ![129, 8, 1024]⟩
abbrev S1x8x1 : Shape := ⟨3, ![1, 8, 1]⟩
abbrev S128x8x1024 : Shape := ⟨3, ![128, 8, 1024]⟩
abbrev S256x256 : Shape := ⟨2, ![256, 256]⟩
abbrev S1024x256 : Shape := ⟨2, ![1024, 256]⟩

abbrev nBuf : Space → Nat
  | .hbm => 30
  | .vmem => 17
  | .smem => 0
  | _ => 0

abbrev bufTy : (tb : Table) → Fin (tcTables nBuf tb) → BufTy
  | .hbm, ⟨0, _⟩ => ⟨S16x2048x1024, .f32⟩
  | .hbm, ⟨1, _⟩ => ⟨S16x3x3072, .f32⟩
  | .hbm, ⟨2, _⟩ => ⟨S1024, .f32⟩
  | .hbm, ⟨3, _⟩ => ⟨S1024x9232, .f32⟩
  | .hbm, ⟨4, _⟩ => ⟨S4x3072, .f32⟩
  | .hbm, ⟨5, _⟩ => ⟨S8, .f32⟩
  | .hbm, ⟨6, _⟩ => ⟨S8, .f32⟩
  | .hbm, ⟨7, _⟩ => ⟨S1024x3072, .f32⟩
  | .hbm, ⟨8, _⟩ => ⟨S1024x16, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S_, .i32⟩
  | .hbm, ⟨13, _⟩ => ⟨S_, .f32⟩
  | .hbm, ⟨14, _⟩ => ⟨S16x8x3072, .f32⟩
  | .hbm, ⟨15, _⟩ => ⟨S32768x1024, .f32⟩
  | .hbm, ⟨16, _⟩ => ⟨S1x1024, .f32⟩
  | .hbm, ⟨17, _⟩ => ⟨S1024x3072, .bf16⟩
  | .hbm, ⟨18, _⟩ => ⟨S1024x128, .bf16⟩
  | .hbm, ⟨19, _⟩ => ⟨S_, .i32⟩
  | .hbm, ⟨20, _⟩ => ⟨S_, .f32⟩
  | .hbm, ⟨21, _⟩ => ⟨S128, .f32⟩
  | .hbm, ⟨22, _⟩ => ⟨S1x128, .f32⟩
  | .hbm, ⟨23, _⟩ => ⟨S_, .i32⟩
  | .hbm, ⟨24, _⟩ => ⟨S_, .f32⟩
  | .hbm, ⟨25, _⟩ => ⟨S128, .f32⟩
  | .hbm, ⟨26, _⟩ => ⟨S1x128, .f32⟩
  | .hbm, ⟨27, _⟩ => ⟨S32768x3072, .f32⟩
  | .hbm, ⟨28, _⟩ => ⟨S32768x128, .f32⟩
  | .hbm, ⟨29, _⟩ => ⟨S32x8x3072, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .bf16⟩
  | .local _ .vmem, ⟨5, _⟩ => ⟨S4x3072, .f32⟩
  | .local _ .vmem, ⟨6, _⟩ => ⟨S1x8x3072, .f32⟩
  | .local _ .vmem, ⟨7, _⟩ => ⟨S1x8x3072, .f32⟩
  | .local _ .vmem, ⟨8, _⟩ => ⟨S1x128, .f32⟩
  | .local _ .vmem, ⟨9, _⟩ => ⟨S1x128, .f32⟩
  | .local _ .vmem, ⟨10, _⟩ => ⟨S1024x3072, .f32⟩
  | .local _ .vmem, ⟨11, _⟩ => ⟨S1024x3072, .f32⟩
  | .local _ .vmem, ⟨12, _⟩ => ⟨S1024x128, .f32⟩
  | .local _ .vmem, ⟨13, _⟩ => ⟨S1024x128, .f32⟩
  | .local _ .vmem, ⟨14, _⟩ => ⟨S1x8x3072, .f32⟩
  | .local _ .vmem, ⟨15, _⟩ => ⟨S1x8x3072, .f32⟩
  | .local _ .vmem, ⟨16, _⟩ => ⟨S8x3072, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_call2_v0 : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_call3_v0 : Ref sig .tc := ⟨.hbm, 24, rfl⟩
abbrev main_v10 : Ref sig .tc := ⟨.hbm, 25, rfl⟩
abbrev main_v11 : Ref sig .tc := ⟨.hbm, 26, rfl⟩
abbrev main_v12_0 : Ref sig .tc := ⟨.hbm, 27, rfl⟩
abbrev main_v12_1 : Ref sig .tc := ⟨.hbm, 28, rfl⟩
abbrev main_v12_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x8x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x3072 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ConvRefIdeal.lean ====
abbrev S16x2048x1024 : Shape := ⟨3, ![16, 2048, 1024]⟩
abbrev S16x3x3072 : Shape := ⟨3, ![16, 3, 3072]⟩
abbrev S1024 : Shape := ⟨1, ![1024]⟩
abbrev S1024x9232 : Shape := ⟨2, ![1024, 9232]⟩
abbrev S4x3072 : Shape := ⟨2, ![4, 3072]⟩
abbrev S8 : Shape := ⟨1, ![8]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x9232 : Shape := ⟨3, ![16, 2048, 9232]⟩
abbrev S16x2048x3072 : Shape := ⟨3, ![16, 2048, 3072]⟩
abbrev S16x2048x8 : Shape := ⟨3, ![16, 2048, 8]⟩
abbrev S16x2051x3072 : Shape := ⟨3, ![16, 2051, 3072]⟩
abbrev S1x3072 : Shape := ⟨2, ![1, 3072]⟩
abbrev S1x1x3072 : Shape := ⟨3, ![1, 1, 3072]⟩
abbrev S16x2048x8x128 : Shape := ⟨4, ![16, 2048, 8, 128]⟩
abbrev S16x2048x8x1 : Shape := ⟨4, ![16, 2048, 8, 1]⟩
abbrev S1x1x8 : Shape := ⟨3, ![1, 1, 8]⟩
abbrev S32768x1024 : Shape := ⟨2, ![32768, 1024]⟩
abbrev S32768x3072 : Shape := ⟨2, ![32768, 3072]⟩
abbrev S32768x8 : Shape := ⟨2, ![32768, 8]⟩
abbrev S32768x112 : Shape := ⟨2, ![32768, 112]⟩
abbrev S32768x128 : Shape := ⟨2, ![32768, 128]⟩
abbrev S32x1024x3072 : Shape := ⟨3, ![32, 1024, 3072]⟩
abbrev S32x8x3072 : Shape := ⟨3, ![32, 8, 3072]⟩

abbrev nBuf : Space → Nat
  | .hbm => 125
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x3x3072, .f32⟩
  | .hbm, ⟨2, _⟩ => ⟨S1024, .f32⟩
  | .hbm, ⟨3, _⟩ => ⟨S1024x9232, .f32⟩
  | .hbm, ⟨4, _⟩ => ⟨S4x3072, .f32⟩
  | .hbm, ⟨5, _⟩ => ⟨S8, .f32⟩
  | .hbm, ⟨6, _⟩ => ⟨S8, .f32⟩
  | .hbm, ⟨7, _⟩ => ⟨S16x2048x1024, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S16x2048x9232, .f32⟩
  | .hbm, ⟨24, _⟩ => ⟨S16x2048x3072, .f32⟩
  | .hbm, ⟨25, _⟩ => ⟨S16x2048x8, .f32⟩
  | .hbm, ⟨26, _⟩ => ⟨S16x2048x8, .f32⟩
  | .hbm, ⟨27, _⟩ => ⟨S16x2051x3072, .f32⟩
  | .hbm, ⟨28, _⟩ => ⟨S16x2048x3072, .f32⟩
  | .hbm, ⟨29, _⟩ => ⟨S1x3072, .f32⟩
  | .hbm, ⟨30, _⟩ => ⟨S1x1x3072, .f32⟩
  | .hbm, ⟨31, _⟩ => ⟨S16x2048x3072, .f32⟩
  | .hbm, ⟨32, _⟩ => ⟨S16x2048x3072, .f32⟩
  | .hbm, ⟨33, _⟩ => ⟨S16x2048x3072, .f32⟩
  | .hbm, ⟨34, _⟩ => ⟨S1x3072, .f32⟩
  | .hbm, ⟨35, _⟩ => ⟨S1x1x3072, .f32⟩
  | .hbm, ⟨36, _⟩ => ⟨S16x2048x3072, .f32⟩
  | .hbm, ⟨37, _⟩ => ⟨S16x2048x3072, .f32⟩
  | .hbm, ⟨38, _⟩ => ⟨S16x2048x3072, .f32⟩
  | .hbm, ⟨39, _⟩ => ⟨S16x2048x3072, .f32⟩
  | .hbm, ⟨40, _⟩ => ⟨S1x3072, .f32⟩
  | .hbm, ⟨41, _⟩ => ⟨S1x1x3072, .f32⟩
  | .hbm, ⟨42, _⟩ => ⟨S16x2048x3072, .f32⟩
  | .hbm, ⟨43, _⟩ => ⟨S16x2048x3072, .f32⟩
  | .hbm, ⟨44, _⟩ => ⟨S16x2048x3072, .f32⟩
  | .hbm, ⟨45, _⟩ => ⟨S16x2048x3072, .f32⟩
  | .hbm, ⟨46, _⟩ => ⟨S1x3072, .f32⟩
  | .hbm, ⟨47, _⟩ => ⟨S1x1x3072, .f32⟩
  | .hbm, ⟨48, _⟩ => ⟨S16x2048x3072, .f32⟩
  | .hbm, ⟨49, _⟩ => ⟨S16x2048x3072, .f32⟩
  | .hbm, ⟨50, _⟩ => ⟨S16x2048x3072, .f32⟩
  | .hbm, ⟨51, _⟩ => ⟨S16x2048x3072, .f32⟩
  | .hbm, ⟨52, _⟩ => ⟨S16x2048x3072, .f32⟩
  | .hbm, ⟨53, _⟩ => ⟨S_, .f32⟩
  | .hbm, ⟨54, _⟩ => ⟨S16x2048x3072, .f32⟩
  | .hbm, ⟨55, _⟩ => ⟨S16x2048x3072, .f32⟩
  | .hbm, ⟨56, _⟩ => ⟨S_, .f32⟩
  | .hbm, ⟨57, _⟩ => ⟨S16x2048x3072, .f32⟩
  | .hbm, ⟨58, _⟩ => ⟨S16x2048x3072, .f32⟩
  | .hbm, ⟨59, _⟩ => ⟨S16x2048x3072, .f32⟩
  | .hbm, ⟨60, _⟩ => ⟨S16x2048x1024, .f32⟩
  | .hbm, ⟨61, _⟩ => ⟨S16x2048x1024, .f32⟩
  | .hbm, ⟨62, _⟩ => ⟨S16x2048x1024, .f32⟩
  | .hbm, ⟨63, _⟩ => ⟨S16x2048x8x128, .f32⟩
  | .hbm, ⟨64, _⟩ => ⟨S16x2048x8x128, .f32⟩
  | .hbm, ⟨65, _⟩ => ⟨S_, .f32⟩
  | .hbm, ⟨66, _⟩ => ⟨S16x2048x8, .f32⟩
  | .hbm, ⟨67, _⟩ => ⟨S16x2048x8x1, .f32⟩
  | .hbm, ⟨68, _⟩ => ⟨S_, .f32⟩
  | .hbm, ⟨69, _⟩ => ⟨S16x2048x8x1, .f32⟩
  | .hbm, ⟨70, _⟩ => ⟨S16x2048x8x1, .f32⟩
  | .hbm, ⟨71, _⟩ => ⟨S16x2048x8x1, .f32⟩
  | .hbm, ⟨72, _⟩ => ⟨S16x2048x8x128, .f32⟩
  | .hbm, ⟨73, _⟩ => ⟨S16x2048x8x128, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S16x2048x8x128, .f32⟩
  | .hbm, ⟨78, _⟩ => ⟨S16x2048x8x128, .f32⟩
  | .hbm, ⟨79, _⟩ => ⟨S16x2048x8x128, .f32⟩
  | .hbm, ⟨80, _⟩ => ⟨S16x2048x8x128, .f32⟩
  | .hbm, ⟨81, _⟩ => ⟨S_, .f32⟩
  | .hbm, ⟨82, _⟩ => ⟨S16x2048x8, .f32⟩
  | .hbm, ⟨83, _⟩ => ⟨S16x2048x8x1, .f32⟩
  | .hbm, ⟨84, _⟩ => ⟨S_, .f32⟩
  | .hbm, ⟨85, _⟩ => ⟨S16x2048x8x1, .f32⟩
  | .hbm, ⟨86, _⟩ => ⟨S16x2048x8x1, .f32⟩
  | .hbm, ⟨87, _⟩ => ⟨S16x2048x8x1, .f32⟩
  | .hbm, ⟨88, _⟩ => ⟨S16x2048x8x128, .f32⟩
  | .hbm, ⟨89, _⟩ => ⟨S16x2048x8x128, .f32⟩
  | .hbm, ⟨90, _⟩ => ⟨S16x2048x8, .f32⟩
  | .hbm, ⟨91, _⟩ => ⟨S16x2048x8, .f32⟩
  | .hbm, ⟨92, _⟩ => ⟨S_, .f32⟩
  | .hbm, ⟨93, _⟩ => ⟨S16x2048x8, .f32⟩
  | .hbm, ⟨94, _⟩ => ⟨S16x2048x8, .f32⟩
  | .hbm, ⟨95, _⟩ => ⟨S_, .f32⟩
  | .hbm, ⟨96, _⟩ => ⟨S16x2048x8, .f32⟩
  | .hbm, ⟨97, _⟩ => ⟨S16x2048x8, .f32⟩
  | .hbm, ⟨98, _⟩ => ⟨S1x1x8, .f32⟩
  | .hbm, ⟨99, _⟩ => ⟨S16x2048x8, .f32⟩
  | .hbm, ⟨100, _⟩ => ⟨S16x2048x8, .f32⟩
  | .hbm, ⟨101, _⟩ => ⟨S_, .f32⟩
  | .hbm, ⟨102, _⟩ => ⟨S16x2048x8, .f32⟩
  | .hbm, ⟨103, _⟩ => ⟨S16x2048x8, .f32⟩
  | .hbm, ⟨104, _⟩ => ⟨S16x2048x8, .f32⟩
  | .hbm, ⟨105, _⟩ => ⟨S16x2048x8, .f32⟩
  | .hbm, ⟨106, _⟩ => ⟨S16x2048x8, .f32⟩
  | .hbm, ⟨107, _⟩ => ⟨S16x2048x8, .f32⟩
  | .hbm, ⟨108, _⟩ => ⟨S16x2048x8, .f32⟩
  | .hbm, ⟨109, _⟩ => ⟨S8, .f32⟩
  | .hbm, ⟨110, _⟩ => ⟨S8, .f32⟩
  | .hbm, ⟨111, _⟩ => ⟨S1x1x8, .f32⟩
  | .hbm, ⟨112, _⟩ => ⟨S16x2048x8, .f32⟩
  | .hbm, ⟨113, _⟩ => ⟨S16x2048x8, .f32⟩
  | .hbm, ⟨114, _⟩ => ⟨S32768x1024, .f32⟩
  | .hbm, ⟨115, _⟩ => ⟨S32768x1024, .f32⟩
  | .hbm, ⟨116, _⟩ => ⟨S32768x1024, .f32⟩
  | .hbm, ⟨117, _⟩ => ⟨S32768x3072, .f32⟩
  | .hbm, ⟨118, _⟩ => ⟨S32768x8, .f32⟩
  | .hbm, ⟨119, _⟩ => ⟨S32768x8, .f32⟩
  | .hbm, ⟨120, _⟩ => ⟨S_, .f32⟩
  | .hbm, ⟨121, _⟩ => ⟨S32768x112, .f32⟩
  | .hbm, ⟨122, _⟩ => ⟨S32768x128, .f32⟩
  | .hbm, ⟨123, _⟩ => ⟨S32x1024x3072, .f32⟩
  | .hbm, ⟨124, _⟩ => ⟨S32x8x3072, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_2 : Ref sig .tc := ⟨.hbm, 65, rfl⟩
abbrev main_v47 : Ref sig .tc := ⟨.hbm, 66, rfl⟩
abbrev main_v48 : Ref sig .tc := ⟨.hbm, 67, rfl⟩
abbrev main_cst_3 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_4 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_5 : Ref sig .tc := ⟨.hbm, 81, rfl⟩
abbrev main_v60 : Ref sig .tc := ⟨.hbm, 82, rfl⟩
abbrev main_v61 : Ref sig .tc := ⟨.hbm, 83, rfl⟩
abbrev main_cst_6 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_7 : Ref sig .tc := ⟨.hbm, 92, rfl⟩
abbrev main_v69 : Ref sig .tc := ⟨.hbm, 93, rfl⟩
abbrev main_v70 : Ref sig .tc := ⟨.hbm, 94, rfl⟩
abbrev main_cst_8 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_9 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_10 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩

abbrev nD : Nat := 1
abbrev τ : Topo := Topo.v7x

variable {F : FTy → Type} [FloatOps F]
-- ==== Proof.RealMath.lean ====
module
public import Idealize.ShloMosaic.PureOps.Ideal
public import Mathlib.Analysis.SpecialFunctions.Pow.Real
public import Mathlib.Analysis.SpecialFunctions.Log.Basic

@[expose] public section
noncomputable section

namespace Cert.Proofs.RealMath
open Idealize.ShloMosaic

/-- A finite sum of reals, read in the extended reals, is the sum of the reals read there. -/
theorem coe_sum {ι : Type*} (s : Finset ι) (f : ι → ℝ) :
    ∑ i ∈ s, ((f i : ℝ) : EReal) = ((∑ i ∈ s, f i : ℝ) : EReal) := by
  classical
  induction s using Finset.induction with
  | empty => simp
  | insert a s ha ih => rw [Finset.sum_insert ha, Finset.sum_insert ha, ih, EReal.coe_add]

/-- The running maximum of finitely many reals started at a real is a real. -/
theorem fold_max_real {ι : Type*} (s : Finset ι) (f : ι → ℝ) (b : ℝ) :
    ∃ M : ℝ, s.fold max ((b : ℝ) : EReal) (fun i => ((f i : ℝ) : EReal)) = (M : EReal) := by
  classical
  induction s using Finset.induction with
  | empty => exact ⟨b, rfl⟩
  | insert a s ha ih =>
    obtain ⟨M, hM⟩ := ih
    exact ⟨max (f a) M, by rw [Finset.fold_insert ha, hM, EReal.coe_strictMono.monotone.map_max]⟩

/-- The running maximum of at least one real, started at minus infinity, is a real. -/
theorem fold_max_bot {ι : Type*} [Fintype ι] [Nonempty ι] (f : ι → ℝ) :
    ∃ M : ℝ, Finset.univ.fold max (⊥ : EReal) (fun i => ((f i : ℝ) : EReal)) = (M : EReal) := by
  classical
  obtain ⟨a⟩ := ‹Nonempty ι›
  obtain ⟨M, hM⟩ := fold_max_real (Finset.univ.erase a) f (f a)
  refine ⟨M, ?_⟩
  rw [← hM, ← Finset.insert_erase (Finset.mem_univ a), Finset.fold_insert (Finset.notMem_erase a _),
    Finset.insert_erase (Finset.mem_univ a)]
  have : ∀ (s : Finset ι) (x : EReal),
      max x (s.fold max (⊥ : EReal) (fun i => ((f i : ℝ) : EReal))) = s.fold max x (fun i => ((f i : ℝ) : EReal)) := by
    intro s x
    induction s using Finset.induction with
    | empty => simp
    | insert b s hb ih => rw [Finset.fold_insert hb, Finset.fold_insert hb, ← ih, max_left_comm]
  exact this _ _

/-- The weight of a score, to base 2. -/
def pow2 (x : ℝ) : ℝ := Real.rpow 2 x

theorem pow2_pos (x : ℝ) : 0 < pow2 x := Real.rpow_pos_of_pos two_pos x

theorem pow2_sub (x y : ℝ) : pow2 (x - y) = pow2 x * (pow2 y)⁻¹ := by
  show (2 : ℝ) ^ (x - y) = (2 : ℝ) ^ x * ((2 : ℝ) ^ y)⁻¹
  rw [Real.rpow_sub two_pos, div_eq_mul_inv]

theorem exp_mul_log_two (x : ℝ) : Real.exp (x * Real.log 2) = pow2 x := by
  show _ = (2 : ℝ) ^ x
  rw [Real.rpow_def_of_pos two_pos, mul_comm]

/-- A score's share of the attention: the softmax, to base 2. -/
def soft {ι : Type*} [Fintype ι] (s v : ι → ℝ) : ℝ := (∑ k, pow2 (s k) * v k) / ∑ k, pow2 (s k)

theorem sum_pow2_pos {ι : Type*} [Fintype ι] [Nonempty ι] (s : ι → ℝ) : 0 < ∑ k, pow2 (s k) :=
  Finset.sum_pos (fun k _ => pow2_pos _) Finset.univ_nonempty

/-- The softmax does not change with a shift of the scores; the sum over the keys is split into the past ones and
    the new ones. -/
theorem soft_split {n m : ℕ} (s v : Fin (n + m) → ℝ) (M : ℝ) (hn : 0 < n) :
    (∑ k : Fin n, pow2 (s (Fin.castAdd m k) - M) * v (Fin.castAdd m k)
        + ∑ k : Fin m, pow2 (s (Fin.natAdd n k) - M) * v (Fin.natAdd n k))
      * (1 / (∑ k : Fin n, pow2 (s (Fin.castAdd m k) - M) + ∑ k : Fin m, pow2 (s (Fin.natAdd n k) - M)))
      = soft s v := by
  haveI : Nonempty (Fin (n + m)) := ⟨⟨0, by omega⟩⟩
  have h := sum_pow2_pos s
  have hM := pow2_pos M
  have e1 : (∑ k : Fin n, pow2 (s (Fin.castAdd m k) - M) * v (Fin.castAdd m k)
      + ∑ k : Fin m, pow2 (s (Fin.natAdd n k) - M) * v (Fin.natAdd n k)) = (∑ k, pow2 (s k) * v k) * (pow2 M)⁻¹ := by
    rw [← Fin.sum_univ_add (fun k => pow2 (s k - M) * v k), Finset.sum_mul]
    exact Finset.sum_congr rfl fun k _ => by rw [pow2_sub]; ring
  have e2 : (∑ k : Fin n, pow2 (s (Fin.castAdd m k) - M) + ∑ k : Fin m, pow2 (s (Fin.natAdd n k) - M))
      = (∑ k, pow2 (s k)) * (pow2 M)⁻¹ := by
    rw [← Fin.sum_univ_add (fun k => pow2 (s k - M)), Finset.sum_mul]
    exact Finset.sum_congr rfl fun k _ => by rw [pow2_sub]
  rw [e1, e2, soft]
  field_simp

/-- A weight of the softmax with base e of scores multiplied by the logarithm of 2 is one with base 2. -/
theorem soft_exp {ι : Type*} [Fintype ι] [Nonempty ι] (s : ι → ℝ) (M : ℝ) (k : ι) :
    Real.exp (s k * Real.log 2 - M) * (1 / ∑ j, Real.exp (s j * Real.log 2 - M))
      = pow2 (s k) / ∑ j, pow2 (s j) := by
  have h := sum_pow2_pos s
  have hM := Real.exp_pos M
  have e : ∀ j, Real.exp (s j * Real.log 2 - M) = pow2 (s j) * (Real.exp M)⁻¹ := fun j => by
    rw [Real.exp_sub, exp_mul_log_two, div_eq_mul_inv]
  simp only [e, ← Finset.sum_mul]
  field_simp

/-- The values weighted by the difference of two softmaxes are the difference of the weighted values. -/
theorem diff_soft {ι : Type*} [Fintype ι] (s t v : ι → ℝ) (l : ℝ) :
    ∑ k, v k * (pow2 (s k) / (∑ j, pow2 (s j)) - l * (pow2 (t k) / ∑ j, pow2 (t j))) = soft s v - l * soft t v := by
  simp only [soft, Finset.sum_div, Finset.mul_sum, ← Finset.sum_sub_distrib]
  exact Finset.sum_congr rfl fun k _ => by ring

end Cert.Proofs.RealMath
-- ==== Proof.Head.lean ====
module
public import proofs.«01_k».proof.Proof.Gen.KernelIdeal.Skeleton
public import proofs.«01_k».proof.Proof.RealMath
public import Idealize.ShloMosaic.Lib.Pointwise

@[expose] public section
noncomputable section
set_option maxRecDepth 16384

namespace Cert.Proofs.AttnSample
open Idealize.ShloMosaic Cert.KernelIdeal Cert.KernelIdeal.Gen Cert.Proofs.RealMath

/-- The bits of minus infinity. -/
theorem ofBits_neg_inf : Ideal.ofBits FTy.f32 0xFF800000#32 = ⊥ := by
  simp [Ideal.ofBits, Ideal.ieee]

/-- The scores of the past keys. -/
def pastScores (q2 : FVec Ideal S64x128 .bf16) (kc : Vec Ideal S1x1x128x4096 .f32) : FVec Ideal S64x4096 .f32 :=
  matmul dot_S64x128_S128x4096_S64x4096_1_0_0_1_n_n none q2
    (truncf .bf16 (shapeCast S128x4096 kc shapeCasts_S1x1x128x4096_S128x4096) bitsLt_bf16_f32)
    (constant S64x4096 .f32 0x00000000#32)

/-- The scores of the new keys. -/
def newScores (q2 : FVec Ideal S64x128 .bf16) (kn : Vec Ideal S1x32x128 .f32) : FVec Ideal S64x32 .f32 :=
  matmul dot_S64x128_S32x128_S64x32_1_1_0_0_n_n none q2
    (truncf .bf16 (shapeCast S32x128 kn shapeCasts_S1x32x128_S32x128) bitsLt_bf16_f32)
    (constant S64x32 .f32 0x00000000#32)

/-- The largest score of each row. -/
def rowMax (sc : FVec Ideal S64x4096 .f32) (sn : FVec Ideal S64x32 .f32) : FVec Ideal S64x1 .f32 :=
  maximumf
    (shapeCast S64x1 (multiReduction .maximumf [1] S64 sc 0xFF800000#32 reduces_S64x4096_S64 (.inl rfl) rfl) shapeCasts_S64_S64x1)
    (shapeCast S64x1 (multiReduction .maximumf [1] S64 sn 0xFF800000#32 reduces_S64x32_S64 (.inl rfl) rfl) shapeCasts_S64_S64x1)

/-- The weights of the past keys. -/
def pastWeights (sc : FVec Ideal S64x4096 .f32) (mx : FVec Ideal S64x1 .f32) : FVec Ideal S64x4096 .f32 :=
  exp2 (subf sc (broadcastTo S64x4096 mx broadcasts_S64x1_S64x4096))

/-- The weights of the new keys. -/
def newWeights (sn : FVec Ideal S64x32 .f32) (mx : FVec Ideal S64x1 .f32) : FVec Ideal S64x32 .f32 :=
  exp2 (subf sn (broadcastTo S64x32 mx broadcasts_S64x1_S64x32))

/-- The attention's rows: the weighted values by the sum of the weights. -/
def attRows (pc : FVec Ideal S64x4096 .f32) (pn : FVec Ideal S64x32 .f32) (vc : FVec Ideal S4096x128 .bf16)
    (vn : Vec Ideal S1x32x128 .f32) : FVec Ideal S64x128 .f32 :=
  divf
    (addf (matmul dot_S64x4096_S4096x128_S64x128_1_0_0_1_n_n none (truncf .bf16 pc bitsLt_bf16_f32) vc
        (constant S64x128 .f32 0x00000000#32))
      (matmul dot_S64x32_S32x128_S64x128_1_0_0_1_n_n none (truncf .bf16 pn bitsLt_bf16_f32)
        (truncf .bf16 (shapeCast S32x128 vn shapeCasts_S1x32x128_S32x128) bitsLt_bf16_f32)
        (constant S64x128 .f32 0x00000000#32)))
    (broadcastTo S64x128
      (addf (shapeCast S64x1 (multiReduction .add [1] S64 pc 0x00000000#32 reduces_S64x4096_S64 (.inl rfl) rfl) shapeCasts_S64_S64x1)
        (shapeCast S64x1 (multiReduction .add [1] S64 pn 0x00000000#32 reduces_S64x32_S64 (.inl rfl) rfl) shapeCasts_S64_S64x1))
      broadcasts_S64x1_S64x128)

/-- The difference of the two maps' rows. -/
def diffRows (lam : FVec Ideal S1x1 .f32) (o2 : FVec Ideal S64x128 .f32) : FVec Ideal S32x128 .f32 :=
  subf (extractStridedSlice S32x128 ![0, 0] o2 slices_S64x128_o0_0_S32x128)
    (mulf (broadcastTo S32x128 lam broadcasts_S1x1_S32x128)
      (extractStridedSlice S32x128 ![32, 0] o2 slices_S64x128_o32_0_S32x128))

theorem pay5_eq (lam : FVec Ideal S1x1 .f32) (q2 : FVec Ideal S64x128 .bf16) (vc : FVec Ideal S4096x128 .bf16)
    (kc : Vec Ideal S1x1x128x4096 .f32) (kn vn : Vec Ideal S1x32x128 .f32) :
    k0_pay5 lam q2 vc kc kn vn =
      diffRows lam (attRows (pastWeights (pastScores q2 kc) (rowMax (pastScores q2 kc) (newScores q2 kn)))
        (newWeights (newScores q2 kn) (rowMax (pastScores q2 kc) (newScores q2 kn))) vc vn) := rfl

theorem pastScores_apply (q2 : FVec Ideal S64x128 .bf16) (kc : Vec Ideal S1x1x128x4096 .f32) (r : Fin 64) (k : Fin 4096) :
    pastScores q2 kc (ix2 r k) = ∑ d : Fin 128, q2 (ix2 r d) * kc (ix4 0 0 d k) := by
  pointwise [pastScores]

theorem newScores_apply (q2 : FVec Ideal S64x128 .bf16) (kn : Vec Ideal S1x32x128 .f32) (r : Fin 64) (k : Fin 32) :
    newScores q2 kn (ix2 r k) = ∑ d : Fin 128, q2 (ix2 r d) * kn (ix3 0 k d) := by
  pointwise [newScores]

theorem rowMax_apply (sc : FVec Ideal S64x4096 .f32) (sn : FVec Ideal S64x32 .f32) (r : Fin 64) :
    rowMax sc sn (ix2 r 0) = max (Finset.univ.fold max ⊥ fun k : Fin 4096 => sc (ix2 r k))
      (Finset.univ.fold max ⊥ fun k : Fin 32 => sn (ix2 r k)) := by
  pointwise [rowMax]
  rw [ofBits_neg_inf]

theorem pastWeights_apply (sc : FVec Ideal S64x4096 .f32) (mx : FVec Ideal S64x1 .f32) (r : Fin 64) (k : Fin 4096) :
    pastWeights sc mx (ix2 r k) = Ideal.exp2 (sc (ix2 r k) - mx (ix2 r 0)) := by
  pointwise [pastWeights]
  rfl

theorem newWeights_apply (sn : FVec Ideal S64x32 .f32) (mx : FVec Ideal S64x1 .f32) (r : Fin 64) (k : Fin 32) :
    newWeights sn mx (ix2 r k) = Ideal.exp2 (sn (ix2 r k) - mx (ix2 r 0)) := by
  pointwise [newWeights]
  rfl

theorem attRows_apply (pc : FVec Ideal S64x4096 .f32) (pn : FVec Ideal S64x32 .f32) (vc : FVec Ideal S4096x128 .bf16)
    (vn : Vec Ideal S1x32x128 .f32) (r : Fin 64) (e : Fin 128) :
    attRows pc pn vc vn (ix2 r e) = Ideal.div
      ((∑ k : Fin 4096, pc (ix2 r k) * vc (ix2 k e)) + ∑ k : Fin 32, pn (ix2 r k) * vn (ix3 0 k e))
      ((∑ k : Fin 4096, pc (ix2 r k)) + ∑ k : Fin 32, pn (ix2 r k)) := by
  pointwise [attRows]

theorem diffRows_apply (lam : FVec Ideal S1x1 .f32) (o2 : FVec Ideal S64x128 .f32) (i : Fin 32) (e : Fin 128) :
    diffRows lam o2 (ix2 i e) = o2 (ix2 (i.castAdd 32) e) - lam (ix2 0 0) * o2 (ix2 (i.natAdd 32) e) := by
  pointwise [diffRows]
  rfl

/-- The query of each map: the first map's rows hold the first half of the lanes, the second map's the second. -/
theorem pay3_apply (q : Vec Ideal S1x32x128 .bf16) (r : Fin 64) (d : Fin 128) :
    k0_pay3 q (ix2 r d) = if h : r.val < 32 then (if d.val < 64 then q (ix3 0 ⟨r.val, h⟩ d) else 0)
      else (if d.val < 64 then 0 else q (ix3 0 ⟨r.val - 32, by omega⟩ d)) := by
  pointwise [k0_pay3]
  have hd : d.val < 128 := d.isLt
  have hs : IntOp.cmpi CmpIPredicate.slt (BitVec.ofNat 32 d.val) 64#32 = if d.val < 64 then 1#1 else 0#1 := by
    revert d; decide
  have hg : IntOp.cmpi CmpIPredicate.sge (BitVec.ofNat 32 d.val) 64#32 = if d.val < 64 then 0#1 else 1#1 := by
    revert d; decide
  rw [hs, hg]
  split <;> split <;> rfl

theorem pay4_apply (v : Vec Ideal S1x4096x128 .f32) (k : Fin 4096) (e : Fin 128) :
    k0_pay4 v (ix2 k e) = v (ix3 0 k e) := by
  pointwise [k0_pay4]

/-- The weight of the second map. -/
theorem pay2_apply (a b c d : Vec Ideal S1x64 .f32) :
    k0_pay2 a b c d (ix2 0 0) = Ideal.exp (∑ x : Fin 64, a (ix2 0 x) * b (ix2 0 x))
      - Ideal.exp (∑ x : Fin 64, c (ix2 0 x) * d (ix2 0 x)) + Ideal.ofBits FTy.f32 0x3E4CCCCD#32 := by
  pointwise [k0_pay2]

/-- A row brought to unit mean square, weighted and scaled. -/
def finish (o : Fin 128 → EReal) (w : Fin 128 → EReal) (e : Fin 128) : EReal :=
  o e * Ideal.rsqrt (Ideal.div (∑ x, o x * o x) (Ideal.ofBits FTy.f32 0x43000000#32) + Ideal.ofBits FTy.f32 0x358637BD#32)
    * w e * Ideal.ofBits FTy.f32 0x3F4CCCCD#32

theorem pay7_apply (o : FVec Ideal S32x128 .f32) (w : Vec Ideal S1x128 .f32) (i : Fin 32) (e : Fin 128) :
    k0_pay7 o (k0_pay6 w) (ix3 0 i e) = finish (fun x => o (ix2 i x)) (fun x => w (ix2 0 x)) e := by
  pointwise [k0_pay7, k0_pay6]
  rfl

/-- Row `r`'s scores: of the past keys, then of the new ones. -/
def scoreRow (Q2 : Fin 64 → Fin 128 → ℝ) (KC : Fin 128 → Fin 4096 → ℝ) (KN : Fin 32 → Fin 128 → ℝ) (r : Fin 64) :
    Fin (4096 + 32) → ℝ :=
  Fin.addCases (fun k => ∑ d, Q2 r d * KC d k) (fun k => ∑ d, Q2 r d * KN k d)

/-- Lane `e`'s values: the past ones, then the new ones. -/
def valueLane (VC : Fin 4096 → Fin 128 → ℝ) (VN : Fin 32 → Fin 128 → ℝ) (e : Fin 128) : Fin (4096 + 32) → ℝ :=
  Fin.addCases (fun k => VC k e) (fun k => VN k e)

/-- On real arguments the row of the attention is the softmax of its scores on the values. -/
theorem attRows_value (q2 : FVec Ideal S64x128 .bf16) (vc : FVec Ideal S4096x128 .bf16)
    (kc : Vec Ideal S1x1x128x4096 .f32) (kn vn : Vec Ideal S1x32x128 .f32)
    (Q2 : Fin 64 → Fin 128 → ℝ) (KC : Fin 128 → Fin 4096 → ℝ) (VC : Fin 4096 → Fin 128 → ℝ)
    (KN VN : Fin 32 → Fin 128 → ℝ)
    (hq : ∀ r d, q2 (ix2 r d) = (Q2 r d : EReal)) (hkc : ∀ d k, kc (ix4 0 0 d k) = (KC d k : EReal))
    (hvc : ∀ k e, vc (ix2 k e) = (VC k e : EReal)) (hkn : ∀ k d, kn (ix3 0 k d) = (KN k d : EReal))
    (hvn : ∀ k e, vn (ix3 0 k e) = (VN k e : EReal)) (r : Fin 64) (e : Fin 128) :
    attRows (pastWeights (pastScores q2 kc) (rowMax (pastScores q2 kc) (newScores q2 kn)))
        (newWeights (newScores q2 kn) (rowMax (pastScores q2 kc) (newScores q2 kn))) vc vn (ix2 r e)
      = ((soft (scoreRow Q2 KC KN r) (valueLane VC VN e) : ℝ) : EReal) := by
  have es : ∀ k, pastScores q2 kc (ix2 r k) = ((scoreRow Q2 KC KN r (Fin.castAdd 32 k) : ℝ) : EReal) := fun k => by
    rw [pastScores_apply, scoreRow, Fin.addCases_left, ← coe_sum]
    exact Finset.sum_congr rfl fun d _ => by rw [hq, hkc, EReal.coe_mul]
  have en : ∀ k, newScores q2 kn (ix2 r k) = ((scoreRow Q2 KC KN r (Fin.natAdd 4096 k) : ℝ) : EReal) := fun k => by
    rw [newScores_apply, scoreRow, Fin.addCases_right, ← coe_sum]
    exact Finset.sum_congr rfl fun d _ => by rw [hq, hkn, EReal.coe_mul]
  obtain ⟨M, hM⟩ : ∃ M : ℝ, rowMax (pastScores q2 kc) (newScores q2 kn) (ix2 r 0) = (M : EReal) := by
    obtain ⟨a, ha⟩ := fold_max_bot (fun k : Fin 4096 => scoreRow Q2 KC KN r (Fin.castAdd 32 k))
    obtain ⟨b, hb⟩ := fold_max_bot (fun k : Fin 32 => scoreRow Q2 KC KN r (Fin.natAdd 4096 k))
    refine ⟨max a b, ?_⟩
    rw [rowMax_apply]
    simp only [es, en]
    rw [ha, hb, EReal.coe_strictMono.monotone.map_max]
  have ep : ∀ k, pastWeights (pastScores q2 kc) (rowMax (pastScores q2 kc) (newScores q2 kn)) (ix2 r k)
      = ((pow2 (scoreRow Q2 KC KN r (Fin.castAdd 32 k) - M) : ℝ) : EReal) := fun k => by
    rw [pastWeights_apply, es, hM, ← EReal.coe_sub, Ideal.exp2_coe]; rfl
  have eq : ∀ k, newWeights (newScores q2 kn) (rowMax (pastScores q2 kc) (newScores q2 kn)) (ix2 r k)
      = ((pow2 (scoreRow Q2 KC KN r (Fin.natAdd 4096 k) - M) : ℝ) : EReal) := fun k => by
    rw [newWeights_apply, en, hM, ← EReal.coe_sub, Ideal.exp2_coe]; rfl
  have hpos : (∑ k : Fin 4096, pow2 (scoreRow Q2 KC KN r (Fin.castAdd 32 k) - M)
      + ∑ k : Fin 32, pow2 (scoreRow Q2 KC KN r (Fin.natAdd 4096 k) - M)) ≠ 0 :=
    (add_pos (sum_pow2_pos _) (sum_pow2_pos _)).ne'
  rw [attRows_apply]
  simp only [ep, eq, hvc, hvn, ← EReal.coe_mul, coe_sum, ← EReal.coe_add]
  rw [Ideal.div_coe hpos, ← EReal.coe_mul]
  refine congrArg _ ?_
  rw [← soft_split (scoreRow Q2 KC KN r) (valueLane VC VN e) M (by omega)]
  simp only [valueLane, Fin.addCases_left, Fin.addCases_right]

/-- On real arguments the difference of the two maps. -/
theorem pay5_value (lam : FVec Ideal S1x1 .f32) (q2 : FVec Ideal S64x128 .bf16) (vc : FVec Ideal S4096x128 .bf16)
    (kc : Vec Ideal S1x1x128x4096 .f32) (kn vn : Vec Ideal S1x32x128 .f32)
    (L : ℝ) (Q2 : Fin 64 → Fin 128 → ℝ) (KC : Fin 128 → Fin 4096 → ℝ) (VC : Fin 4096 → Fin 128 → ℝ)
    (KN VN : Fin 32 → Fin 128 → ℝ)
    (hl : lam (ix2 0 0) = (L : EReal))
    (hq : ∀ r d, q2 (ix2 r d) = (Q2 r d : EReal)) (hkc : ∀ d k, kc (ix4 0 0 d k) = (KC d k : EReal))
    (hvc : ∀ k e, vc (ix2 k e) = (VC k e : EReal)) (hkn : ∀ k d, kn (ix3 0 k d) = (KN k d : EReal))
    (hvn : ∀ k e, vn (ix3 0 k e) = (VN k e : EReal)) (i : Fin 32) (e : Fin 128) :
    k0_pay5 lam q2 vc kc kn vn (ix2 i e)
      = ((soft (scoreRow Q2 KC KN (i.castAdd 32)) (valueLane VC VN e)
          - L * soft (scoreRow Q2 KC KN (i.natAdd 32)) (valueLane VC VN e) : ℝ) : EReal) := by
  rw [pay5_eq, diffRows_apply, attRows_value q2 vc kc kn vn Q2 KC VC KN VN hq hkc hvc hkn hvn,
    attRows_value q2 vc kc kn vn Q2 KC VC KN VN hq hkc hvc hkn hvn, hl, EReal.coe_sub, EReal.coe_mul]

end Cert.Proofs.AttnSample
-- ==== Proof.Heads.lean ====
module
public import proofs.«01_k».proof.Proof.Head

@[expose] public section
noncomputable section
set_option maxRecDepth 16384

namespace Cert.Proofs.AttnSample
open Idealize.ShloMosaic Cert.KernelIdeal Cert.KernelIdeal.Gen Cert.Proofs.RealMath

/-- Bits whose exponent is not all ones are those of a real number. -/
theorem ieee_real (e m : ℕ) {w : ℕ} (b : BitVec w) (h : (b.extractLsb' m e).toNat ≠ 2 ^ e - 1) :
    ∃ c : ℝ, Ideal.ieee e m b = (c : EReal) := by
  unfold Ideal.ieee
  dsimp only
  rw [if_neg h]
  split <;> exact ⟨_, rfl⟩

/-- The constant added to the second map's weight is a real number. -/
theorem ofBits_lam : ∃ c : ℝ, Ideal.ofBits FTy.f32 0x3E4CCCCD#32 = (c : EReal) :=
  ieee_real 8 23 0x3E4CCCCD#32 (by decide)

/-- The rows of the two maps' queries: each map's half of the lanes, zeros in the other half. -/
def maskRows (Q : Fin 32 → Fin 128 → ℝ) (r : Fin 64) (d : Fin 128) : ℝ :=
  if h : r.val < 32 then (if d.val < 64 then Q ⟨r.val, h⟩ d else 0)
  else (if d.val < 64 then 0 else Q ⟨r.val - 32, by omega⟩ d)

/-- Lane `d` of half `m`. -/
abbrev lane (m : Fin 2) (d : Fin 64) : Fin 128 := ⟨64 * m.val + d.val, by omega⟩

/-- One map's scores: its 64 lanes of the queries and of the keys multiplied and added up, the past keys first. -/
def mapScore (Q : Fin 32 → Fin 128 → ℝ) (KC : Fin 128 → Fin 4096 → ℝ) (KN : Fin 32 → Fin 128 → ℝ) (m : Fin 2)
    (i : Fin 32) : Fin (4096 + 32) → ℝ :=
  Fin.addCases (fun k => ∑ d : Fin 64, Q i (lane m d) * KC (lane m d) k)
    (fun k => ∑ d : Fin 64, Q i (lane m d) * KN k (lane m d))

/-- A sum over 128 lanes is the sum of its halves. -/
theorem sum_lanes (f : Fin 128 → ℝ) : ∑ d, f d = ∑ d : Fin 64, f (lane 0 d) + ∑ d : Fin 64, f (lane 1 d) := by
  rw [show ∑ d, f d = ∑ d : Fin (64 + 64), f d from rfl, Fin.sum_univ_add]
  refine congrArg₂ _ (Finset.sum_congr rfl fun d _ => congrArg f (Fin.ext ?_))
    (Finset.sum_congr rfl fun d _ => congrArg f (Fin.ext ?_))
  · show d.val = 64 * 0 + d.val
    omega
  · show 64 + d.val = 64 * 1 + d.val
    omega

/-- A masked row's product with any lanes is the product of its map's half. -/
theorem mask_sum_first (Q : Fin 32 → Fin 128 → ℝ) (K : Fin 128 → ℝ) (i : Fin 32) :
    ∑ d, maskRows Q (i.castAdd 32) d * K d = ∑ d : Fin 64, Q i (lane 0 d) * K (lane 0 d) := by
  rw [sum_lanes]
  have e0 : ∀ d : Fin 64, maskRows Q (i.castAdd 32) (lane 0 d) = Q i (lane 0 d) := fun d => by
    have hi : (i.castAdd 32).val < 32 := i.isLt
    have hd : (lane 0 d).val < 64 := by show 64 * 0 + d.val < 64; omega
    rw [maskRows, dif_pos hi, if_pos hd]
    rfl
  have e1 : ∀ d : Fin 64, maskRows Q (i.castAdd 32) (lane 1 d) = 0 := fun d => by
    have hi : (i.castAdd 32).val < 32 := i.isLt
    have hd : ¬ (lane 1 d).val < 64 := by show ¬ 64 * 1 + d.val < 64; omega
    rw [maskRows, dif_pos hi, if_neg hd]
  simp only [e0, e1, zero_mul, Finset.sum_const_zero, add_zero]

theorem mask_sum_second (Q : Fin 32 → Fin 128 → ℝ) (K : Fin 128 → ℝ) (i : Fin 32) :
    ∑ d, maskRows Q (i.natAdd 32) d * K d = ∑ d : Fin 64, Q i (lane 1 d) * K (lane 1 d) := by
  rw [sum_lanes]
  have hi : ¬ (i.natAdd 32).val < 32 := by show ¬ 32 + i.val < 32; omega
  have e0 : ∀ d : Fin 64, maskRows Q (i.natAdd 32) (lane 0 d) = 0 := fun d => by
    have hd : (lane 0 d).val < 64 := by show 64 * 0 + d.val < 64; omega
    rw [maskRows, dif_neg hi, if_pos hd]
  have e1 : ∀ d : Fin 64, maskRows Q (i.natAdd 32) (lane 1 d) = Q i (lane 1 d) := fun d => by
    have hd : ¬ (lane 1 d).val < 64 := by show ¬ 64 * 1 + d.val < 64; omega
    rw [maskRows, dif_neg hi, if_neg hd]
    exact congrArg (fun x => Q x _) (Fin.ext (by show 32 + i.val - 32 = i.val; omega))
  simp only [e0, e1, zero_mul, Finset.sum_const_zero, zero_add]

theorem scoreRow_first (Q : Fin 32 → Fin 128 → ℝ) (KC : Fin 128 → Fin 4096 → ℝ) (KN : Fin 32 → Fin 128 → ℝ)
    (i : Fin 32) : scoreRow (maskRows Q) KC KN (i.castAdd 32) = mapScore Q KC KN 0 i := by
  funext k
  induction k using Fin.addCases with
  | left k => simp only [scoreRow, mapScore, Fin.addCases_left]; exact mask_sum_first Q (fun d => KC d k) i
  | right k => simp only [scoreRow, mapScore, Fin.addCases_right]; exact mask_sum_first Q (fun d => KN k d) i

theorem scoreRow_second (Q : Fin 32 → Fin 128 → ℝ) (KC : Fin 128 → Fin 4096 → ℝ) (KN : Fin 32 → Fin 128 → ℝ)
    (i : Fin 32) : scoreRow (maskRows Q) KC KN (i.natAdd 32) = mapScore Q KC KN 1 i := by
  funext k
  induction k using Fin.addCases with
  | left k => simp only [scoreRow, mapScore, Fin.addCases_left]; exact mask_sum_second Q (fun d => KC d k) i
  | right k => simp only [scoreRow, mapScore, Fin.addCases_right]; exact mask_sum_second Q (fun d => KN k d) i

/-- The differential attention of one head: the first map's row less the second map's, weighted. -/
def diffAttn (L : ℝ) (Q : Fin 32 → Fin 128 → ℝ) (KC : Fin 128 → Fin 4096 → ℝ) (VC : Fin 4096 → Fin 128 → ℝ)
    (KN VN : Fin 32 → Fin 128 → ℝ) (i : Fin 32) (e : Fin 128) : ℝ :=
  soft (mapScore Q KC KN 0 i) (valueLane VC VN e) - L * soft (mapScore Q KC KN 1 i) (valueLane VC VN e)

/-- One head of the block, as the first head's payloads write it. -/
def headOut (lam : FVec Ideal S1x1 .f32) (q : Vec Ideal S1x32x128 .bf16) (kc : Vec Ideal S1x1x128x4096 .f32)
    (vc : Vec Ideal S1x4096x128 .f32) (kn vn : Vec Ideal S1x32x128 .f32) (sw : Vec Ideal S1x128 .f32) :
    FVec Ideal S1x32x128 .bf16 :=
  k0_pay7 (k0_pay5 lam (k0_pay3 q) (k0_pay4 vc) kc kn vn) (k0_pay6 sw)

theorem head1_eq (lam : FVec Ideal S1x1 .f32) (q : Vec Ideal S1x32x128 .bf16) (kc : Vec Ideal S1x1x128x4096 .f32)
    (vc : Vec Ideal S1x4096x128 .f32) (kn vn : Vec Ideal S1x32x128 .f32) (sw : Vec Ideal S1x128 .f32) :
    k0_pay15 (k0_pay11 lam (k0_pay8 q) (k0_pay9 vc) (k0_pay10 kc) kn vn) (k0_pay12 sw)
      (k0_pay13 lam (k0_pay8 q) (k0_pay9 vc) (k0_pay10 kc) kn vn) k0_pay14 = headOut lam q kc vc kn vn sw := rfl

theorem head2_eq (lam : FVec Ideal S1x1 .f32) (q : Vec Ideal S1x32x128 .bf16) (kc : Vec Ideal S1x1x128x4096 .f32)
    (vc : Vec Ideal S1x4096x128 .f32) (kn vn : Vec Ideal S1x32x128 .f32) (sw : Vec Ideal S1x128 .f32) :
    k0_pay22 (k0_pay19 lam (k0_pay16 q) (k0_pay17 vc) (k0_pay18 q kc) kn vn) (k0_pay20 sw)
      (k0_pay21 lam (k0_pay16 q) (k0_pay17 vc) (k0_pay18 q kc) kn vn) = headOut lam q kc vc kn vn sw := rfl

theorem head3_eq (lam : FVec Ideal S1x1 .f32) (q : Vec Ideal S1x32x128 .bf16) (kc : Vec Ideal S1x1x128x4096 .f32)
    (vc : Vec Ideal S1x4096x128 .f32) (kn vn : Vec Ideal S1x32x128 .f32) (sw : Vec Ideal S1x128 .f32) :
    k0_pay1 (k0_pay28 lam (k0_pay24 vc) (k0_pay25 q kc) (k0_pay26 q kn) (k0_pay27 q kc) vn sw)
      = headOut lam q kc vc kn vn sw := rfl

/-- A head on real arguments: the differential attention's row, brought to unit mean square, weighted and scaled. -/
theorem headOut_value (lam : FVec Ideal S1x1 .f32) (q : Vec Ideal S1x32x128 .bf16) (kc : Vec Ideal S1x1x128x4096 .f32)
    (vc : Vec Ideal S1x4096x128 .f32) (kn vn : Vec Ideal S1x32x128 .f32) (sw : Vec Ideal S1x128 .f32)
    (L : ℝ) (Q : Fin 32 → Fin 128 → ℝ) (KC : Fin 128 → Fin 4096 → ℝ) (VC : Fin 4096 → Fin 128 → ℝ)
    (KN VN : Fin 32 → Fin 128 → ℝ)
    (hl : lam (ix2 0 0) = (L : EReal))
    (hq : ∀ i d, q (ix3 0 i d) = (Q i d : EReal)) (hkc : ∀ d k, kc (ix4 0 0 d k) = (KC d k : EReal))
    (hvc : ∀ k e, vc (ix3 0 k e) = (VC k e : EReal)) (hkn : ∀ k d, kn (ix3 0 k d) = (KN k d : EReal))
    (hvn : ∀ k e, vn (ix3 0 k e) = (VN k e : EReal)) (i : Fin 32) (e : Fin 128) :
    headOut lam q kc vc kn vn sw (ix3 0 i e)
      = finish (fun x => ((diffAttn L Q KC VC KN VN i x : ℝ) : EReal)) (fun x => sw (ix2 0 x)) e := by
  have hq2 : ∀ r d, k0_pay3 q (ix2 r d) = (maskRows Q r d : EReal) := fun r d => by
    rw [pay3_apply, maskRows]
    split <;> split <;> first | exact hq _ _ | exact EReal.coe_zero.symm
  have hv : ∀ k e, k0_pay4 vc (ix2 k e) = (VC k e : EReal) := fun k e => (pay4_apply vc k e).trans (hvc k e)
  unfold headOut
  rw [pay7_apply]
  refine congrArg (fun o => finish o _ e) (funext fun x => ?_)
  rw [pay5_value lam _ _ kc kn vn L (maskRows Q) KC VC KN VN hl hq2 hkc hv hkn hvn, scoreRow_first, scoreRow_second]
  rfl

end Cert.Proofs.AttnSample
-- ==== Proof.Pre.lean ====
module

public import proofs.«01_k».proof.Proof.Gen.Pre_finite_inputs
public import Idealize.ShloMosaic.Lib.ReduceAll
public import Idealize.ShloMosaic.Lib.Pointwise
public import proofs.«01_k».proof.Proof.Heads

@[expose] public section

set_option maxRecDepth 16384

noncomputable section

namespace Cert.Proofs.Finite

open Idealize.ShloMosaic

theorem ofBits_inf : Ideal.ofBits .f32 0x7F800000#32 = (⊤ : EReal) := by
  simp [Ideal.ofBits, Ideal.ieee]

/-- An extended real whose absolute value is below the infinite one is a real. -/
theorem real_of_abs_lt (x : EReal) (h : max x (-x) < ⊤) : ∃ r : ℝ, x = (r : EReal) := by
  induction x with
  | bot => simp at h
  | top => simp at h
  | coe r => exact ⟨r, rfl⟩

/-- What `jnp.all(jnp.abs(x) < inf)` says of an array: every element is a real. -/
theorem real_of_all {s t u : Shape} [Subsingleton t.Idx] {axes : List (Fin s.rank)} (x : FVec Ideal s .f32)
    {z : Shape} {dims : Fin z.rank → Fin s.rank} (hb : z.BroadcastsInDim s dims) (init : u.Idx → BitVec 1)
    (h : s.ReducesTo axes t) (hu : 0 < u.numel) (j : t.Idx)
    (e : Host.reduce IntOp.andi (cmpf .olt (Host.absf x) (broadcastInDim s dims hb (constant z .f32 0x7F800000#32))) init h hu j
      = 1#1) (i : s.Idx) : ∃ r : ℝ, x i = (r : EReal) := by
  have hi := Host.reduce_andi_all _ _ h hu j e i
  refine real_of_abs_lt (x i) ?_
  rw [← ofBits_inf]
  by_contra hn
  revert hi
  show ¬ (BitVec.ofBool (decide (max (x i) (-(x i)) < Ideal.ofBits .f32 0x7F800000#32)) = 1#1)
  rw [decide_eq_false hn]
  decide

end Cert.Proofs.Finite
-- ==== Proof.Block.lean ====
module
public import proofs.«01_k».proof.Proof.Heads
public import proofs.«01_k».proof.Proof.Gen.KernelIdeal.Value

@[expose] public section
noncomputable section
set_option maxRecDepth 16384

namespace Cert.Proofs.AttnSample
open Idealize.ShloMosaic Idealize.ShloMosaic.TcCoe Cert.KernelIdeal Cert.KernelIdeal.Gen Cert.Proofs.RealMath

/-- Head `j`'s lanes of a block of 4 heads. -/
abbrev laneRect (j : Fin 4) : Rect S1x32x512 :=
  Rect.unit ![0, 0, 128 * j.val] ![1, 32, 128] (by revert j; decide)

/-- Head `j`'s past keys. -/
abbrev keyRect (j : Fin 4) : Rect S1x4x128x4096 :=
  Rect.unit ![0, j.val, 0, 0] ![1, 1, 128, 4096] (by revert j; decide)

/-- Head `j`'s past values: every eighth row. -/
abbrev valueRect (i : grid0.Coords) (j : Fin 4) : LoadRect S1x32768x128 :=
  ⟨k0_off1 i (BitVec.ofNat 32 j.val), ![1, 4096, 128], ![1, 8, 1], k0_off1_inb i j⟩

/-- Head `j` of the block of the inputs' blocks. -/
def headAt (i : grid0.Coords) (x0 : Vec Ideal S1x32x512 .bf16) (x1 : Vec Ideal S1x4x128x4096 .f32)
    (x2 : Vec Ideal S1x32768x128 .f32) (x3 x4 : Vec Ideal S1x32x512 .f32) (x5 x6 x7 x8 : Vec Ideal S1x64 .f32)
    (x9 : Vec Ideal S1x128 .f32) (j : Fin 4) : FVec Ideal S1x32x128 .bf16 :=
  headOut (k0_pay2 x5 x6 x7 x8) (View.ld x0 (laneRect j)) (View.ld x1 (keyRect j))
    (fun y => x2 ((valueRect i j).idx y)) (View.ld x3 (laneRect j)) (View.ld x4 (laneRect j)) x9

theorem hz2 : (![0, 0] : Fin 2 → Nat) = fun _ => 0 := funext fun a => by fin_cases a <;> rfl

theorem ld_whole64 (x : Vec Ideal S1x64 .f32) : View.ld x (Rect.unit ![0, 0] ![1, 64] inb_S1x64_S1x64_0_0) = x :=
  View.ld_unit_zero hz2 _ _

theorem ld_whole128 (x : Vec Ideal S1x128 .f32) : View.ld x (Rect.unit ![0, 0] ![1, 128] inb_S1x128_S1x128_0_0) = x :=
  View.ld_unit_zero hz2 _ _

/-- A load through a box of a whole array reads the array at the box's indices. -/
theorem readAt_unread (arg : Memref sig .tc .vmem S1x32768x128 .f32) (h : arg.IsWhole) (x : Vec Ideal S1x32768x128 .f32)
    (B : LoadRect S1x32768x128) : View.readAt (Elt Ideal) arg.view B (h.unread x) = fun y => x (B.idx y) := by
  funext y
  rw [View.readAt_apply, h.read_unread]

set_option maxHeartbeats 1000000 in
/-- What the body's four stores leave: one head each. -/
theorem pieces_eq
    (c : Dev nD) (i : grid0.Coords) (arg2 : Memref sig .tc .vmem S1x32x512 .bf16) (harg2 : arg2.IsWhole)
    (arg3 : Memref sig .tc .vmem S1x4x128x4096 .f32) (harg3 : arg3.IsWhole)
    (arg4 : Memref sig .tc .vmem S1x32768x128 .f32) (harg4 : arg4.IsWhole)
    (arg5 : Memref sig .tc .vmem S1x32x512 .f32) (harg5 : arg5.IsWhole) (arg6 : Memref sig .tc .vmem S1x32x512 .f32)
    (harg6 : arg6.IsWhole) (arg7 : Memref sig .tc .vmem S1x64 .f32) (harg7 : arg7.IsWhole)
    (arg8 : Memref sig .tc .vmem S1x64 .f32) (harg8 : arg8.IsWhole) (arg9 : Memref sig .tc .vmem S1x64 .f32)
    (harg9 : arg9.IsWhole) (arg10 : Memref sig .tc .vmem S1x64 .f32) (harg10 : arg10.IsWhole)
    (arg11 : Memref sig .tc .vmem S1x128 .f32) (harg11 : arg11.IsWhole)
    (arg12 : Memref sig .tc .vmem S1x32x512 .bf16) (harg12 : arg12.IsWhole) (x0 : Vec Ideal S1x32x512 .bf16)
    (x1 : Vec Ideal S1x4x128x4096 .f32) (x2 : Vec Ideal S1x32768x128 .f32) (x3 : Vec Ideal S1x32x512 .f32)
    (x4 : Vec Ideal S1x32x512 .f32) (x5 : Vec Ideal S1x64 .f32) (x6 : Vec Ideal S1x64 .f32)
    (x7 : Vec Ideal S1x64 .f32) (x8 : Vec Ideal S1x64 .f32) (x9 : Vec Ideal S1x128 .f32) :
    (kernelRun0_A (F := Ideal)
      c i arg2 harg2 arg3 harg3 arg4 harg4 arg5 harg5 arg6 harg6 arg7 harg7 arg8 harg8 arg9 harg9 arg10 harg10
      arg11 harg11 arg12 harg12 x0 x1 x2 x3 x4 x5 x6 x7 x8 x9).1
      = [⟨laneRect 3, headAt i x0 x1 x2 x3 x4 x5 x6 x7 x8 x9 3⟩, ⟨laneRect 2, headAt i x0 x1 x2 x3 x4 x5 x6 x7 x8 x9 2⟩,
        ⟨laneRect 1, headAt i x0 x1 x2 x3 x4 x5 x6 x7 x8 x9 1⟩, ⟨laneRect 0, headAt i x0 x1 x2 x3 x4 x5 x6 x7 x8 x9 0⟩] := by
  unfold kernelRun0_A
  dsimp only
  simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r, View.readAt_eq_ld, Memref.IsWhole.read_unread, ld_whole64, ld_whole128, readAt_unread]
  refine congrArg₂ List.cons ?_ (congrArg₂ List.cons ?_ (congrArg₂ List.cons ?_ (congrArg₂ List.cons ?_ rfl)))
  · exact congrArg (Sigma.mk (laneRect 3)) (head3_eq _ _ _ _ _ _ _)
  · exact congrArg (Sigma.mk (laneRect 2)) (head2_eq _ _ _ _ _ _ _)
  · exact congrArg (Sigma.mk (laneRect 1)) (head1_eq _ _ _ _ _ _ _)
  · rfl

/-- Lane `d` of head `j` of a block. -/
abbrev col (j : Fin 4) (d : Fin 128) : Fin 512 := ⟨128 * j.val + d.val, by omega⟩

/-- The row of the past values of head `j` of the block at key `k`. -/
abbrev vrow (i : grid0.Coords) (j : Fin 4) (k : Fin 4096) : Fin 32768 :=
  ⟨8 * k.val + (4 * (i 1).val + j.val), by have h : (i 1).val < 2 := (i 1).isLt; omega⟩

/-- A block's value at head `j`, row `r`, lane `e`, of the block's real arguments. -/
def blockVal (i : grid0.Coords) (L : ℝ) (Q : Fin 32 → Fin 512 → ℝ) (KC : Fin 4 → Fin 128 → Fin 4096 → ℝ)
    (VV : Fin 32768 → Fin 128 → ℝ) (KN VN : Fin 32 → Fin 512 → ℝ) (W : Fin 128 → EReal) (j : Fin 4) (r : Fin 32)
    (e : Fin 128) : EReal :=
  finish (fun x => ((diffAttn L (fun r d => Q r (col j d)) (KC j) (fun k e => VV (vrow i j k) e)
    (fun k d => KN k (col j d)) (fun k d => VN k (col j d)) r x : ℝ) : EReal)) W e

theorem ld_lane {φ : EltTy} (x : S1x32x512.Idx → Elt Ideal φ) (j : Fin 4) (r : Fin 32) (d : Fin 128) :
    View.ld x (laneRect j) (ix3 0 r d) = x (ix3 0 r (col j d)) := by
  show x _ = x _
  refine congrArg x (funext fun a => Fin.ext ?_)
  match a with
  | ⟨0, _⟩ => rfl
  | ⟨1, _⟩ => show 0 + 1 * r.val = r.val; omega
  | ⟨2, _⟩ => show 128 * j.val + 1 * d.val = 128 * j.val + d.val; omega

theorem ld_key (x : Vec Ideal S1x4x128x4096 .f32) (j : Fin 4) (d : Fin 128) (k : Fin 4096) :
    View.ld x (keyRect j) (ix4 0 0 d k) = x (ix4 0 j d k) := by
  show x _ = x _
  refine congrArg x (funext fun a => Fin.ext ?_)
  match a with
  | ⟨0, _⟩ => rfl
  | ⟨1, _⟩ => show j.val + 1 * 0 = j.val; omega
  | ⟨2, _⟩ => show 0 + 1 * d.val = d.val; omega
  | ⟨3, _⟩ => show 0 + 1 * k.val = k.val; omega

theorem ld_value (i : grid0.Coords) (x : Vec Ideal S1x32768x128 .f32) (j : Fin 4) (k : Fin 4096) (e : Fin 128) :
    x ((valueRect i j).idx (ix3 0 k e)) = x (ix3 0 (vrow i j k) e) := by
  refine congrArg x (funext fun a => Fin.ext ?_)
  have ho := k0_off1_eq i j
  match a with
  | ⟨0, _⟩ =>
    show k0_off1 i (BitVec.ofNat 32 j.val) 0 + 1 * 0 = 0
    rw [ho]; rfl
  | ⟨1, _⟩ =>
    show k0_off1 i (BitVec.ofNat 32 j.val) 1 + 8 * k.val = 8 * k.val + (4 * (i 1).val + j.val)
    rw [ho]
    show 4 * (i 1).val + j.val + 8 * k.val = _
    omega
  | ⟨2, _⟩ =>
    show k0_off1 i (BitVec.ofNat 32 j.val) 2 + 1 * e.val = e.val
    rw [ho]
    show 0 + 1 * e.val = e.val
    omega

section
variable (i : grid0.Coords) (x0 : Vec Ideal S1x32x512 .bf16) (x1 : Vec Ideal S1x4x128x4096 .f32)
  (x2 : Vec Ideal S1x32768x128 .f32) (x3 x4 : Vec Ideal S1x32x512 .f32) (x5 x6 x7 x8 : Vec Ideal S1x64 .f32)
  (x9 : Vec Ideal S1x128 .f32)
  (L : ℝ) (Q : Fin 32 → Fin 512 → ℝ) (KC : Fin 4 → Fin 128 → Fin 4096 → ℝ)
  (VV : Fin 32768 → Fin 128 → ℝ) (KN VN : Fin 32 → Fin 512 → ℝ)

/-- A head of the block at an index. -/
theorem headAt_value
    (hl : k0_pay2 x5 x6 x7 x8 (ix2 0 0) = (L : EReal)) (hq : ∀ r d, x0 (ix3 0 r d) = (Q r d : EReal))
    (hk : ∀ j d k, x1 (ix4 0 j d k) = (KC j d k : EReal)) (hv : ∀ k e, x2 (ix3 0 k e) = (VV k e : EReal))
    (hkn : ∀ r d, x3 (ix3 0 r d) = (KN r d : EReal)) (hvn : ∀ r d, x4 (ix3 0 r d) = (VN r d : EReal))
    (j : Fin 4) (r : Fin 32) (e : Fin 128) :
    headAt i x0 x1 x2 x3 x4 x5 x6 x7 x8 x9 j (ix3 0 r e)
      = blockVal i L Q KC VV KN VN (fun x => x9 (ix2 0 x)) j r e :=
  headOut_value _ _ _ _ _ _ x9 L (fun r d => Q r (col j d)) (KC j) (fun k e => VV (vrow i j k) e)
    (fun k d => KN k (col j d)) (fun k d => VN k (col j d)) hl
    (fun r d => (ld_lane x0 j r d).trans (hq _ _)) (fun d k => (ld_key x1 j d k).trans (hk _ _ _))
    (fun k e => (ld_value i x2 j k e).trans (hv _ _))
    (fun k d => (ld_lane x3 j k d).trans (hkn _ _)) (fun k d => (ld_lane x4 j k d).trans (hvn _ _)) r e

/-- The block as a function of its index: the head is the column's hundred-and-twenty-eights. -/
def blockFn (W : Fin 128 → EReal) (y : S1x32x512.Idx) : EReal :=
  blockVal i L Q KC VV KN VN W ⟨(y 2).val / 128, by have h : (y 2).val < 512 := (y 2).isLt; omega⟩ (y 1)
    ⟨(y 2).val % 128, Nat.mod_lt _ (by decide)⟩

/-- So each store is its part of the block function. -/
theorem piece_value
    (hl : k0_pay2 x5 x6 x7 x8 (ix2 0 0) = (L : EReal)) (hq : ∀ r d, x0 (ix3 0 r d) = (Q r d : EReal))
    (hk : ∀ j d k, x1 (ix4 0 j d k) = (KC j d k : EReal)) (hv : ∀ k e, x2 (ix3 0 k e) = (VV k e : EReal))
    (hkn : ∀ r d, x3 (ix3 0 r d) = (KN r d : EReal)) (hvn : ∀ r d, x4 (ix3 0 r d) = (VN r d : EReal))
    (j : Fin 4) (x : S1x32x128.Idx) :
    headAt i x0 x1 x2 x3 x4 x5 x6 x7 x8 x9 j x
      = blockFn i L Q KC VV KN VN (fun x => x9 (ix2 0 x)) ((laneRect j).emb x) := by
  obtain ⟨r, e, rfl⟩ : ∃ (r : Fin 32) (e : Fin 128), x = ix3 0 r e := by
    refine ⟨x 1, x 2, funext fun a => ?_⟩
    match a with
    | ⟨0, _⟩ => exact Subsingleton.elim (α := Fin 1) _ _
    | ⟨1, _⟩ => rfl
    | ⟨2, _⟩ => rfl
  have h2 : e.val < 128 := e.isLt
  have e1 : ((laneRect j).emb (ix3 0 r e) 1) = r := Fin.ext (by show 0 + 1 * r.val = r.val; omega)
  have e2 : ((laneRect j).emb (ix3 0 r e) 2).val = 128 * j.val + e.val := by
    show 128 * j.val + 1 * e.val = _; omega
  refine (headAt_value i x0 x1 x2 x3 x4 x5 x6 x7 x8 x9 L Q KC VV KN VN hl hq hk hv hkn hvn j r e).trans ?_
  unfold blockFn
  rw [e1]
  congr 1 <;> refine Fin.ext ?_
  · show j.val = ((laneRect j).emb (ix3 0 r e) 2).val / 128
    rw [e2]; omega
  · show e.val = ((laneRect j).emb (ix3 0 r e) 2).val % 128
    rw [e2]; omega
end

/-- The block that a grid point writes. -/
theorem out_value
    (c : Dev nD) (i : grid0.Coords) (arg2 : Memref sig .tc .vmem S1x32x512 .bf16) (harg2 : arg2.IsWhole)
    (arg3 : Memref sig .tc .vmem S1x4x128x4096 .f32) (harg3 : arg3.IsWhole)
    (arg4 : Memref sig .tc .vmem S1x32768x128 .f32) (harg4 : arg4.IsWhole)
    (arg5 : Memref sig .tc .vmem S1x32x512 .f32) (harg5 : arg5.IsWhole) (arg6 : Memref sig .tc .vmem S1x32x512 .f32)
    (harg6 : arg6.IsWhole) (arg7 : Memref sig .tc .vmem S1x64 .f32) (harg7 : arg7.IsWhole)
    (arg8 : Memref sig .tc .vmem S1x64 .f32) (harg8 : arg8.IsWhole) (arg9 : Memref sig .tc .vmem S1x64 .f32)
    (harg9 : arg9.IsWhole) (arg10 : Memref sig .tc .vmem S1x64 .f32) (harg10 : arg10.IsWhole)
    (arg11 : Memref sig .tc .vmem S1x128 .f32) (harg11 : arg11.IsWhole)
    (arg12 : Memref sig .tc .vmem S1x32x512 .bf16) (harg12 : arg12.IsWhole) (x0 : Vec Ideal S1x32x512 .bf16)
    (x1 : Vec Ideal S1x4x128x4096 .f32) (x2 : Vec Ideal S1x32768x128 .f32) (x3 : Vec Ideal S1x32x512 .f32)
    (x4 : Vec Ideal S1x32x512 .f32) (x5 : Vec Ideal S1x64 .f32) (x6 : Vec Ideal S1x64 .f32)
    (x7 : Vec Ideal S1x64 .f32) (x8 : Vec Ideal S1x64 .f32) (x9 : Vec Ideal S1x128 .f32)
    (L : ℝ) (Q : Fin 32 → Fin 512 → ℝ) (KC : Fin 4 → Fin 128 → Fin 4096 → ℝ)
    (VV : Fin 32768 → Fin 128 → ℝ) (KN VN : Fin 32 → Fin 512 → ℝ)
    (hl : k0_pay2 x5 x6 x7 x8 (ix2 0 0) = (L : EReal)) (hq : ∀ r d, x0 (ix3 0 r d) = (Q r d : EReal))
    (hk : ∀ j d k, x1 (ix4 0 j d k) = (KC j d k : EReal)) (hv : ∀ k e, x2 (ix3 0 k e) = (VV k e : EReal))
    (hkn : ∀ r d, x3 (ix3 0 r d) = (KN r d : EReal)) (hvn : ∀ r d, x4 (ix3 0 r d) = (VN r d : EReal))
    (y : S1x32x512.Idx) :
    out0_A_10 (F := Ideal)
      c i arg2 harg2 arg3 harg3 arg4 harg4 arg5 harg5 arg6 harg6 arg7 harg7 arg8 harg8 arg9 harg9 arg10 harg10
      arg11 harg11 arg12 harg12 x0 x1 x2 x3 x4 x5 x6 x7 x8 x9 y
      = blockFn i L Q KC VV KN VN (fun x => x9 (ix2 0 x)) y := by
  unfold out0_A_10
  rw [View.read_writes_junk_eq_canon]
  refine View.canon_apply_of_pieces _ _ (fun p hp => ?_) y (cover0_A_10
      c i arg2 harg2 arg3 harg3 arg4 harg4 arg5 harg5 arg6 harg6 arg7 harg7 arg8 harg8 arg9 harg9 arg10 harg10
      arg11 harg11 arg12 harg12 x0 x1 x2 x3 x4 x5 x6 x7 x8 x9 y)
  rw [pieces_eq] at hp
  have hj := fun j => piece_value i x0 x1 x2 x3 x4 x5 x6 x7 x8 x9 L Q KC VV KN VN hl hq hk hv hkn hvn j
  simp only [List.mem_cons, List.not_mem_nil, or_false] at hp
  rcases hp with rfl | rfl | rfl | rfl
  · exact hj 3
  · exact hj 2
  · exact hj 1
  · exact hj 0

end Cert.Proofs.AttnSample
-- ==== Proof.KernelValue.lean ====
module

public import proofs.«01_k».proof.Proof.Block
public import proofs.«01_k».proof.Proof.Gen.KernelIdeal.Value
public import Idealize.ShloMosaic.Lib.Pipeline.ValueKit
public import Idealize.ShloMosaic.Lib.Claim

@[expose] public section

set_option maxRecDepth 16384

noncomputable section

namespace Cert.Proofs.AttnSample

open Cert.KernelIdeal Cert.KernelIdeal.Gen Idealize.ShloMosaic Idealize.ShloMosaic.TcCoe Idealize.SL.Sem

variable (m : (ℓ : Loc nD τ sig) → Buf (Elt Ideal) ℓ) (c : Dev nD)

/-- Where each window's block lies at a grid point. -/
theorem place : ∀ t : Fin cfg0.N,
    win0_0.index t = ![(grid0.coords t 0).val, 0, (grid0.coords t 1).val]
    ∧ win0_1.index t = ![(grid0.coords t 0).val, (grid0.coords t 1).val, 0, 0]
    ∧ win0_2.index t = ![(grid0.coords t 0).val, 0, 0]
    ∧ win0_3.index t = ![(grid0.coords t 0).val, 0, (grid0.coords t 1).val]
    ∧ win0_4.index t = ![(grid0.coords t 0).val, 0, (grid0.coords t 1).val]
    ∧ win0_5.index t = ![0, 0] ∧ win0_6.index t = ![0, 0] ∧ win0_7.index t = ![0, 0]
    ∧ win0_8.index t = ![0, 0] ∧ win0_9.index t = ![0, 0]
    ∧ win0_10.index t = ![(grid0.coords t 0).val, 0, (grid0.coords t 1).val] := by
  decide +kernel

abbrev pb (t : Fin cfg0.N) : Fin 16 := ⟨(grid0.coords t 0).val, (grid0.coords t 0).isLt⟩
abbrev pg (t : Fin cfg0.N) : Fin 2 := ⟨(grid0.coords t 1).val, (grid0.coords t 1).isLt⟩
/-- The column of the arrays that is lane `d` of the block at `t`. -/
abbrev pcol (t : Fin cfg0.N) (d : Fin 512) : Fin 1024 := ⟨512 * (pg t).val + d.val, by omega⟩
abbrev phead (t : Fin cfg0.N) (j : Fin 4) : Fin 8 := ⟨4 * (pg t).val + j.val, by omega⟩

theorem read_q (t : Fin cfg0.N) (r : Fin 32) (d : Fin 512) :
    iblk m c 0 t (ix3 0 r d) = m ((c : Thread nD τ).loc main_arg0) (ix3 (pb t) r (pcol t d)) := by
  obtain ⟨e0, -⟩ := place t
  blk_ext [iblk, V, e0]

theorem read_kn (t : Fin cfg0.N) (r : Fin 32) (d : Fin 512) :
    iblk m c 3 t (ix3 0 r d) = m ((c : Thread nD τ).loc main_arg3) (ix3 (pb t) r (pcol t d)) := by
  obtain ⟨-, -, -, e0, -⟩ := place t
  blk_ext [iblk, V, e0]

theorem read_vn (t : Fin cfg0.N) (r : Fin 32) (d : Fin 512) :
    iblk m c 4 t (ix3 0 r d) = m ((c : Thread nD τ).loc main_arg4) (ix3 (pb t) r (pcol t d)) := by
  obtain ⟨-, -, -, -, e0, -⟩ := place t
  blk_ext [iblk, V, e0]

theorem read_k (t : Fin cfg0.N) (j : Fin 4) (d : Fin 128) (k : Fin 4096) :
    iblk m c 1 t (ix4 0 j d k) = m ((c : Thread nD τ).loc main_arg1)
      (ix5 (pb t) k (phead t j) ⟨d.val / 64, by omega⟩ ⟨d.val % 64, by omega⟩) := by
  obtain ⟨-, e0, -⟩ := place t
  blk_simp [iblk, e0]
  entry_read
  pointwise
  blk_ext [e0]

theorem read_v (t : Fin cfg0.N) (r : Fin 32768) (d : Fin 128) :
    iblk m c 2 t (ix3 0 r d) = m ((c : Thread nD τ).loc main_arg2)
      (ix4 (pb t) ⟨r.val / 8, by omega⟩ ⟨r.val % 8, by omega⟩ d) := by
  obtain ⟨-, -, e0, -⟩ := place t
  blk_simp [iblk, e0]
  entry_read
  pointwise
  blk_ext [e0]

theorem read_l5 (t : Fin cfg0.N) (d : Fin 64) :
    iblk m c 5 t (ix2 0 d) = m ((c : Thread nD τ).loc main_arg5) (ix1 d) := by
  obtain ⟨-, -, -, -, -, e5, e6, e7, e8, e9, -⟩ := place t
  blk_simp [iblk, e5]
  entry_read
  pointwise
  blk_ext [e5]

theorem read_l6 (t : Fin cfg0.N) (d : Fin 64) :
    iblk m c 6 t (ix2 0 d) = m ((c : Thread nD τ).loc main_arg6) (ix1 d) := by
  obtain ⟨-, -, -, -, -, e5, e6, e7, e8, e9, -⟩ := place t
  blk_simp [iblk, e6]
  entry_read
  pointwise
  blk_ext [e6]

theorem read_l7 (t : Fin cfg0.N) (d : Fin 64) :
    iblk m c 7 t (ix2 0 d) = m ((c : Thread nD τ).loc main_arg7) (ix1 d) := by
  obtain ⟨-, -, -, -, -, e5, e6, e7, e8, e9, -⟩ := place t
  blk_simp [iblk, e7]
  entry_read
  pointwise
  blk_ext [e7]

theorem read_l8 (t : Fin cfg0.N) (d : Fin 64) :
    iblk m c 8 t (ix2 0 d) = m ((c : Thread nD τ).loc main_arg8) (ix1 d) := by
  obtain ⟨-, -, -, -, -, e5, e6, e7, e8, e9, -⟩ := place t
  blk_simp [iblk, e8]
  entry_read
  pointwise
  blk_ext [e8]

theorem read_l9 (t : Fin cfg0.N) (d : Fin 128) :
    iblk m c 9 t (ix2 0 d) = m ((c : Thread nD τ).loc main_arg9) (ix1 d) := by
  obtain ⟨-, -, -, -, -, e5, e6, e7, e8, e9, -⟩ := place t
  blk_simp [iblk, e9]
  entry_read
  pointwise
  blk_ext [e9]

/-- The attention at batch `b`, row `r`, head `h`, lane `e`, of the whole arrays' real entries. -/
def attnAt (L : ℝ) (Q : Fin 16 → Fin 32 → Fin 1024 → ℝ) (K : Fin 16 → Fin 4096 → Fin 8 → Fin 2 → Fin 64 → ℝ)
    (VV : Fin 16 → Fin 4096 → Fin 8 → Fin 128 → ℝ) (KN VN : Fin 16 → Fin 32 → Fin 1024 → ℝ) (W : Fin 128 → EReal)
    (b : Fin 16) (r : Fin 32) (h : Fin 8) (e : Fin 128) : EReal :=
  finish (fun x => ((diffAttn L (fun r d => Q b r ⟨128 * h.val + d.val, by omega⟩)
    (fun d k => K b k h ⟨d.val / 64, by omega⟩ ⟨d.val % 64, by omega⟩) (fun k e => VV b k h e)
    (fun k d => KN b k ⟨128 * h.val + d.val, by omega⟩) (fun k d => VN b k ⟨128 * h.val + d.val, by omega⟩) r x : ℝ)
      : EReal)) W e

/-- The whole result: the head is the column's hundred-and-twenty-eights. -/
def attnFn (L : ℝ) (Q : Fin 16 → Fin 32 → Fin 1024 → ℝ) (K : Fin 16 → Fin 4096 → Fin 8 → Fin 2 → Fin 64 → ℝ)
    (VV : Fin 16 → Fin 4096 → Fin 8 → Fin 128 → ℝ) (KN VN : Fin 16 → Fin 32 → Fin 1024 → ℝ) (W : Fin 128 → EReal)
    (y : S16x32x1024.Idx) : EReal :=
  attnAt L Q K VV KN VN W (y 0) (y 1) ⟨(y 2).val / 128, by have h : (y 2).val < 1024 := (y 2).isLt; omega⟩
    ⟨(y 2).val % 128, Nat.mod_lt _ (by decide)⟩

/-- The weight of the second map. -/
def lamVal (a b c d : Fin 64 → EReal) : EReal :=
  Ideal.exp (∑ x : Fin 64, a x * b x) - Ideal.exp (∑ x : Fin 64, c x * d x) + Ideal.ofBits .f32 0x3E4CCCCD#32

/-- A block is its part of the whole result. -/
theorem block_attn (t : Fin cfg0.N) (L : ℝ) (Q : Fin 16 → Fin 32 → Fin 1024 → ℝ)
    (K : Fin 16 → Fin 4096 → Fin 8 → Fin 2 → Fin 64 → ℝ)
    (VV : Fin 16 → Fin 4096 → Fin 8 → Fin 128 → ℝ) (KN VN : Fin 16 → Fin 32 → Fin 1024 → ℝ) (W : Fin 128 → EReal)
    (y : S1x32x512.Idx) (z : S16x32x1024.Idx) (h0 : z 0 = pb t) (h1 : z 1 = y 1)
    (h2 : (z 2).val = 512 * (pg t).val + (y 2).val) :
    blockFn (grid0.coords t) L (fun r d => Q (pb t) r (pcol t d))
      (fun j d k => K (pb t) k (phead t j) ⟨d.val / 64, by omega⟩ ⟨d.val % 64, by omega⟩)
      (fun r e => VV (pb t) ⟨r.val / 8, by omega⟩ ⟨r.val % 8, by omega⟩ e)
      (fun r d => KN (pb t) r (pcol t d)) (fun r d => VN (pb t) r (pcol t d)) W y
      = attnFn L Q K VV KN VN W z := by
  have hy : (y 2).val < 512 := (y 2).isLt
  have hz : (z 2).val < 1024 := (z 2).isLt
  unfold blockFn attnFn
  have hh : (⟨(z 2).val / 128, by omega⟩ : Fin 8) = phead t ⟨(y 2).val / 128, by omega⟩ :=
    Fin.ext (by show (z 2).val / 128 = 4 * (pg t).val + (y 2).val / 128; omega)
  have he : (⟨(z 2).val % 128, Nat.mod_lt _ (by decide)⟩ : Fin 128) = ⟨(y 2).val % 128, Nat.mod_lt _ (by decide)⟩ :=
    Fin.ext (by show (z 2).val % 128 = (y 2).val % 128; omega)
  rw [hh, he, h0, h1]
  generalize (⟨(y 2).val / 128, _⟩ : Fin 4) = j
  generalize (⟨(y 2).val % 128, _⟩ : Fin 128) = e
  unfold blockVal attnAt
  have hc : ∀ d : Fin 128, pcol t (col j d) = ⟨128 * (phead t j).val + d.val, by omega⟩ := fun d =>
    Fin.ext (by show 512 * (pg t).val + (128 * j.val + d.val) = 128 * (4 * (pg t).val + j.val) + d.val; omega)
  have hg : (grid0.coords t 1).val < 2 := (grid0.coords t 1).isLt
  have hr : ∀ k : Fin 4096, (⟨(vrow (grid0.coords t) j k).val / 8, by omega⟩ : Fin 4096) = k := fun k =>
    Fin.ext (by show (8 * k.val + (4 * (grid0.coords t 1).val + j.val)) / 8 = k.val; omega)
  have hm : ∀ k : Fin 4096, (⟨(vrow (grid0.coords t) j k).val % 8, by omega⟩ : Fin 8) = phead t j := fun k =>
    Fin.ext (by
      show (8 * k.val + (4 * (grid0.coords t 1).val + j.val)) % 8 = 4 * (grid0.coords t 1).val + j.val
      omega)
  simp only [hc, hr, hm]

/-- What the kernel leaves in its result, of real arguments. -/
theorem kernel_value (L : ℝ) (Q : Fin 16 → Fin 32 → Fin 1024 → ℝ) (K : Fin 16 → Fin 4096 → Fin 8 → Fin 2 → Fin 64 → ℝ)
    (VV : Fin 16 → Fin 4096 → Fin 8 → Fin 128 → ℝ) (KN VN : Fin 16 → Fin 32 → Fin 1024 → ℝ)
    (hl : lamVal (fun x => m ((c : Thread nD τ).loc main_arg5) (ix1 x)) (fun x => m ((c : Thread nD τ).loc main_arg6) (ix1 x)) (fun x => m ((c : Thread nD τ).loc main_arg7) (ix1 x)) (fun x => m ((c : Thread nD τ).loc main_arg8) (ix1 x)) = (L : EReal))
    (hq : ∀ b r d, m ((c : Thread nD τ).loc main_arg0) (ix3 b r d) = (Q b r d : EReal))
    (hk : ∀ b k h a d, m ((c : Thread nD τ).loc main_arg1) (ix5 b k h a d) = (K b k h a d : EReal))
    (hv : ∀ b k h e, m ((c : Thread nD τ).loc main_arg2) (ix4 b k h e) = (VV b k h e : EReal))
    (hkn : ∀ b r d, m ((c : Thread nD τ).loc main_arg3) (ix3 b r d) = (KN b r d : EReal))
    (hvn : ∀ b r d, m ((c : Thread nD τ).loc main_arg4) (ix3 b r d) = (VN b r d : EReal)) :
    (dats m 0 c).arrAt 10 cfg0.N
      = attnFn L Q K VV KN VN (fun x => m ((c : Thread nD τ).loc main_arg9) (ix1 x)) := by
  refine (dats m 0 c).arrAt_eq_of_covers 10 _ (by decide +kernel) fun t hf y => ?_
  have hp := (place t).2.2.2.2.2.2.2.2.2.2
  blk_simp
  rw [after0_10]
  unfold outsAt0
  refine (out_value (L := L) (Q := fun r d => Q (pb t) r (pcol t d))
    (KC := fun j d k => K (pb t) k (phead t j) ⟨d.val / 64, by omega⟩ ⟨d.val % 64, by omega⟩)
    (VV := fun r e => VV (pb t) ⟨r.val / 8, by omega⟩ ⟨r.val % 8, by omega⟩ e)
    (KN := fun r d => KN (pb t) r (pcol t d)) (VN := fun r d => VN (pb t) r (pcol t d))
    (hl := ?_) (hq := fun r d => (read_q m c t r d).trans (hq _ _ _))
    (hk := fun j d k => (read_k m c t j d k).trans (hk _ _ _ _ _))
    (hv := fun r e => (read_v m c t r e).trans (hv _ _ _ _))
    (hkn := fun r d => (read_kn m c t r d).trans (hkn _ _ _))
    (hvn := fun r d => (read_vn m c t r d).trans (hvn _ _ _)) ..).trans ?_
  · rw [pay2_apply]
    simp only [read_l5, read_l6, read_l7, read_l8]
    exact hl
  · simp only [read_l9]
    refine block_attn t L Q K VV KN VN _ y _ (Fin.ext ?_) (Fin.ext ?_) ?_
    · blk_simp [hp]
    · blk_simp [hp]
    · blk_simp [hp]
      exact congrArg (· + _) (Nat.mul_comm _ _)

end Cert.Proofs.AttnSample
-- ==== Proof.RefValue.lean ====
module

public import proofs.«01_k».proof.Proof.KernelValue
public import proofs.«01_k».proof.Proof.Gen.ReferenceIdeal.Read

@[expose] public section

set_option maxRecDepth 16384

noncomputable section

namespace Cert.Proofs.AttnSample

open Cert.ReferenceIdeal Cert.ReferenceIdeal.Gen Cert.ReferenceIdeal.Read Idealize.ShloMosaic Idealize.ShloMosaic.TcCoe Idealize.SL.Sem
open Cert.Proofs.RealMath

variable (x0 : Vec Ideal S16x32x1024 .bf16) (x1 : Vec Ideal S16x4096x8x2x64 .f32) (x2 : Vec Ideal S16x4096x8x128 .f32)
  (x3 x4 : Vec Ideal S16x32x1024 .f32) (x5 x6 x7 x8 : Vec Ideal S64 .f32) (x9 : Vec Ideal S128 .f32)

theorem q_apply (b : Fin 16) (r : Fin 32) (h : Fin 8) (a : Fin 2) (d : Fin 64) :
    val_main_v1 (F := Ideal) x0 (ix5 b r h a d) = x0 (ix3 b r ⟨128 * h.val + (lane a d).val, by omega⟩) := by
  unfold val_main_v1 val_main_v0
  pointwise
  blk_ext

theorem keys_past (b : Fin 16) (k : Fin 4096) (h : Fin 8) (a : Fin 2) (d : Fin 64) :
    val_main_v12 (F := Ideal) x1 x3 (ix5 b (Fin.castAdd 32 k) h a d) = x1 (ix5 b k h a d) := by
  unfold val_main_v12 val_main_v2
  pointwise
  rw [dif_pos (show (Fin.castAdd 32 k).val < 4096 from k.isLt)]
  rfl

theorem keys_new (b : Fin 16) (k : Fin 32) (h : Fin 8) (a : Fin 2) (d : Fin 64) :
    val_main_v12 (F := Ideal) x1 x3 (ix5 b (Fin.natAdd 4096 k) h a d) = x3 (ix3 b k ⟨128 * h.val + (lane a d).val, by omega⟩) := by
  unfold val_main_v12 val_main_v2
  pointwise
  rw [dif_neg (show ¬ (Fin.natAdd 4096 k).val < 4096 from Nat.not_lt.2 (Nat.le_add_right _ _))]
  have hk : (Fin.natAdd 4096 k).val = 4096 + k.val := rfl
  blk_ext [hk]

theorem values_past (b : Fin 16) (k : Fin 4096) (h : Fin 8) (e : Fin 128) :
    val_main_v13 (F := Ideal) x2 x4 (ix4 b (Fin.castAdd 32 k) h e) = x2 (ix4 b k h e) := by
  unfold val_main_v13 val_main_v3
  pointwise
  rw [dif_pos (show (Fin.castAdd 32 k).val < 4096 from k.isLt)]
  rfl

theorem values_new (b : Fin 16) (k : Fin 32) (h : Fin 8) (e : Fin 128) :
    val_main_v13 (F := Ideal) x2 x4 (ix4 b (Fin.natAdd 4096 k) h e) = x4 (ix3 b k ⟨128 * h.val + e.val, by omega⟩) := by
  unfold val_main_v13 val_main_v3
  pointwise
  rw [dif_neg (show ¬ (Fin.natAdd 4096 k).val < 4096 from Nat.not_lt.2 (Nat.le_add_right _ _))]
  have hk : (Fin.natAdd 4096 k).val = 4096 + k.val := rfl
  blk_ext [hk]

theorem max_apply (b : Fin 16) (h : Fin 8) (a : Fin 2) (r : Fin 32) :
    val_main_v18 (F := Ideal) x0 x1 x3 (ix4 b h a r) = Finset.univ.fold max ⊥ fun k : Fin 4128 => val_main_v17 (F := Ideal) x0 x1 x3 (ix5 b h a r k) := by
  unfold val_main_v18
  generalize val_main_v17 (F := Ideal) x0 x1 x3 = y
  unfold val_main_cst_3
  pointwise
  rw [ofBits_neg_inf]

theorem dot_apply (b : Fin 16) (h : Fin 8) (a : Fin 2) (r : Fin 32) (k : Fin 4128) :
    val_main_v14 (F := Ideal) x0 x1 x3 (ix5 b h a r k)
      = ∑ d : Fin 64, val_main_v1 (F := Ideal) x0 (ix5 b r h a d) * val_main_v12 (F := Ideal) x1 x3 (ix5 b k h a d) := by
  unfold val_main_v14
  generalize val_main_v1 (F := Ideal) x0 = y
  generalize val_main_v12 (F := Ideal) x1 x3 = z
  pointwise

/-- The base-e exponent's scale. -/
theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee]
    rw [← EReal.coe_mul]
    norm_num
  rw [h, Ideal.log_coe, if_neg (by norm_num)]

theorem scaled_apply (b : Fin 16) (h : Fin 8) (a : Fin 2) (r : Fin 32) (k : Fin 4128) :
    val_main_v17 (F := Ideal) x0 x1 x3 (ix5 b h a r k)
      = val_main_v14 (F := Ideal) x0 x1 x3 (ix5 b h a r k) * ((Real.log 2 : ℝ) : EReal) := by
  unfold val_main_v17
  generalize val_main_v14 (F := Ideal) x0 x1 x3 = y
  unfold val_main_v16 val_main_v15 val_main_cst_2
  pointwise
  rw [log_two]

theorem exp_apply (b : Fin 16) (h : Fin 8) (a : Fin 2) (r : Fin 32) (k : Fin 4128) :
    val_main_v24 (F := Ideal) x0 x1 x3 (ix5 b h a r k)
      = Ideal.exp (val_main_v17 (F := Ideal) x0 x1 x3 (ix5 b h a r k)
            - max ⊥ (val_main_v18 (F := Ideal) x0 x1 x3 (ix4 b h a r))) := by
  rw [val_main_v24_apply, val_main_v23_apply, val_main_v22_apply, val_main_v21_apply, val_main_v20_apply,
    val_main_v19_apply, val_main_cst_4_apply]
  have e : idx_main_v21 (idx_main_v22 (ix5 b h a r k)) = ix4 b h a r := by
    funext i
    match i with
    | ⟨0, _⟩ => rfl
    | ⟨1, _⟩ => rfl
    | ⟨2, _⟩ => rfl
    | ⟨3, _⟩ => rfl
  rw [e]
  generalize val_main_v17 (F := Ideal) x0 x1 x3 (ix5 b h a r k) = y
  generalize val_main_v18 (F := Ideal) x0 x1 x3 (ix4 b h a r) = z
  show Ideal.exp (y - max (Ideal.ofBits .f32 0xFF800000#32) z) = _
  rw [ofBits_neg_inf]

theorem sum_apply (b : Fin 16) (h : Fin 8) (a : Fin 2) (r : Fin 32) :
    val_main_v25 (F := Ideal) x0 x1 x3 (ix4 b h a r)
      = ∑ j : Fin 4128, val_main_v24 (F := Ideal) x0 x1 x3 (ix5 b h a r j) := by
  rw [val_main_v25_apply]
  generalize val_main_v24 (F := Ideal) x0 x1 x3 = y
  have h0 : val_main_cst_5 (F := Ideal) (Shape.Idx.first h_S_) = 0 := by
    unfold val_main_cst_5
    pointwise
  rw [h0, zero_add]
  refine Finset.sum_congr rfl fun k _ => congrArg y (funext fun i => ?_)
  match i with
  | ⟨0, _⟩ => rfl
  | ⟨1, _⟩ => rfl
  | ⟨2, _⟩ => rfl
  | ⟨3, _⟩ => rfl
  | ⟨4, _⟩ => rfl

theorem soft_apply (b : Fin 16) (h : Fin 8) (a : Fin 2) (r : Fin 32) (k : Fin 4128) :
    val_main_v28 (F := Ideal) x0 x1 x3 (ix5 b h a r k)
      = Ideal.div (val_main_v24 (F := Ideal) x0 x1 x3 (ix5 b h a r k))
          (val_main_v25 (F := Ideal) x0 x1 x3 (ix4 b h a r)) := by
  unfold val_main_v28 val_main_v27 val_main_v26
  generalize val_main_v24 (F := Ideal) x0 x1 x3 = y
  generalize val_main_v25 (F := Ideal) x0 x1 x3 = z
  pointwise

theorem lam_apply (b : Fin 16) (h : Fin 8) (r : Fin 32) (k : Fin 4128) :
    val_main_v33 (F := Ideal) x5 x6 x7 x8 (ix4 b h r k)
      = lamVal (fun x => x5 (ix1 x)) (fun x => x6 (ix1 x)) (fun x => x7 (ix1 x)) (fun x => x8 (ix1 x)) := by
  unfold val_main_v33 val_main_v11 val_main_v10 val_main_v9 val_main_v8 val_main_v7 val_main_v6 val_main_v5 val_main_v4
    val_main_cst_1 val_main_cst_0 val_main_cst lamVal
  pointwise

theorem diff_apply (b : Fin 16) (h : Fin 8) (r : Fin 32) (k : Fin 4128) :
    val_main_v35 (F := Ideal) x0 x1 x3 x5 x6 x7 x8 (ix4 b h r k)
      = val_main_v28 (F := Ideal) x0 x1 x3 (ix5 b h 0 r k)
        - lamVal (fun x => x5 (ix1 x)) (fun x => x6 (ix1 x)) (fun x => x7 (ix1 x)) (fun x => x8 (ix1 x))
          * val_main_v28 (F := Ideal) x0 x1 x3 (ix5 b h 1 r k) := by
  have hb := b.isLt
  have hh := h.isLt
  have hr := r.isLt
  have hk := k.isLt
  have e0 : idx_main_v29 (idx_main_v30 (ix4 b h r k)) = ix5 b h 0 r k := by
    funext i
    match i with
    | ⟨0, _⟩ => exact Fin.ext (by show (((b.val * 8 + h.val) * 32 + r.val) * 4128 + k.val) / 1056768 = b.val; omega)
    | ⟨1, _⟩ => exact Fin.ext (by show (((b.val * 8 + h.val) * 32 + r.val) * 4128 + k.val) / 132096 % 8 = h.val; omega)
    | ⟨2, _⟩ => rfl
    | ⟨3, _⟩ => exact Fin.ext (by show (((b.val * 8 + h.val) * 32 + r.val) * 4128 + k.val) / 4128 % 32 = r.val; omega)
    | ⟨4, _⟩ => exact Fin.ext (by show (((b.val * 8 + h.val) * 32 + r.val) * 4128 + k.val) % 4128 = k.val; omega)
  have e1 : idx_main_v31 (idx_main_v32 (ix4 b h r k)) = ix5 b h 1 r k := by
    funext i
    match i with
    | ⟨0, _⟩ => exact Fin.ext (by show (((b.val * 8 + h.val) * 32 + r.val) * 4128 + k.val) / 1056768 = b.val; omega)
    | ⟨1, _⟩ => exact Fin.ext (by show (((b.val * 8 + h.val) * 32 + r.val) * 4128 + k.val) / 132096 % 8 = h.val; omega)
    | ⟨2, _⟩ => rfl
    | ⟨3, _⟩ => exact Fin.ext (by show (((b.val * 8 + h.val) * 32 + r.val) * 4128 + k.val) / 4128 % 32 = r.val; omega)
    | ⟨4, _⟩ => exact Fin.ext (by show (((b.val * 8 + h.val) * 32 + r.val) * 4128 + k.val) % 4128 = k.val; omega)
  rw [val_main_v35_apply, val_main_v34_apply, lam_apply, val_main_v32_apply, val_main_v31_apply, val_main_v30_apply,
    val_main_v29_apply, e0, e1]
  rfl

theorem out_apply (b : Fin 16) (h : Fin 8) (e : Fin 128) (r : Fin 32) :
    val_main_v36 (F := Ideal) x0 x1 x2 x3 x4 x5 x6 x7 x8 (ix4 b h e r)
      = ∑ k : Fin 4128, val_main_v13 (F := Ideal) x2 x4 (ix4 b k h e)
          * val_main_v35 (F := Ideal) x0 x1 x3 x5 x6 x7 x8 (ix4 b h r k) := by
  unfold val_main_v36
  generalize val_main_v13 (F := Ideal) x2 x4 = y
  generalize val_main_v35 (F := Ideal) x0 x1 x3 x5 x6 x7 x8 = z
  pointwise

theorem finish_apply (b : Fin 16) (r : Fin 32) (h : Fin 8) (e : Fin 128) :
    val_main_v54 (F := Ideal) x0 x1 x2 x3 x4 x5 x6 x7 x8 x9 (ix3 b r ⟨128 * h.val + e.val, by omega⟩)
      = finish (fun x => val_main_v36 (F := Ideal) x0 x1 x2 x3 x4 x5 x6 x7 x8 (ix4 b h x r)) (fun x => x9 (ix1 x)) e := by
  unfold val_main_v54 val_main_v53 val_main_v52 val_main_v51 val_main_v50 val_main_v49 val_main_v48 val_main_v47
    val_main_v46 val_main_v45 val_main_v44 val_main_v43 val_main_v42 val_main_v41 val_main_v40 val_main_v39 val_main_v38
    val_main_v37 val_main_cst_9 val_main_cst_8 val_main_cst_7 val_main_cst_6 finish
  generalize val_main_v36 (F := Ideal) x0 x1 x2 x3 x4 x5 x6 x7 x8 = y
  pointwise

section
variable (L : ℝ) (Q : Fin 16 → Fin 32 → Fin 1024 → ℝ) (K : Fin 16 → Fin 4096 → Fin 8 → Fin 2 → Fin 64 → ℝ)
  (VV : Fin 16 → Fin 4096 → Fin 8 → Fin 128 → ℝ) (KN VN : Fin 16 → Fin 32 → Fin 1024 → ℝ)

/-- The scores of one map of one head. -/
abbrev scores (b : Fin 16) (h : Fin 8) (a : Fin 2) (r : Fin 32) : Fin (4096 + 32) → ℝ :=
  mapScore (fun r d => Q b r ⟨128 * h.val + d.val, by omega⟩)
    (fun d k => K b k h ⟨d.val / 64, by omega⟩ ⟨d.val % 64, by omega⟩)
    (fun k d => KN b k ⟨128 * h.val + d.val, by omega⟩) a r

theorem dot_value (hq : ∀ b r d, x0 (ix3 b r d) = (Q b r d : EReal)) (hk : ∀ b k h a d, x1 (ix5 b k h a d) = (K b k h a d : EReal))
    (hkn : ∀ b r d, x3 (ix3 b r d) = (KN b r d : EReal)) (b : Fin 16) (h : Fin 8) (a : Fin 2) (r : Fin 32)
    (k : Fin (4096 + 32)) :
    val_main_v14 (F := Ideal) x0 x1 x3 (ix5 b h a r k) = (scores Q K KN b h a r k : EReal) := by
  have ha : a.val < 2 := a.isLt
  refine (dot_apply x0 x1 x3 b h a r k).trans ?_
  induction k using Fin.addCases with
  | left k =>
    have e1 : ∀ d : Fin 64, (⟨(lane a d).val / 64, by omega⟩ : Fin 2) = a := fun d =>
      Fin.ext (by show (64 * a.val + d.val) / 64 = a.val; omega)
    have e2 : ∀ d : Fin 64, (⟨(lane a d).val % 64, by omega⟩ : Fin 64) = d := fun d =>
      Fin.ext (by show (64 * a.val + d.val) % 64 = d.val; omega)
    rw [scores, mapScore, Fin.addCases_left, ← coe_sum]
    refine Finset.sum_congr rfl fun d _ => ?_
    rw [e1, e2, EReal.coe_mul]
    exact congrArg₂ _ ((q_apply x0 b r h a d).trans (hq _ _ _)) ((keys_past x1 x3 b k h a d).trans (hk _ _ _ _ _))
  | right k =>
    rw [scores, mapScore, Fin.addCases_right, ← coe_sum]
    refine Finset.sum_congr rfl fun d _ => ?_
    rw [EReal.coe_mul]
    exact congrArg₂ _ ((q_apply x0 b r h a d).trans (hq _ _ _)) ((keys_new x1 x3 b k h a d).trans (hkn _ _ _))

theorem soft_value (hq : ∀ b r d, x0 (ix3 b r d) = (Q b r d : EReal)) (hk : ∀ b k h a d, x1 (ix5 b k h a d) = (K b k h a d : EReal))
    (hkn : ∀ b r d, x3 (ix3 b r d) = (KN b r d : EReal)) (b : Fin 16) (h : Fin 8) (a : Fin 2) (r : Fin 32)
    (k : Fin (4096 + 32)) :
    val_main_v28 (F := Ideal) x0 x1 x3 (ix5 b h a r k)
      = ((pow2 (scores Q K KN b h a r k) / ∑ j, pow2 (scores Q K KN b h a r j) : ℝ) : EReal) := by
  have hd : ∀ k : Fin (4096 + 32), val_main_v17 (F := Ideal) x0 x1 x3 (ix5 b h a r k)
      = ((scores Q K KN b h a r k * Real.log 2 : ℝ) : EReal) := fun k => by
    refine (scaled_apply x0 x1 x3 b h a r k).trans ?_
    rw [EReal.coe_mul]
    exact congrArg (· * _) (dot_value x0 x1 x3 Q K KN hq hk hkn b h a r k)
  generalize hs : scores Q K KN b h a r = s at hd ⊢
  obtain ⟨M, hM⟩ := fold_max_bot (fun k : Fin (4096 + 32) => s k * Real.log 2)
  have hm : max ⊥ (val_main_v18 (F := Ideal) x0 x1 x3 (ix4 b h a r)) = (M : EReal) := by
    rw [max_eq_right bot_le]
    refine (max_apply x0 x1 x3 b h a r).trans (Eq.trans ?_ hM)
    exact congrArg (fun f => Finset.univ.fold max (⊥ : EReal) f) (funext hd)
  have he : ∀ k : Fin (4096 + 32), val_main_v24 (F := Ideal) x0 x1 x3 (ix5 b h a r k)
      = ((Real.exp (s k * Real.log 2 - M) : ℝ) : EReal) := fun k => by
    refine (exp_apply x0 x1 x3 b h a r k).trans ?_
    rw [hm]
    refine (congrArg (fun z => Ideal.exp (z - (M : EReal))) (hd k)).trans ?_
    rw [← EReal.coe_sub, Ideal.exp_coe]
  have hsum : val_main_v25 (F := Ideal) x0 x1 x3 (ix4 b h a r)
      = ((∑ j : Fin (4096 + 32), Real.exp (s j * Real.log 2 - M) : ℝ) : EReal) := by
    rw [← coe_sum]
    exact (sum_apply x0 x1 x3 b h a r).trans (Finset.sum_congr rfl fun j _ => he j)
  have hpos : (0 : ℝ) < ∑ j : Fin (4096 + 32), Real.exp (s j * Real.log 2 - M) :=
    Finset.sum_pos (fun j _ => Real.exp_pos _) Finset.univ_nonempty
  refine (soft_apply x0 x1 x3 b h a r k).trans ?_
  rw [hsum]
  refine (congrArg (fun z => Ideal.div z _) (he k)).trans ?_
  rw [Ideal.div_coe hpos.ne', ← EReal.coe_mul, soft_exp]

theorem values_value (hv : ∀ b k h e, x2 (ix4 b k h e) = (VV b k h e : EReal))
    (hvn : ∀ b r d, x4 (ix3 b r d) = (VN b r d : EReal)) (b : Fin 16) (k : Fin (4096 + 32)) (h : Fin 8) (e : Fin 128) :
    val_main_v13 (F := Ideal) x2 x4 (ix4 b k h e)
      = (valueLane (fun k e => VV b k h e) (fun k d => VN b k ⟨128 * h.val + d.val, by omega⟩) e k : EReal) := by
  induction k using Fin.addCases with
  | left k => rw [valueLane, Fin.addCases_left]; exact (values_past x2 x4 b k h e).trans (hv _ _ _ _)
  | right k => rw [valueLane, Fin.addCases_right]; exact (values_new x2 x4 b k h e).trans (hvn _ _ _)

/-- The reference's result, of real arguments. -/
theorem ref_value
    (hl : lamVal (fun x => x5 (ix1 x)) (fun x => x6 (ix1 x)) (fun x => x7 (ix1 x)) (fun x => x8 (ix1 x)) = (L : EReal))
    (hq : ∀ b r d, x0 (ix3 b r d) = (Q b r d : EReal)) (hk : ∀ b k h a d, x1 (ix5 b k h a d) = (K b k h a d : EReal))
    (hv : ∀ b k h e, x2 (ix4 b k h e) = (VV b k h e : EReal))
    (hkn : ∀ b r d, x3 (ix3 b r d) = (KN b r d : EReal)) (hvn : ∀ b r d, x4 (ix3 b r d) = (VN b r d : EReal)) :
    val_main_v54 (F := Ideal) x0 x1 x2 x3 x4 x5 x6 x7 x8 x9 = attnFn L Q K VV KN VN (fun x => x9 (ix1 x)) := by
  funext y
  obtain ⟨b, r, h, e, rfl⟩ : ∃ (b : Fin 16) (r : Fin 32) (h : Fin 8) (e : Fin 128),
      y = ix3 b r ⟨128 * h.val + e.val, by omega⟩ := by
    have h2 : (y 2).val < 1024 := (y 2).isLt
    refine ⟨y 0, y 1, ⟨(y 2).val / 128, by omega⟩, ⟨(y 2).val % 128, by omega⟩, funext fun a => ?_⟩
    match a with
    | ⟨0, _⟩ => rfl
    | ⟨1, _⟩ => rfl
    | ⟨2, _⟩ => exact Fin.ext (by show (y 2).val = 128 * ((y 2).val / 128) + (y 2).val % 128; omega)
  have hh : h.val < 8 := h.isLt
  refine (finish_apply x0 x1 x2 x3 x4 x5 x6 x7 x8 x9 b r h e).trans ?_
  have e1 : (⟨(128 * h.val + e.val) / 128, by omega⟩ : Fin 8) = h := Fin.ext (by show (128 * h.val + e.val) / 128 = h.val; omega)
  have e2 : (⟨(128 * h.val + e.val) % 128, by omega⟩ : Fin 128) = e := Fin.ext (by show (128 * h.val + e.val) % 128 = e.val; omega)
  show _ = attnAt L Q K VV KN VN _ b r ⟨(128 * h.val + e.val) / 128, _⟩ ⟨(128 * h.val + e.val) % 128, _⟩
  rw [e1, e2]
  refine congrArg (fun f => finish f _ e) (funext fun x => ?_)
  refine (out_apply x0 x1 x2 x3 x4 x5 x6 x7 x8 b h x r).trans ?_
  rw [diffAttn, ← diff_soft, ← coe_sum]
  refine Finset.sum_congr rfl fun k _ => ?_
  rw [EReal.coe_mul]
  refine congrArg₂ _ (values_value x2 x4 VV VN hv hvn b k h x) ?_
  refine (diff_apply x0 x1 x3 x5 x6 x7 x8 b h r k).trans ?_
  rw [hl, EReal.coe_sub, EReal.coe_mul]
  exact congrArg₂ (fun p q => p - (L : EReal) * q) (soft_value x0 x1 x3 Q K KN hq hk hkn b h 0 r k)
    (soft_value x0 x1 x3 Q K KN hq hk hkn b h 1 r k)
end

end Cert.Proofs.AttnSample
-- ==== Proof.SampleClaim.lean ====
module

public import proofs.«01_k».proof.Defs
public import proofs.«01_k».proof.Proof.Pre
public import proofs.«01_k».proof.Proof.KernelValue
public import proofs.«01_k».proof.Proof.RefValue
public import proofs.«01_k».proof.Proof.Gen.ReferenceIdeal.Run

@[expose] public section

set_option maxRecDepth 16384

noncomputable section

namespace Cert.Proofs.AttnSample

open Idealize.ShloMosaic Idealize.SL.Sem

instance : Subsingleton (Cert.Pre_finite_inputs.S_).Idx := ⟨fun _ _ => funext fun a => a.elim0⟩

section
open Cert.Pre_finite_inputs Cert.Pre_finite_inputs.Gen

/-- The precondition says that every element of the arguments it names is a real. -/
theorem real_args (x0 : FVec Ideal S16x32x1024 .bf16) (x1 : FVec Ideal S16x4096x8x2x64 .f32) (x2 : FVec Ideal S16x4096x8x128 .f32)
    (x3 x4 : FVec Ideal S16x32x1024 .f32) (x5 x6 x7 x8 : FVec Ideal S64 .f32) (x9 : FVec Ideal S128 .f32)
    (h : fn (F := Ideal) x0 x1 x2 x3 x4 x5 x6 x7 x8 x9 = fun _ => 1#1) :
    (∀ i, ∃ r : ℝ, x0 i = (r : EReal)) ∧ (∀ i, ∃ r : ℝ, x1 i = (r : EReal)) ∧ (∀ i, ∃ r : ℝ, x2 i = (r : EReal))
    ∧ (∀ i, ∃ r : ℝ, x3 i = (r : EReal)) ∧ (∀ i, ∃ r : ℝ, x4 i = (r : EReal)) ∧ (∀ i, ∃ r : ℝ, x5 i = (r : EReal))
    ∧ (∀ i, ∃ r : ℝ, x6 i = (r : EReal)) ∧ (∀ i, ∃ r : ℝ, x7 i = (r : EReal)) ∧ (∀ i, ∃ r : ℝ, x8 i = (r : EReal)) := by
  have h1 := congrFun h (fun a => a.elim0)
  unfold fn fn_part1 fn_part2 at h1
  obtain ⟨h1, e8⟩ := IntOp.andi_eq_one.1 h1
  obtain ⟨h1, e7⟩ := IntOp.andi_eq_one.1 h1
  obtain ⟨h1, e6⟩ := IntOp.andi_eq_one.1 h1
  obtain ⟨h1, e5⟩ := IntOp.andi_eq_one.1 h1
  obtain ⟨h1, e4⟩ := IntOp.andi_eq_one.1 h1
  obtain ⟨h1, e3⟩ := IntOp.andi_eq_one.1 h1
  obtain ⟨h1, e2⟩ := IntOp.andi_eq_one.1 h1
  obtain ⟨e0, e1⟩ := IntOp.andi_eq_one.1 h1
  exact ⟨Finite.real_of_all (extf .f32 x0 bitsLt_bf16_f32) _ _ _ _ _ e0, Finite.real_of_all x1 _ _ _ _ _ e1, Finite.real_of_all x2 _ _ _ _ _ e2,
    Finite.real_of_all x3 _ _ _ _ _ e3, Finite.real_of_all x4 _ _ _ _ _ e4, Finite.real_of_all x5 _ _ _ _ _ e5,
    Finite.real_of_all x6 _ _ _ _ _ e6, Finite.real_of_all x7 _ _ _ _ _ e7, Finite.real_of_all x8 _ _ _ _ _ e8⟩
end

open RealMath in
/-- The maps' weight is a real when the four vectors are. -/
theorem lam_real (a b c d : Fin 64 → EReal) (ha : ∀ i, ∃ r : ℝ, a i = (r : EReal)) (hb : ∀ i, ∃ r : ℝ, b i = (r : EReal))
    (hc : ∀ i, ∃ r : ℝ, c i = (r : EReal)) (hd : ∀ i, ∃ r : ℝ, d i = (r : EReal)) : ∃ L : ℝ, lamVal a b c d = (L : EReal) := by
  choose A hA using ha
  choose B hB using hb
  choose C hC using hc
  choose D hD using hd
  obtain ⟨k, hk⟩ := ofBits_lam
  refine ⟨Real.exp (∑ x, A x * B x) - Real.exp (∑ x, C x * D x) + k, ?_⟩
  unfold lamVal
  simp only [hA, hB, hC, hD, ← EReal.coe_mul, coe_sum, Ideal.exp_coe, hk]
  rw [← EReal.coe_sub, ← EReal.coe_add]

/-- On real arguments the kernel and the reference leave the same result. -/
theorem algebraic : Cert.algebraic_KernelIdeal_ReferenceIdeal_pre_finite_inputs (hKernelIdeal := Cert.KernelIdeal.Gen.facts)
    (hReferenceIdeal := Cert.ReferenceIdeal.Gen.facts) (hPre_finite_inputs := Cert.Pre_finite_inputs.Gen.facts) := by
  intro m g m' g' hpre hagree
  refine ⟨fun c => (Cert.KernelIdeal.Gen.dats m 0 c).arrAt 10 Cert.KernelIdeal.cfg0.N,
    Cert.KernelIdeal.Value.run_blocks m g, ?_⟩
  refine (θ_run _ _ _).mono (fun r h c => ⟨?_, (h c).2⟩) (Cert.ReferenceIdeal.Value.run m' g')
  obtain ⟨a0, a1, a2, a3, a4, a5, a6, a7, a8, a9⟩ := hagree c
  refine (h c).1.trans ?_
  rw [Cert.ReferenceIdeal.Read.val_main_v54_eq, a0, a1, a2, a3, a4, a5, a6, a7, a8, a9]
  obtain ⟨r0, r1, r2, r3, r4, r5, r6, r7, r8⟩ := real_args _ _ _ _ _ _ _ _ _ _ (hpre c)
  obtain ⟨L, hL⟩ := lam_real _ _ _ _ (fun x => r5 (ix1 x)) (fun x => r6 (ix1 x)) (fun x => r7 (ix1 x)) (fun x => r8 (ix1 x))
  choose Q hQ using r0
  choose K hK using r1
  choose VV hV using r2
  choose KN hKN using r3
  choose VN hVN using r4
  refine Eq.trans ?_ (kernel_value m c L (fun b r d => Q (ix3 b r d)) (fun b k h a d => K (ix5 b k h a d)) (fun b k h e => VV (ix4 b k h e))
    (fun b r d => KN (ix3 b r d)) (fun b r d => VN (ix3 b r d)) hL (fun _ _ _ => hQ _) (fun _ _ _ _ _ => hK _)
    (fun _ _ _ _ => hV _) (fun _ _ _ => hKN _) (fun _ _ _ => hVN _)).symm
  exact ref_value _ _ _ _ _ _ _ _ _ _ L (fun b r d => Q (ix3 b r d)) (fun b k h a d => K (ix5 b k h a d)) (fun b k h e => VV (ix4 b k h e))
    (fun b r d => KN (ix3 b r d)) (fun b r d => VN (ix3 b r d)) hL (fun _ _ _ => hQ _) (fun _ _ _ _ _ => hK _)
    (fun _ _ _ _ => hV _) (fun _ _ _ => hKN _) (fun _ _ _ => hVN _)

end Cert.Proofs.AttnSample
-- ==== Proof.Layer.lean ====
module

public import Idealize.ShloMosaic.PureOps.Ideal.Laws
public import proofs.«01_k».proof.Proof.RealMath

@[expose] public section

noncomputable section

namespace Cert.Proofs.Layer

open Idealize.ShloMosaic Cert.Proofs.RealMath

/-- A row over its root mean square, times the weight. -/
def rms (x w : Fin 1024 → EReal) (d : Fin 1024) : EReal :=
  x d * Ideal.rsqrt (Ideal.div (∑ k : Fin 1024, x k * x k) (Ideal.ofBits .f32 0x44800000#32)
    + Ideal.ofBits .f32 0x358637BD#32) * w d

/-- The logistic function, as a quotient. -/
def sig (g : EReal) : EReal := Ideal.div 1 (1 + Ideal.exp (-g))

/-- `g` times its logistic function. -/
def silu (g : EReal) : EReal := g * sig g

/-- The logistic function through the hyperbolic tangent. -/
def sigT (g : EReal) : EReal :=
  Ideal.ofBits .f32 0x3F000000#32 * Ideal.tanh (Ideal.ofBits .f32 0x3F000000#32 * g) + Ideal.ofBits .f32 0x3F000000#32

/-- `g` times its logistic function, through the hyperbolic tangent. -/
def siluT (g : EReal) : EReal :=
  Ideal.ofBits .f32 0x3F000000#32 * g * Ideal.tanh (Ideal.ofBits .f32 0x3F000000#32 * g)
    + Ideal.ofBits .f32 0x3F000000#32 * g

theorem ofBits_half : Ideal.ofBits .f32 0x3F000000#32 = ((1 / 2 : ℝ) : EReal) := by
  simp [Ideal.ofBits, Ideal.ieee]
  rw [← EReal.coe_mul]
  norm_num

theorem ofBits_one : Ideal.ofBits .f32 0x3F800000#32 = (1 : EReal) := by
  simp [Ideal.ofBits, Ideal.ieee]
  rw [← EReal.coe_mul]
  norm_num

theorem ofBits_1024 : Ideal.ofBits .f32 0x44800000#32 = ((1024 : ℝ) : EReal) := by
  simp [Ideal.ofBits, Ideal.ieee]
  rw [← EReal.coe_mul]
  norm_num

/-- The norm's small constant is a positive real. -/
theorem ofBits_eps : ∃ e : ℝ, 0 < e ∧ Ideal.ofBits .f32 0x358637BD#32 = (e : EReal) := by
  simp [Ideal.ofBits, Ideal.ieee]
  refine ⟨_, ?_, (EReal.coe_mul _ _).symm⟩
  norm_num

/-- Half the hyperbolic tangent of half, and a half, is the logistic function. -/
theorem tanh_half (r : ℝ) : 1 / 2 * Real.tanh (1 / 2 * r) + 1 / 2 = 1 / (1 + Real.exp (-r)) := by
  rw [Real.tanh_eq_sinh_div_cosh, Real.sinh_eq, Real.cosh_eq]
  have h1 : Real.exp (-r) = Real.exp (-(1 / 2 * r)) * Real.exp (-(1 / 2 * r)) := by
    rw [← Real.exp_add]; congr 1; ring
  have h2 : Real.exp (1 / 2 * r) * Real.exp (-(1 / 2 * r)) = 1 := by
    rw [← Real.exp_add, add_neg_cancel, Real.exp_zero]
  rw [h1]
  have p1 := Real.exp_pos (1 / 2 * r)
  have p2 := Real.exp_pos (-(1 / 2 * r))
  generalize Real.exp (1 / 2 * r) = a at *
  generalize Real.exp (-(1 / 2 * r)) = b at *
  have h3 : 1 + b * b = b * (a + b) := by rw [mul_add, mul_comm b a, h2]
  rw [h3]
  field_simp
  linear_combination (2 : ℝ) * h2

theorem sig_coe (r : ℝ) : sig (r : EReal) = ((1 / (1 + Real.exp (-r)) : ℝ) : EReal) := by
  have h : (1 : ℝ) + Real.exp (-r) ≠ 0 := (add_pos one_pos (Real.exp_pos _)).ne'
  unfold sig
  rw [← EReal.coe_neg, Ideal.exp_coe, ← EReal.coe_one, ← EReal.coe_add, Ideal.div_coe h, ← EReal.coe_mul, one_mul]

theorem sigT_coe (r : ℝ) : sigT (r : EReal) = sig (r : EReal) := by
  rw [sig_coe]
  unfold sigT
  rw [ofBits_half, ← EReal.coe_mul, Ideal.tanh_coe, ← EReal.coe_mul, ← EReal.coe_add, tanh_half]

theorem siluT_coe (r : ℝ) : siluT (r : EReal) = silu (r : EReal) := by
  unfold silu siluT
  rw [sig_coe, ofBits_half, ← EReal.coe_mul, Ideal.tanh_coe, ← EReal.coe_mul, ← EReal.coe_add, ← EReal.coe_mul, ← tanh_half]
  congr 1
  ring

/-- A finite row's norm is finite. -/
theorem rms_real (x w : Fin 1024 → EReal) (hx : ∀ d, ∃ r : ℝ, x d = (r : EReal)) (hw : ∀ d, ∃ r : ℝ, w d = (r : EReal))
    (d : Fin 1024) : ∃ r : ℝ, rms x w d = (r : EReal) := by
  choose X hX using hx
  choose W hW using hw
  obtain ⟨e, he, hee⟩ := ofBits_eps
  unfold rms
  simp only [hX, hW, ← EReal.coe_mul, coe_sum, ofBits_1024, hee]
  rw [Ideal.div_coe (by norm_num), ← EReal.coe_mul, ← EReal.coe_add]
  have hp : 0 < (∑ k, X k * X k) * (1 / 1024) + e :=
    add_pos_of_nonneg_of_pos (mul_nonneg (Finset.sum_nonneg fun k _ => mul_self_nonneg _) (by norm_num)) he
  rw [Ideal.rsqrt_coe]
  rw [if_neg (not_lt.2 hp.le), if_neg hp.ne']
  exact ⟨_, by rw [← EReal.coe_mul, ← EReal.coe_mul]⟩

/-- A product of a finite row with finite columns is finite. -/
theorem dot_real {n : ℕ} (x w : Fin n → EReal) (hx : ∀ d, ∃ r : ℝ, x d = (r : EReal)) (hw : ∀ d, ∃ r : ℝ, w d = (r : EReal)) :
    ∃ r : ℝ, ∑ d, x d * w d = (r : EReal) := by
  choose X hX using hx
  choose W hW using hw
  simp only [hX, hW, ← EReal.coe_mul, coe_sum]
  exact ⟨_, rfl⟩

/-- The two logistic functions agree at a real. -/
theorem sigT_eq (g : EReal) (h : ∃ r : ℝ, g = (r : EReal)) : sigT g = sig g := by
  obtain ⟨r, rfl⟩ := h
  exact sigT_coe r

theorem siluT_eq (g : EReal) (h : ∃ r : ℝ, g = (r : EReal)) : siluT g = silu g := by
  obtain ⟨r, rfl⟩ := h
  exact siluT_coe r

/-- One row of the channel mixer: the gated hidden units times the second weight, onto the row. -/
def ffn (act : EReal → EReal) (x w : Fin 1024 → EReal) (U : Fin 1024 → Fin 5632 → EReal) (D : Fin 2816 → Fin 1024 → EReal)
    (e : Fin 1024) : EReal :=
  x e + ∑ f : Fin 2816, act (∑ k : Fin 1024, rms x w k * U k ⟨f.val, by omega⟩)
    * (∑ k : Fin 1024, rms x w k * U k ⟨2816 + f.val, by omega⟩) * D f e

/-- On finite rows and first weights it does not matter how the logistic function is computed. -/
theorem ffn_act (x w : Fin 1024 → EReal) (U : Fin 1024 → Fin 5632 → EReal) (D : Fin 2816 → Fin 1024 → EReal) (e : Fin 1024)
    (hx : ∀ d, ∃ r : ℝ, x d = (r : EReal)) (hw : ∀ d, ∃ r : ℝ, w d = (r : EReal))
    (hU : ∀ k f, ∃ r : ℝ, U k f = (r : EReal)) : ffn siluT x w U D e = ffn silu x w U D e := by
  unfold ffn
  simp only [siluT_eq _ (dot_real _ _ (rms_real x w hx hw) fun k => hU k _)]

/-- One row of the merge: the two gated branches times the output weight, onto the row. -/
def merge (act gate : EReal → EReal) (x w a b : Fin 1024 → EReal) (Z : Fin 1024 → Fin 9232 → EReal)
    (A B O : Fin 1024 → Fin 1024 → EReal) (e : Fin 1024) : EReal :=
  x e + ∑ f : Fin 1024,
    (gate (∑ k : Fin 1024, rms x w k * Z k ⟨7184 + f.val, by omega⟩) * (∑ k : Fin 1024, a k * A k f)
      + gate (∑ k : Fin 1024, rms x w k * Z k ⟨8208 + f.val, by omega⟩)
        * (∑ j : Fin 1024, b j * act (∑ k : Fin 1024, rms x w k * Z k ⟨6144 + j.val, by omega⟩) * B j f)) * O f e

/-- On finite rows and input weights it does not matter how the logistic function is computed. -/
theorem merge_act (x w a b : Fin 1024 → EReal) (Z : Fin 1024 → Fin 9232 → EReal) (A B O : Fin 1024 → Fin 1024 → EReal)
    (e : Fin 1024) (hx : ∀ d, ∃ r : ℝ, x d = (r : EReal)) (hw : ∀ d, ∃ r : ℝ, w d = (r : EReal))
    (hZ : ∀ k f, ∃ r : ℝ, Z k f = (r : EReal)) : merge siluT sigT x w a b Z A B O e = merge silu sig x w a b Z A B O e := by
  unfold merge
  simp only [siluT_eq _ (dot_real _ _ (rms_real x w hx hw) fun k => hZ k _),
    sigT_eq _ (dot_real _ _ (rms_real x w hx hw) fun k => hZ k _)]

end Cert.Proofs.Layer
-- ==== Proof.FfnKernel.lean ====
module

public import proofs.«01_k».proof.Proof.Layer
public import proofs.«01_k».proof.Proof.Gen.FfnIdeal.Value
public import Idealize.ShloMosaic.Lib.Pipeline.ValueKit
public import Idealize.ShloMosaic.Lib.Claim

@[expose] public section

set_option maxRecDepth 16384

noncomputable section

namespace Cert.Proofs.Ffn

open Cert.FfnIdeal Cert.FfnIdeal.Gen Idealize.ShloMosaic Idealize.ShloMosaic.TcCoe Idealize.SL.Sem Cert.Proofs.Layer

section
variable (v0 : Vec Ideal S512x1024 .f32) (v1 : Vec Ideal S1x1024 .f32)

/-- The block's rows, normed. -/
theorem pay2_apply (r : Fin 512) (d : Fin 1024) :
    k0_pay2 v0 v1 (ix2 r d) = rms (fun k => v0 (ix2 r k)) (fun k => v1 (ix2 0 k)) d := by
  unfold k0_pay2 rms
  pointwise

/-- The first chunk's gated hidden units. -/
theorem pay3_apply (v16 v19 : Vec Ideal S1024x1536 .bf16) (r : Fin 512) (f : Fin 1536) :
    k0_pay3 v0 v1 v16 v19 (ix2 r f)
      = siluT (∑ k : Fin 1024, rms (fun k => v0 (ix2 r k)) (fun k => v1 (ix2 0 k)) k * v16 (ix2 k f))
        * (∑ k : Fin 1024, rms (fun k => v0 (ix2 r k)) (fun k => v1 (ix2 0 k)) k * v19 (ix2 k f)) := by
  simp only [← pay2_apply]
  unfold k0_pay3 siluT
  generalize k0_pay2 v0 v1 = h
  pointwise

theorem pay4_apply (v32 : Vec Ideal S1024x1280 .bf16) (r : Fin 512) (f : Fin 1280) :
    k0_pay4 v0 v1 v32 (ix2 r f)
      = ∑ k : Fin 1024, rms (fun k => v0 (ix2 r k)) (fun k => v1 (ix2 0 k)) k * v32 (ix2 k f) := by
  simp only [← pay2_apply]
  unfold k0_pay4
  generalize k0_pay2 v0 v1 = h
  pointwise

theorem pay5_apply (v29 : Vec Ideal S1024x1280 .bf16) (r : Fin 512) (f : Fin 1280) :
    k0_pay5 v0 v1 v29 (ix2 r f)
      = Ideal.ofBits .f32 0x3F000000#32 * ∑ k : Fin 1024, rms (fun k => v0 (ix2 r k)) (fun k => v1 (ix2 0 k)) k * v29 (ix2 k f) := by
  simp only [← pay2_apply]
  unfold k0_pay5
  generalize k0_pay2 v0 v1 = h
  pointwise

theorem pay6_apply (v29 : Vec Ideal S1024x1280 .bf16) (r : Fin 512) (f : Fin 1280) :
    k0_pay6 v0 v1 v29 (ix2 r f)
      = Ideal.tanh (Ideal.ofBits .f32 0x3F000000#32
          * ∑ k : Fin 1024, rms (fun k => v0 (ix2 r k)) (fun k => v1 (ix2 0 k)) k * v29 (ix2 k f)) := by
  rw [← pay5_apply]
  rfl

/-- The block's result from the two chunks' hidden units. -/
theorem pay1_apply (a : FVec Ideal S512x1536 .bf16) (u p q : FVec Ideal S512x1280 .f32) (w : Vec Ideal S1536x1024 .bf16)
    (z : Vec Ideal S1280x1024 .bf16) (r : Fin 512) (e : Fin 1024) :
    k0_pay1 v0 a u p q w z (ix2 r e)
      = v0 (ix2 r e) + (∑ f : Fin 1536, a (ix2 r f) * w (ix2 f e))
        + ∑ f : Fin 1280, (p (ix2 r f) * q (ix2 r f) + p (ix2 r f)) * u (ix2 r f) * z (ix2 f e) := by
  unfold k0_pay1
  pointwise
end

theorem hz2 : (![0, 0] : Fin 2 → Nat) = fun _ => 0 := funext fun a => by fin_cases a <;> rfl

/-- What the body leaves in the result's block, of the inputs' blocks. -/
theorem out_apply (x0 : Vec Ideal S512x1024 .f32) (x1 : Vec Ideal S1x1024 .f32) (x2 : Vec Ideal S1024x5632 .bf16)
    (x3 : Vec Ideal S2816x1024 .bf16) (r : Fin 512) (e : Fin 1024) :
    out0_4 x0 x1 x2 x3 (ix2 r e)
      = ffn siluT (fun k => x0 (ix2 r k)) (fun k => x1 (ix2 0 k)) (fun k f => x2 (ix2 k f)) (fun f e => x3 (ix2 f e)) e := by
  have l2 (k : Fin 1024) (f : Fin 1536) : View.ld x2 r0_2 (ix2 k f) = x2 (ix2 k ⟨f.val, by omega⟩) := by
    show x2 _ = x2 _
    refine congrArg x2 (funext fun a => Fin.ext ?_)
    match a with
    | ⟨0, _⟩ => show 0 + 1 * k.val = _; simp
    | ⟨1, _⟩ => show 0 + 1 * f.val = _; simp
  have l3 (k : Fin 1024) (f : Fin 1536) : View.ld x2 r0_3 (ix2 k f) = x2 (ix2 k ⟨2816 + f.val, by omega⟩) := by
    show x2 _ = x2 _
    refine congrArg x2 (funext fun a => Fin.ext ?_)
    match a with
    | ⟨0, _⟩ => show 0 + 1 * k.val = _; simp
    | ⟨1, _⟩ => show 2816 + 1 * f.val = _; simp
  have l4 (k : Fin 1024) (f : Fin 1280) : View.ld x2 r0_4 (ix2 k f) = x2 (ix2 k ⟨1536 + f.val, by omega⟩) := by
    show x2 _ = x2 _
    refine congrArg x2 (funext fun a => Fin.ext ?_)
    match a with
    | ⟨0, _⟩ => show 0 + 1 * k.val = _; simp
    | ⟨1, _⟩ => show 1536 + 1 * f.val = _; simp
  have l5 (k : Fin 1024) (f : Fin 1280) : View.ld x2 r0_5 (ix2 k f) = x2 (ix2 k ⟨2816 + (1536 + f.val), by omega⟩) := by
    show x2 _ = x2 _
    refine congrArg x2 (funext fun a => Fin.ext ?_)
    match a with
    | ⟨0, _⟩ => show 0 + 1 * k.val = _; simp
    | ⟨1, _⟩ => show 4352 + 1 * f.val = 2816 + (1536 + f.val); omega
  have l6 (f : Fin 1536) (e : Fin 1024) : View.ld x3 r0_6 (ix2 f e) = x3 (ix2 ⟨f.val, by omega⟩ e) := by
    show x3 _ = x3 _
    refine congrArg x3 (funext fun a => Fin.ext ?_)
    match a with
    | ⟨0, _⟩ => show 0 + 1 * f.val = _; simp
    | ⟨1, _⟩ => show 0 + 1 * e.val = _; simp
  have l7 (f : Fin 1280) (e : Fin 1024) : View.ld x3 r0_7 (ix2 f e) = x3 (ix2 ⟨1536 + f.val, by omega⟩ e) := by
    show x3 _ = x3 _
    refine congrArg x3 (funext fun a => Fin.ext ?_)
    match a with
    | ⟨0, _⟩ => show 1536 + 1 * f.val = _; simp
    | ⟨1, _⟩ => show 0 + 1 * e.val = _; simp
  have l0 : View.ld x0 r0_0 = x0 := View.ld_unit_zero hz2 _ _
  have l1 : View.ld x1 r0_1 = x1 := View.ld_unit_zero hz2 _ _
  unfold out0_4
  rw [View.canon_unit_zero hz2, l0, l1, pay1_apply]
  simp only [pay3_apply, pay4_apply, pay5_apply, pay6_apply, l2, l3, l4, l5, l6, l7]
  unfold ffn
  rw [Fin.sum_univ_add (a := 1536) (b := 1280), ← add_assoc]
  rfl

variable (m : (ℓ : Loc nD τ sig) → Buf (Elt Ideal) ℓ) (c : Dev nD)

/-- Where each window's block lies at a grid point. -/
theorem place : ∀ t : Fin cfg0.N,
    win0_0.index t = ![t.val, 0] ∧ win0_1.index t = ![0, 0] ∧ win0_2.index t = ![0, 0] ∧ win0_3.index t = ![0, 0]
    ∧ win0_4.index t = ![t.val, 0] := by
  decide +kernel

/-- The array's row that is row `r` of the block at `t`. -/
abbrev row (t : Fin cfg0.N) (r : Fin 512) : Fin 32768 :=
  ⟨512 * t.val + r.val, by have h : t.val < 64 := t.isLt; omega⟩

theorem read_x (t : Fin cfg0.N) (r : Fin 512) (d : Fin 1024) :
    iblk m c 0 t (ix2 r d) = m ((c : Thread nD τ).loc main_arg0) (ix2 (row t r) d) := by
  obtain ⟨e0, -⟩ := place t
  blk_ext [iblk, V, e0]

theorem read_ln (t : Fin cfg0.N) (d : Fin 1024) :
    iblk m c 1 t (ix2 0 d) = m ((c : Thread nD τ).loc main_arg1) (ix1 d) := by
  obtain ⟨-, e0, -⟩ := place t
  blk_simp [iblk, e0]
  entry_read
  pointwise
  blk_ext [e0]

theorem read_u (t : Fin cfg0.N) (k : Fin 1024) (f : Fin 5632) :
    iblk m c 2 t (ix2 k f) = m ((c : Thread nD τ).loc main_arg2) (ix2 k f) := by
  obtain ⟨-, -, e0, -⟩ := place t
  blk_simp [iblk, e0]
  entry_read
  pointwise
  blk_ext [e0]

theorem read_d (t : Fin cfg0.N) (f : Fin 2816) (e : Fin 1024) :
    iblk m c 3 t (ix2 f e) = m ((c : Thread nD τ).loc main_arg3) (ix2 f e) := by
  obtain ⟨-, -, -, e0, -⟩ := place t
  blk_simp [iblk, e0]
  entry_read
  pointwise
  blk_ext [e0]

/-- The whole result, row by row, of the arguments. -/
def ffnFn (act : EReal → EReal) (x : Fin 32768 → Fin 1024 → EReal) (w : Fin 1024 → EReal) (U : Fin 1024 → Fin 5632 → EReal)
    (D : Fin 2816 → Fin 1024 → EReal) (y : S32768x1024.Idx) : EReal :=
  ffn act (x (y 0)) w U D (y 1)

/-- What the kernel leaves in its result. -/
theorem kernel_value : (dats m 0 c).arrAt 4 cfg0.N
    = ffnFn siluT (fun r k => m ((c : Thread nD τ).loc main_arg0) (ix2 r k)) (fun k => m ((c : Thread nD τ).loc main_arg1) (ix1 k))
      (fun k f => m ((c : Thread nD τ).loc main_arg2) (ix2 k f)) (fun f e => m ((c : Thread nD τ).loc main_arg3) (ix2 f e)) := by
  refine (dats m 0 c).arrAt_eq_of_covers 4 _ (by decide +kernel) fun t hf y => ?_
  have hp := (place t).2.2.2.2
  obtain ⟨r, e, rfl⟩ : ∃ (r : Fin 512) (e : Fin 1024), y = ix2 r e := ⟨y 0, y 1, (ix2_eta y).symm⟩
  blk_simp
  rw [after0_4]
  refine (out_apply _ _ _ _ r e).trans ?_
  simp only [read_x, read_ln, read_u, read_d]
  unfold ffnFn
  congr 1
  · funext k
    congr 2
    exact Fin.ext (by show 512 * t.val + r.val = _; blk_simp [hp]; omega)
  · exact Fin.ext (by blk_simp [hp])

end Cert.Proofs.Ffn
-- ==== Proof.FfnRefValue.lean ====
module

public import proofs.«01_k».proof.Proof.Layer
public import proofs.«01_k».proof.Proof.Gen.FfnRefIdeal.Read
public import Idealize.ShloMosaic.Lib.Pipeline.ValueKit

@[expose] public section

set_option maxRecDepth 16384

noncomputable section

namespace Cert.Proofs.FfnReference

open Cert.FfnRefIdeal Cert.FfnRefIdeal.Gen Cert.FfnRefIdeal.Read Idealize.ShloMosaic Idealize.ShloMosaic.TcCoe Idealize.SL.Sem
open Cert.Proofs.Layer

variable (x0 : Vec Ideal S32768x1024 .f32) (x1 : Vec Ideal S1024 .f32) (x2 : Vec Ideal S1024x5632 .f32)
  (x3 : Vec Ideal S2816x1024 .f32)

/-- The normed rows. -/
theorem norm_apply (r : Fin 32768) (d : Fin 1024) :
    val_main_v12 (F := Ideal) x0 x1 (ix2 r d) = rms (fun k => x0 (ix2 r k)) (fun k => x1 (ix1 k)) d := by
  unfold val_main_v12 val_main_v11 val_main_v10 val_main_v9 val_main_v8 val_main_v7 val_main_v6 val_main_v5 val_main_v4
    val_main_v3 val_main_v2 val_main_v1 val_main_v0 val_main_cst val_main_cst_0 val_main_cst_1 rms
  pointwise

/-- The hidden units before their gates. -/
theorem hidden_apply (r : Fin 32768) (f : Fin 5632) :
    val_main_v13 (F := Ideal) x0 x1 x2 (ix2 r f)
      = ∑ k : Fin 1024, rms (fun k => x0 (ix2 r k)) (fun k => x1 (ix1 k)) k * x2 (ix2 k f) := by
  simp only [← norm_apply]
  unfold val_main_v13
  generalize val_main_v12 (F := Ideal) x0 x1 = y
  pointwise

/-- The gated hidden units. -/
theorem gated_apply (r : Fin 32768) (f : Fin 2816) :
    val_main_v17 (F := Ideal) x0 x1 x2 (ix2 r f)
      = silu (val_main_v13 (F := Ideal) x0 x1 x2 (ix2 r ⟨f.val, by omega⟩))
        * val_main_v13 (F := Ideal) x0 x1 x2 (ix2 r ⟨2816 + f.val, by omega⟩) := by
  unfold val_main_v17 val_main_v16 val_main_call0_v5 val_main_call0_v4 val_main_call0_v3 val_main_call0_v2 val_main_call0_v1
    val_main_call0_v0 val_main_call0_cst val_main_call0_cst_0 val_main_v14 val_main_v15 silu Layer.sig
  generalize val_main_v13 (F := Ideal) x0 x1 x2 = y
  rw [← ofBits_one]
  pointwise

/-- The reference's result at a row and a column. -/
theorem ref_apply (r : Fin 32768) (e : Fin 1024) :
    val_main_v19 (F := Ideal) x0 x1 x2 x3 (ix2 r e)
      = ffn silu (fun k => x0 (ix2 r k)) (fun k => x1 (ix1 k)) (fun k f => x2 (ix2 k f)) (fun f e => x3 (ix2 f e)) e := by
  have h : val_main_v19 (F := Ideal) x0 x1 x2 x3 (ix2 r e)
      = x0 (ix2 r e) + ∑ f : Fin 2816, val_main_v17 (F := Ideal) x0 x1 x2 (ix2 r f) * x3 (ix2 f e) := by
    unfold val_main_v19 val_main_v18
    generalize val_main_v17 (F := Ideal) x0 x1 x2 = y
    pointwise
  rw [h]
  simp only [gated_apply, hidden_apply]
  rfl

end Cert.Proofs.FfnReference
-- ==== Proof.FfnClaim.lean ====
module

public import proofs.«01_k».proof.Defs
public import proofs.«01_k».proof.Proof.Pre
public import proofs.«01_k».proof.Proof.FfnKernel
public import proofs.«01_k».proof.Proof.FfnRefValue
public import proofs.«01_k».proof.Proof.Gen.FfnRefIdeal.Run
public import proofs.«01_k».proof.Proof.Gen.Pre_ffn_finite

@[expose] public section

set_option maxRecDepth 16384

noncomputable section

namespace Cert.Proofs.Ffn

open Idealize.ShloMosaic Idealize.SL.Sem

instance : Subsingleton (Cert.Pre_ffn_finite.S_).Idx := ⟨fun _ _ => funext fun a => a.elim0⟩

section
open Cert.Pre_ffn_finite Cert.Pre_ffn_finite.Gen

/-- The precondition says that every element of the arguments it names is a real. -/
theorem real_args (x0 : FVec Ideal S32768x1024 .f32) (x1 : FVec Ideal S1024 .f32) (x2 : FVec Ideal S1024x5632 .f32)
    (x3 : FVec Ideal S2816x1024 .f32) (h : fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal)) := by
  have h1 := congrFun h (fun a => a.elim0)
  unfold fn at h1
  obtain ⟨h1, e2⟩ := IntOp.andi_eq_one.1 h1
  obtain ⟨e0, e1⟩ := IntOp.andi_eq_one.1 h1
  exact ⟨Finite.real_of_all x0 _ _ _ _ _ e0, Finite.real_of_all x1 _ _ _ _ _ e1, Finite.real_of_all x2 _ _ _ _ _ e2⟩
end

/-- On finite rows and first weights the kernel and the reference leave the same result. -/
theorem algebraic : Cert.algebraic_FfnIdeal_FfnRefIdeal_pre_ffn_finite (hFfnIdeal := Cert.FfnIdeal.Gen.facts)
    (hFfnRefIdeal := Cert.FfnRefIdeal.Gen.facts) (hPre_ffn_finite := Cert.Pre_ffn_finite.Gen.facts) := by
  intro m g m' g' hpre hagree
  refine ⟨fun c => (Cert.FfnIdeal.Gen.dats m 0 c).arrAt 4 Cert.FfnIdeal.cfg0.N, Cert.FfnIdeal.Value.run_blocks m g, ?_⟩
  refine (θ_run _ _ _).mono (fun r h c => ⟨?_, (h c).2⟩) (Cert.FfnRefIdeal.Value.run m' g')
  obtain ⟨a0, a1, a2, a3⟩ := hagree c
  refine (h c).1.trans ?_
  rw [Cert.FfnRefIdeal.Read.val_main_v19_eq, a0, a1, a2, a3]
  obtain ⟨r0, r1, r2⟩ := real_args _ _ _ _ (hpre c)
  refine Eq.trans ?_ (kernel_value m c).symm
  funext y
  obtain ⟨r, e, rfl⟩ : ∃ (r : Fin 32768) (e : Fin 1024), y = ix2 r e := ⟨y 0, y 1, (ix2_eta y).symm⟩
  refine (FfnReference.ref_apply _ _ _ _ r e).trans ?_
  exact (Layer.ffn_act _ _ _ _ e (fun d => r0 (ix2 r d)) (fun d => r1 (ix1 d)) fun k f => r2 (ix2 k f)).symm

end Cert.Proofs.Ffn
-- ==== Proof.MergeKernel.lean ====
module

public import proofs.«01_k».proof.Proof.Layer
public import proofs.«01_k».proof.Proof.Gen.MergeIdeal.Value
public import Idealize.ShloMosaic.Lib.Pipeline.ValueKit
public import Idealize.ShloMosaic.Lib.Claim

@[expose] public section

set_option maxRecDepth 16384

noncomputable section

namespace Cert.Proofs.Merge

open Cert.MergeIdeal Cert.MergeIdeal.Gen Idealize.ShloMosaic Idealize.ShloMosaic.TcCoe Idealize.SL.Sem
open Cert.Proofs.Layer (rms siluT sigT merge)

section
variable (v0 : Vec Ideal S512x1024 .f32) (v1 : Vec Ideal S1x1024 .f32)

/-- The block's rows, normed. -/
theorem pay2_apply (r : Fin 512) (d : Fin 1024) :
    k0_pay2 v0 v1 (ix2 r d) = rms (fun k => v0 (ix2 r k)) (fun k => v1 (ix2 0 k)) d := by
  unfold k0_pay2 rms
  pointwise

/-- The second branch: the gated rows times its weight. -/
theorem pay3_apply (v16 : Vec Ideal S512x1024 .bf16) (v18 v28 : Vec Ideal S1024x1024 .bf16) (r : Fin 512) (f : Fin 1024) :
    k0_pay3 v0 v1 v16 v18 v28 (ix2 r f)
      = ∑ j : Fin 1024, v16 (ix2 r j)
          * siluT (∑ k : Fin 1024, rms (fun k => v0 (ix2 r k)) (fun k => v1 (ix2 0 k)) k * v18 (ix2 k j)) * v28 (ix2 j f) := by
  simp only [← pay2_apply]
  unfold k0_pay3 siluT
  generalize k0_pay2 v0 v1 = h
  pointwise

/-- The first branch: the rows times its weight. -/
theorem pay4_apply (v31 : Vec Ideal S512x1024 .bf16) (v32 : Vec Ideal S1024x1024 .bf16) (r : Fin 512) (f : Fin 1024) :
    k0_pay4 v31 v32 (ix2 r f) = ∑ k : Fin 1024, v31 (ix2 r k) * v32 (ix2 k f) := by
  unfold k0_pay4
  pointwise

/-- The block's result from the normed rows and the two branches. -/
theorem pay1_apply (h : FVec Ideal S512x1024 .bf16) (b a : FVec Ideal S512x1024 .f32) (va vb vo : Vec Ideal S1024x1024 .bf16)
    (r : Fin 512) (e : Fin 1024) :
    k0_pay1 v0 h b a va vb vo (ix2 r e)
      = v0 (ix2 r e) + ∑ f : Fin 1024, (sigT (∑ k : Fin 1024, h (ix2 r k) * va (ix2 k f)) * a (ix2 r f)
          + sigT (∑ k : Fin 1024, h (ix2 r k) * vb (ix2 k f)) * b (ix2 r f)) * vo (ix2 f e) := by
  unfold k0_pay1 sigT
  pointwise
end

theorem hz2 : (![0, 0] : Fin 2 → Nat) = fun _ => 0 := funext fun a => by fin_cases a <;> rfl

/-- What the body leaves in the result's block, of the inputs' blocks. -/
theorem out_apply (x0 : Vec Ideal S512x1024 .f32) (x1 x2 : Vec Ideal S512x1024 .bf16) (x3 : Vec Ideal S1x1024 .f32)
    (x4 x5 x6 x7 x8 x9 : Vec Ideal S1024x1024 .bf16) (r : Fin 512) (e : Fin 1024) :
    out0_10 x0 x1 x2 x3 x4 x5 x6 x7 x8 x9 (ix2 r e)
      = x0 (ix2 r e) + ∑ f : Fin 1024,
        (sigT (∑ k : Fin 1024, rms (fun k => x0 (ix2 r k)) (fun k => x3 (ix2 0 k)) k * x5 (ix2 k f))
            * (∑ k : Fin 1024, x1 (ix2 r k) * x7 (ix2 k f))
          + sigT (∑ k : Fin 1024, rms (fun k => x0 (ix2 r k)) (fun k => x3 (ix2 0 k)) k * x6 (ix2 k f))
            * (∑ j : Fin 1024, x2 (ix2 r j)
              * siluT (∑ k : Fin 1024, rms (fun k => x0 (ix2 r k)) (fun k => x3 (ix2 0 k)) k * x4 (ix2 k j)) * x8 (ix2 j f)))
          * x9 (ix2 f e) := by
  have l0 (x : Vec Ideal S512x1024 .f32) : View.ld x r0_0 = x := View.ld_unit_zero hz2 _ _
  have l0' (x : Vec Ideal S512x1024 .bf16) : View.ld x r0_0 = x := View.ld_unit_zero hz2 _ _
  have l1 : View.ld x3 r0_1 = x3 := View.ld_unit_zero hz2 _ _
  have l2 (x : Vec Ideal S1024x1024 .bf16) : View.ld x r0_2 = x := View.ld_unit_zero hz2 _ _
  unfold out0_10
  rw [View.canon_unit_zero hz2]
  simp only [l0, l0', l1, l2]
  rw [pay1_apply]
  simp only [pay2_apply, pay3_apply, pay4_apply]

variable (m : (ℓ : Loc nD τ sig) → Buf (Elt Ideal) ℓ) (c : Dev nD)

/-- Where each window's block lies at a grid point. -/
theorem place : ∀ t : Fin cfg0.N,
    win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![t.val, 0] := by
  decide +kernel

/-- The array's row that is row `r` of the block at `t`. -/
abbrev row (t : Fin cfg0.N) (r : Fin 512) : Fin 32768 :=
  ⟨512 * t.val + r.val, by have h : t.val < 64 := t.isLt; omega⟩

theorem read_x (t : Fin cfg0.N) (r : Fin 512) (d : Fin 1024) :
    iblk m c 0 t (ix2 r d) = m ((c : Thread nD τ).loc main_arg0) (ix2 (row t r) d) := by
  obtain ⟨e0, -⟩ := place t
  blk_ext [iblk, V, e0]

theorem read_a (t : Fin cfg0.N) (r : Fin 512) (d : Fin 1024) :
    iblk m c 1 t (ix2 r d) = m ((c : Thread nD τ).loc main_arg1) (ix2 (row t r) d) := by
  obtain ⟨-, e0, -⟩ := place t
  blk_ext [iblk, V, e0]

theorem read_b (t : Fin cfg0.N) (r : Fin 512) (d : Fin 1024) :
    iblk m c 2 t (ix2 r d) = m ((c : Thread nD τ).loc main_arg2) (ix2 (row t r) d) := by
  obtain ⟨-, -, e0, -⟩ := place t
  blk_ext [iblk, V, e0]

theorem read_ln (t : Fin cfg0.N) (d : Fin 1024) :
    iblk m c 3 t (ix2 0 d) = m ((c : Thread nD τ).loc main_arg3) (ix1 d) := by
  obtain ⟨-, -, -, e0, -⟩ := place t
  blk_simp [iblk, e0]
  entry_read
  pointwise
  blk_ext [e0]

theorem read_dg (t : Fin cfg0.N) (k f : Fin 1024) :
    iblk m c 4 t (ix2 k f) = m ((c : Thread nD τ).loc main_arg4) (ix2 k ⟨6144 + f.val, by omega⟩) := by
  obtain ⟨-, -, -, -, e0, -⟩ := place t
  blk_simp [iblk, e0]
  entry_read
  pointwise
  blk_ext [e0]

theorem read_ga (t : Fin cfg0.N) (k f : Fin 1024) :
    iblk m c 5 t (ix2 k f) = m ((c : Thread nD τ).loc main_arg4) (ix2 k ⟨7184 + f.val, by omega⟩) := by
  obtain ⟨-, -, -, -, -, e0, -⟩ := place t
  blk_simp [iblk, e0]
  entry_read
  pointwise
  blk_ext [e0]

theorem read_gb (t : Fin cfg0.N) (k f : Fin 1024) :
    iblk m c 6 t (ix2 k f) = m ((c : Thread nD τ).loc main_arg4) (ix2 k ⟨8208 + f.val, by omega⟩) := by
  obtain ⟨-, -, -, -, -, -, e0, -⟩ := place t
  blk_simp [iblk, e0]
  entry_read
  pointwise
  blk_ext [e0]

theorem read_wa (t : Fin cfg0.N) (k f : Fin 1024) :
    iblk m c 7 t (ix2 k f) = m ((c : Thread nD τ).loc main_arg5) (ix2 k f) := by
  obtain ⟨-, -, -, -, -, -, -, e0, -⟩ := place t
  blk_simp [iblk, e0]
  entry_read
  pointwise
  blk_ext [e0]

theorem read_wb (t : Fin cfg0.N) (k f : Fin 1024) :
    iblk m c 8 t (ix2 k f) = m ((c : Thread nD τ).loc main_arg6) (ix2 k f) := by
  obtain ⟨-, -, -, -, -, -, -, -, e0, -⟩ := place t
  blk_simp [iblk, e0]
  entry_read
  pointwise
  blk_ext [e0]

theorem read_wo (t : Fin cfg0.N) (k f : Fin 1024) :
    iblk m c 9 t (ix2 k f) = m ((c : Thread nD τ).loc main_arg7) (ix2 k f) := by
  obtain ⟨-, -, -, -, -, -, -, -, -, e0, -⟩ := place t
  blk_simp [iblk, e0]
  entry_read
  pointwise
  blk_ext [e0]

/-- The whole result, row by row, of the arguments. -/
def mergeFn (act gate : EReal → EReal) (x a b : Fin 32768 → Fin 1024 → EReal) (w : Fin 1024 → EReal)
    (Z : Fin 1024 → Fin 9232 → EReal) (A B O : Fin 1024 → Fin 1024 → EReal) (y : S32768x1024.Idx) : EReal :=
  merge act gate (x (y 0)) w (a (y 0)) (b (y 0)) Z A B O (y 1)

/-- What the kernel leaves in its result. -/
theorem kernel_value : (dats m 0 c).arrAt 10 cfg0.N
    = mergeFn siluT sigT (fun r k => m ((c : Thread nD τ).loc main_arg0) (ix2 r k))
      (fun r k => m ((c : Thread nD τ).loc main_arg1) (ix2 r k)) (fun r k => m ((c : Thread nD τ).loc main_arg2) (ix2 r k))
      (fun k => m ((c : Thread nD τ).loc main_arg3) (ix1 k)) (fun k f => m ((c : Thread nD τ).loc main_arg4) (ix2 k f))
      (fun k f => m ((c : Thread nD τ).loc main_arg5) (ix2 k f)) (fun k f => m ((c : Thread nD τ).loc main_arg6) (ix2 k f))
      (fun k f => m ((c : Thread nD τ).loc main_arg7) (ix2 k f)) := by
  refine (dats m 0 c).arrAt_eq_of_covers 10 _ (by decide +kernel) fun t hf y => ?_
  have hp := (place t).2.2.2.2.2.2.2.2.2.2
  obtain ⟨r, e, rfl⟩ : ∃ (r : Fin 512) (e : Fin 1024), y = ix2 r e := ⟨y 0, y 1, (ix2_eta y).symm⟩
  blk_simp
  rw [after0_10]
  refine (out_apply _ _ _ _ _ _ _ _ _ _ r e).trans ?_
  simp only [read_x, read_a, read_b, read_ln, read_dg, read_ga, read_gb, read_wa, read_wb, read_wo]
  have h0 : row t r = (((cfg0.win 10).blk t).view.emb (ix2 r e)) 0 :=
    Fin.ext (by show 512 * t.val + r.val = _; blk_simp [hp]; omega)
  have h1 : e = (((cfg0.win 10).blk t).view.emb (ix2 r e)) 1 := Fin.ext (by blk_simp [hp])
  unfold mergeFn
  refine Eq.trans ?_ (congrArg₂ (fun (r' : Fin 32768) (e' : Fin 1024) =>
    merge siluT sigT (fun k => m ((c : Thread nD τ).loc main_arg0) (ix2 r' k)) (fun k => m ((c : Thread nD τ).loc main_arg3) (ix1 k))
      (fun k => m ((c : Thread nD τ).loc main_arg1) (ix2 r' k)) (fun k => m ((c : Thread nD τ).loc main_arg2) (ix2 r' k))
      (fun k f => m ((c : Thread nD τ).loc main_arg4) (ix2 k f)) (fun k f => m ((c : Thread nD τ).loc main_arg5) (ix2 k f))
      (fun k f => m ((c : Thread nD τ).loc main_arg6) (ix2 k f)) (fun k f => m ((c : Thread nD τ).loc main_arg7) (ix2 k f)) e') h0 h1)
  rfl

end Cert.Proofs.Merge
-- ==== Proof.MergeRefValue.lean ====
module

public import proofs.«01_k».proof.Proof.Layer
public import proofs.«01_k».proof.Proof.Gen.MergeRefIdeal.Read
public import Idealize.ShloMosaic.Lib.Pipeline.ValueKit

@[expose] public section

set_option maxRecDepth 16384

noncomputable section

namespace Cert.Proofs.MergeReference

open Cert.MergeRefIdeal Cert.MergeRefIdeal.Gen Cert.MergeRefIdeal.Read Idealize.ShloMosaic Idealize.ShloMosaic.TcCoe
  Idealize.SL.Sem
open Cert.Proofs.Layer

variable (x0 : Vec Ideal S32768x1024 .f32) (x1 x2 : Vec Ideal S32768x1024 .bf16) (x3 : Vec Ideal S1024 .f32)
  (x4 : Vec Ideal S1024x9232 .f32) (x5 x6 x7 : Vec Ideal S1024x1024 .f32)

/-- The normed rows. -/
theorem norm_apply (r : Fin 32768) (d : Fin 1024) :
    val_main_v12 (F := Ideal) x0 x3 (ix2 r d) = rms (fun k => x0 (ix2 r k)) (fun k => x3 (ix1 k)) d := by
  unfold val_main_v12 val_main_v11 val_main_v10 val_main_v9 val_main_v8 val_main_v7 val_main_v6 val_main_v5 val_main_v4
    val_main_v3 val_main_v2 val_main_v1 val_main_v0 val_main_cst val_main_cst_0 val_main_cst_1 rms
  pointwise

/-- The normed rows through the input projection. -/
theorem proj_apply (r : Fin 32768) (f : Fin 9232) :
    val_main_v13 (F := Ideal) x0 x3 x4 (ix2 r f)
      = ∑ k : Fin 1024, rms (fun k => x0 (ix2 r k)) (fun k => x3 (ix1 k)) k * x4 (ix2 k f) := by
  simp only [← norm_apply]
  unfold val_main_v13
  generalize val_main_v12 (F := Ideal) x0 x3 = y
  pointwise

/-- The first branch. -/
theorem branch_a_apply (r : Fin 32768) (f : Fin 1024) :
    val_main_v24 (F := Ideal) x1 x5 (ix2 r f) = ∑ k : Fin 1024, x1 (ix2 r k) * x5 (ix2 k f) := by
  unfold val_main_v24 val_main_v23
  pointwise

/-- The second branch's gated rows. -/
theorem gated_apply (r : Fin 32768) (j : Fin 1024) :
    val_main_v27 (F := Ideal) x0 x2 x3 x4 (ix2 r j)
      = x2 (ix2 r j) * silu (val_main_v13 (F := Ideal) x0 x3 x4 (ix2 r ⟨6144 + j.val, by omega⟩)) := by
  unfold val_main_v27 val_main_v26 val_main_v25 val_main_call0_v5 val_main_call0_v4 val_main_call0_v3 val_main_call0_v2
    val_main_call0_v1 val_main_call0_v0 val_main_call0_cst val_main_call0_cst_0 val_main_v18 silu Layer.sig
  generalize val_main_v13 (F := Ideal) x0 x3 x4 = y
  rw [← ofBits_one]
  pointwise

/-- The second branch. -/
theorem branch_b_apply (r : Fin 32768) (f : Fin 1024) :
    val_main_v28 (F := Ideal) x0 x2 x3 x4 x6 (ix2 r f)
      = ∑ j : Fin 1024, val_main_v27 (F := Ideal) x0 x2 x3 x4 (ix2 r j) * x6 (ix2 j f) := by
  unfold val_main_v28
  generalize val_main_v27 (F := Ideal) x0 x2 x3 x4 = y
  pointwise

/-- The first branch's gate. -/
theorem gate_a_apply (r : Fin 32768) (f : Fin 1024) :
    val_main_v34 (F := Ideal) x0 x3 x4 (ix2 r f)
      = Layer.sig (val_main_v13 (F := Ideal) x0 x3 x4 (ix2 r ⟨7184 + f.val, by omega⟩)) := by
  unfold val_main_v34 val_main_v33 val_main_v32 val_main_v31 val_main_v30 val_main_v29 val_main_cst_2 val_main_cst_3
    val_main_v21 Layer.sig
  generalize val_main_v13 (F := Ideal) x0 x3 x4 = y
  rw [← ofBits_one]
  pointwise

/-- The second branch's gate. -/
theorem gate_b_apply (r : Fin 32768) (f : Fin 1024) :
    val_main_v41 (F := Ideal) x0 x3 x4 (ix2 r f)
      = Layer.sig (val_main_v13 (F := Ideal) x0 x3 x4 (ix2 r ⟨8208 + f.val, by omega⟩)) := by
  unfold val_main_v41 val_main_v40 val_main_v39 val_main_v38 val_main_v37 val_main_v36 val_main_cst_4 val_main_cst_5
    val_main_v22 Layer.sig
  generalize val_main_v13 (F := Ideal) x0 x3 x4 = y
  rw [← ofBits_one]
  pointwise

/-- The reference's result at a row and a column. -/
theorem ref_apply (r : Fin 32768) (e : Fin 1024) :
    val_main_v45 (F := Ideal) x0 x1 x2 x3 x4 x5 x6 x7 (ix2 r e)
      = merge silu Layer.sig (fun k => x0 (ix2 r k)) (fun k => x3 (ix1 k)) (fun k => x1 (ix2 r k)) (fun k => x2 (ix2 r k))
        (fun k f => x4 (ix2 k f)) (fun k f => x5 (ix2 k f)) (fun k f => x6 (ix2 k f)) (fun k f => x7 (ix2 k f)) e := by
  have h : val_main_v45 (F := Ideal) x0 x1 x2 x3 x4 x5 x6 x7 (ix2 r e)
      = x0 (ix2 r e) + ∑ f : Fin 1024, (val_main_v34 (F := Ideal) x0 x3 x4 (ix2 r f) * val_main_v24 (F := Ideal) x1 x5 (ix2 r f)
        + val_main_v41 (F := Ideal) x0 x3 x4 (ix2 r f) * val_main_v28 (F := Ideal) x0 x2 x3 x4 x6 (ix2 r f)) * x7 (ix2 f e) := by
    unfold val_main_v45 val_main_v44 val_main_v43 val_main_v42 val_main_v35
    generalize val_main_v34 (F := Ideal) x0 x3 x4 = y1
    generalize val_main_v24 (F := Ideal) x1 x5 = y2
    generalize val_main_v41 (F := Ideal) x0 x3 x4 = y3
    generalize val_main_v28 (F := Ideal) x0 x2 x3 x4 x6 = y4
    pointwise
  rw [h]
  simp only [gate_a_apply, gate_b_apply, branch_a_apply, branch_b_apply, gated_apply, proj_apply]
  rfl

end Cert.Proofs.MergeReference
-- ==== Proof.MergeClaim.lean ====
module

public import proofs.«01_k».proof.Defs
public import proofs.«01_k».proof.Proof.Pre
public import proofs.«01_k».proof.Proof.MergeKernel
public import proofs.«01_k».proof.Proof.MergeRefValue
public import proofs.«01_k».proof.Proof.Gen.MergeRefIdeal.Run
public import proofs.«01_k».proof.Proof.Gen.Pre_merge_finite

@[expose] public section

set_option maxRecDepth 16384

noncomputable section

namespace Cert.Proofs.Merge

open Idealize.ShloMosaic Idealize.SL.Sem

instance : Subsingleton (Cert.Pre_merge_finite.S_).Idx := ⟨fun _ _ => funext fun a => a.elim0⟩

section
open Cert.Pre_merge_finite Cert.Pre_merge_finite.Gen

/-- The precondition says that every element of the arguments it names is a real. -/
theorem real_args (x0 : FVec Ideal S32768x1024 .f32) (x1 x2 : FVec Ideal S32768x1024 .bf16) (x3 : FVec Ideal S1024 .f32)
    (x4 : FVec Ideal S1024x9232 .f32) (x5 x6 x7 : FVec Ideal S1024x1024 .f32)
    (h : fn (F := Ideal) x0 x1 x2 x3 x4 x5 x6 x7 = fun _ => 1#1) :
    (∀ i, ∃ r : ℝ, x0 i = (r : EReal)) ∧ (∀ i, ∃ r : ℝ, x3 i = (r : EReal)) ∧ (∀ i, ∃ r : ℝ, x4 i = (r : EReal)) := by
  have h1 := congrFun h (fun a => a.elim0)
  unfold fn at h1
  obtain ⟨h1, e2⟩ := IntOp.andi_eq_one.1 h1
  obtain ⟨e0, e1⟩ := IntOp.andi_eq_one.1 h1
  exact ⟨Finite.real_of_all x0 _ _ _ _ _ e0, Finite.real_of_all x3 _ _ _ _ _ e1, Finite.real_of_all x4 _ _ _ _ _ e2⟩
end

/-- On finite rows and input weights the kernel and the reference leave the same result. -/
theorem algebraic : Cert.algebraic_MergeIdeal_MergeRefIdeal_pre_merge_finite (hMergeIdeal := Cert.MergeIdeal.Gen.facts)
    (hMergeRefIdeal := Cert.MergeRefIdeal.Gen.facts) (hPre_merge_finite := Cert.Pre_merge_finite.Gen.facts) := by
  intro m g m' g' hpre hagree
  refine ⟨fun c => (Cert.MergeIdeal.Gen.dats m 0 c).arrAt 10 Cert.MergeIdeal.cfg0.N, Cert.MergeIdeal.Value.run_blocks m g, ?_⟩
  refine (θ_run _ _ _).mono (fun r h c => ⟨?_, (h c).2⟩) (Cert.MergeRefIdeal.Value.run m' g')
  obtain ⟨a0, a1, a2, a3, a4, a5, a6, a7⟩ := hagree c
  refine (h c).1.trans ?_
  rw [Cert.MergeRefIdeal.Read.val_main_v45_eq, a0, a1, a2, a3, a4, a5, a6, a7]
  obtain ⟨r0, r3, r4⟩ := real_args _ _ _ _ _ _ _ _ (hpre c)
  refine Eq.trans ?_ (kernel_value m c).symm
  funext y
  obtain ⟨r, e, rfl⟩ : ∃ (r : Fin 32768) (e : Fin 1024), y = ix2 r e := ⟨y 0, y 1, (ix2_eta y).symm⟩
  refine (MergeReference.ref_apply _ _ _ _ _ _ _ _ r e).trans ?_
  exact (Layer.merge_act _ _ _ _ _ _ _ _ e (fun d => r0 (ix2 r d)) (fun d => r3 (ix1 d)) fun k f => r4 (ix2 k f)).symm

end Cert.Proofs.Merge
-- ==== Proof.Project.lean ====
module

public import proofs.«01_k».proof.Proof.Layer
public import Idealize.ShloMosaic.Lib.Pointwise

@[expose] public section

set_option maxRecDepth 16384

noncomputable section

namespace Cert.Proofs.Layer

open Idealize.ShloMosaic

/-- Lane `d` of group `g`, of sixteen groups of 64. -/
abbrev col (g : Fin 16) (d : Fin 64) : Fin 1024 := ⟨64 * g.val + d.val, by omega⟩

/-- A normed row's product with a column of the input projection. -/
def proj (x w : Fin 1024 → EReal) (Z : Fin 1024 → Fin 9232 → EReal) (c : Fin 9232) : EReal :=
  ∑ k : Fin 1024, rms x w k * Z k c

/-- Each group of 64 lanes over its root mean square, times the weight. -/
def headNorm (z : Fin 1024 → EReal) (w : Fin 64 → EReal) (g : Fin 16) (d : Fin 64) : EReal :=
  z (col g d) * Ideal.rsqrt (Ideal.div (∑ x : Fin 64, z (col g x) * z (col g x)) (Ideal.ofBits .f32 0x42800000#32)
    + Ideal.ofBits .f32 0x358637BD#32) * w d

/-- The queries: normed by group, with the scale of the scores in base two. -/
def query (x w : Fin 1024 → EReal) (Z : Fin 1024 → Fin 9232 → EReal) (n : Fin 64 → EReal) (g : Fin 16) (d : Fin 64) : EReal :=
  headNorm (fun c => proj x w Z ⟨c.val, by omega⟩) n g d * Ideal.ofBits .f32 0x3E38AA3B#32

/-- The keys: normed by group. -/
def key (x w : Fin 1024 → EReal) (Z : Fin 1024 → Fin 9232 → EReal) (n : Fin 64 → EReal) (g : Fin 16) (d : Fin 64) : EReal :=
  headNorm (fun c => proj x w Z ⟨1024 + c.val, by omega⟩) n g d

/-- Every lane is one of a group. -/
theorem exists_col (c : Fin 1024) : ∃ (g : Fin 16) (d : Fin 64), c = col g d :=
  ⟨⟨c.val / 64, by omega⟩, ⟨c.val % 64, by omega⟩, Fin.ext (by show c.val = 64 * (c.val / 64) + c.val % 64; omega)⟩

/-- The small shifts of the group numbers. -/
theorem shift_six (k : Fin 256) :
    IntOp.shrsi .vector (BitVec.ofNat 32 k.val) 6#32 = BitVec.ofNat 32 (k.val / 64) := by
  revert k
  decide +kernel

/-- Two lanes' group numbers compared. -/
theorem same_group (k e : Fin 256) :
    IntOp.cmpi .eq (IntOp.shrsi .vector (BitVec.ofNat 32 k.val) 6#32) (IntOp.shrsi .vector (BitVec.ofNat 32 e.val) 6#32)
      = if k.val / 64 = e.val / 64 then 1#1 else 0#1 := by
  rw [shift_six, shift_six]
  have h : ∀ a b : Fin 4, IntOp.cmpi .eq (BitVec.ofNat 32 a.val) (BitVec.ofNat 32 b.val) = if a.val = b.val then 1#1 else 0#1 := by
    decide +kernel
  exact h ⟨k.val / 64, by omega⟩ ⟨e.val / 64, by omega⟩

/-- A sum weighted by membership of a lane's group is the group's sum. -/
theorem group_sum (z : Fin 256 → EReal) (j : Fin 4) (d : Fin 64) :
    ∑ k : Fin 256, z k * (if k.val / 64 = (64 * j.val + d.val) / 64 then 1 else 0)
      = ∑ x : Fin 64, z ⟨64 * j.val + x.val, by omega⟩ := by
  have e := (finProdFinEquiv (m := 4) (n := 64)).sum_comp
    (fun k : Fin 256 => z k * (if k.val / 64 = (64 * j.val + d.val) / 64 then 1 else 0))
  rw [← e, Fintype.sum_prod_type, Finset.sum_eq_single j]
  · refine Finset.sum_congr rfl fun x _ => ?_
    have hv : (finProdFinEquiv (m := 4) (n := 64) (j, x)).val = x.val + 64 * j.val := rfl
    rw [if_pos (by rw [hv]; omega), mul_one]
    exact congrArg z (Fin.ext (by rw [hv]; exact Nat.add_comm _ _))
  · intro b _ hb
    refine Finset.sum_eq_zero fun x _ => ?_
    have hv : (finProdFinEquiv (m := 4) (n := 64) (b, x)).val = x.val + 64 * b.val := rfl
    rw [if_neg (by rw [hv]; intro h; exact hb (Fin.ext (by omega))), mul_zero]
  · intro h
    exact absurd (Finset.mem_univ j) h

theorem ofBits_64 : Ideal.ofBits .f32 0x42800000#32 = ((64 : ℝ) : EReal) := by
  simp [Ideal.ofBits, Ideal.ieee]
  rw [← EReal.coe_mul]
  norm_num

theorem ofBits_inv64 : Ideal.ofBits .f32 0x3C800000#32 = ((1 / 64 : ℝ) : EReal) := by
  simp [Ideal.ofBits, Ideal.ieee]
  rw [← EReal.coe_mul]
  norm_num

/-- A sixty-fourth part, as a product and as a quotient. -/
theorem mul_inv64 (x : EReal) : x * Ideal.ofBits .f32 0x3C800000#32 = Ideal.div x (Ideal.ofBits .f32 0x42800000#32) := by
  rw [ofBits_64, ofBits_inv64, Ideal.div_coe (by norm_num)]

end Cert.Proofs.Layer
-- ==== Proof.ProjectKernel.lean ====
module

public import proofs.«01_k».proof.Proof.Project
public import proofs.«01_k».proof.Proof.Gen.ProjectIdeal.Value
public import Idealize.ShloMosaic.Lib.Pipeline.ValueKit
public import Idealize.ShloMosaic.Lib.Claim

@[expose] public section

set_option maxRecDepth 16384

noncomputable section

namespace Cert.Proofs.Project

open Cert.ProjectIdeal Cert.ProjectIdeal.Gen Idealize.ShloMosaic Idealize.ShloMosaic.TcCoe Idealize.SL.Sem
open Cert.Proofs.Layer (rms proj headNorm query key col exists_col same_group group_sum mul_inv64 ofBits_one)

/-- The weight of a lane in a group's sum. -/
theorem mask_apply (k e : Fin 256) :
    Scalar.select (k0_pay6 (ix2 k e)) (k0_pay7 (F := Ideal) (ix2 k e)) (k0_pay8 (F := Ideal) (ix2 k e))
      = if k.val / 64 = e.val / 64 then (1 : EReal) else 0 := by
  have h : k0_pay6 (ix2 k e) = if k.val / 64 = e.val / 64 then 1#1 else 0#1 := by
    unfold k0_pay6
    pointwise
    exact same_group k e
  rw [h]
  unfold k0_pay7 k0_pay8
  pointwise
  split <;> rfl

section
variable (v0 : Vec Ideal S1024x1024 .f32) (v2 : Vec Ideal S1x1024 .f32)

/-- The block's rows, normed. -/
theorem pay2_apply (r : Fin 1024) (d : Fin 1024) :
    k0_pay2 v0 v2 (ix2 r d) = rms (fun k => v0 (ix2 r k)) (fun k => v2 (ix2 0 k)) d := by
  unfold k0_pay2 rms
  pointwise

theorem pay3_apply (w : Vec Ideal S1024x1024 .bf16) (r : Fin 1024) (f : Fin 1024) :
    k0_pay3 v0 v2 w (ix2 r f) = ∑ k : Fin 1024, rms (fun k => v0 (ix2 r k)) (fun k => v2 (ix2 0 k)) k * w (ix2 k f) := by
  simp only [← pay2_apply]
  unfold k0_pay3
  generalize k0_pay2 v0 v2 = h
  pointwise

theorem pay4_apply (w : Vec Ideal S1024x1024 .bf16) (f : Fin 1024) (r : Fin 1024) :
    k0_pay4 v0 v2 w (ix2 f r) = ∑ k : Fin 1024, rms (fun k => v0 (ix2 r k)) (fun k => v2 (ix2 0 k)) k * w (ix2 f k) := by
  simp only [← pay2_apply]
  unfold k0_pay4
  generalize k0_pay2 v0 v2 = h
  pointwise
  exact Finset.sum_congr rfl fun k _ => mul_comm _ _

theorem pay5_apply (w : Vec Ideal S1024x1024 .bf16) (r : Fin 1024) (f : Fin 1024) :
    k0_pay5 v0 v2 w (ix2 r f) = ∑ k : Fin 1024, rms (fun k => v0 (ix2 r k)) (fun k => v2 (ix2 0 k)) k * w (ix2 k f) := by
  simp only [← pay2_apply]
  unfold k0_pay5
  generalize k0_pay2 v0 v2 = h
  pointwise
end

/-- Lane `e` of slice `o`, of four slices of 256. -/
abbrev lane (o : Fin 4) (e : Fin 256) : Fin 1024 := ⟨256 * o.val + e.val, by omega⟩

/-- The queries read slice by slice, with the sum over the slice still weighted. -/
theorem pay9_slice (z : FVec Ideal S1024x1024 .f32) (b : IVec S256x256 1) (x y : FVec Ideal S256x256 .f32) (w : Vec Ideal S1x1024 .f32)
    (r : Fin 1024) (o : Fin 4) (e : Fin 256) :
    k0_pay9 z b x y w (ix2 r (lane o e))
      = z (ix2 r (lane o e)) * Ideal.rsqrt ((∑ k : Fin 256, z (ix2 r (lane o k)) * z (ix2 r (lane o k))
          * Scalar.select (b (ix2 k e)) (x (ix2 k e)) (y (ix2 k e))) * Ideal.ofBits .f32 0x3C800000#32 + Ideal.ofBits .f32 0x358637BD#32)
        * w (ix2 0 (lane o e)) * Ideal.ofBits .f32 0x3E38AA3B#32 := by
  unfold k0_pay9
  match o with
  | ⟨0, _⟩ =>
    have h (k : Fin 256) : lane ⟨0, by decide⟩ k = ⟨k.val, by omega⟩ := Fin.ext (by show 256 * 0 + k.val = k.val; omega)
    simp only [h]
    pointwise
  | ⟨1, _⟩ =>
    have h (k : Fin 256) : lane ⟨1, by decide⟩ k = ⟨256 + k.val, by omega⟩ := rfl
    simp only [h]
    pointwise
  | ⟨2, _⟩ =>
    have h (k : Fin 256) : lane ⟨2, by decide⟩ k = ⟨512 + k.val, by omega⟩ := rfl
    simp only [h]
    pointwise
    rw [dif_neg (by omega), dif_neg (by omega), dif_pos (by omega)]
    have he : 512 + e.val - 256 - 256 = e.val := by omega
    simp only [he]
  | ⟨3, _⟩ =>
    have h (k : Fin 256) : lane ⟨3, by decide⟩ k = ⟨768 + k.val, by omega⟩ := rfl
    simp only [h]
    pointwise
    rw [dif_neg (by omega), dif_neg (by omega), dif_neg (by omega)]
    have he : 768 + e.val - 256 - 256 - 256 = e.val := by omega
    simp only [he]

/-- The queries of the projected rows. -/
theorem pay9_apply (z : FVec Ideal S1024x1024 .f32) (w : Vec Ideal S1x1024 .f32) (r : Fin 1024) (g : Fin 16) (d : Fin 64) :
    k0_pay9 z k0_pay6 (k0_pay7 (F := Ideal)) (k0_pay8 (F := Ideal)) w (ix2 r (col g d))
      = headNorm (fun c => z (ix2 r c)) (fun d => w (ix2 0 (col g d))) g d * Ideal.ofBits .f32 0x3E38AA3B#32 := by
  obtain ⟨o, j, rfl⟩ : ∃ o j : Fin 4, g = ⟨4 * o.val + j.val, by omega⟩ :=
    ⟨⟨g.val / 4, by omega⟩, ⟨g.val % 4, by omega⟩, Fin.ext (by show g.val = 4 * (g.val / 4) + g.val % 4; omega)⟩
  have hc (x : Fin 64) : col ⟨4 * o.val + j.val, by omega⟩ x = lane o ⟨64 * j.val + x.val, by omega⟩ :=
    Fin.ext (by show 64 * (4 * o.val + j.val) + x.val = 256 * o.val + (64 * j.val + x.val); omega)
  unfold headNorm
  simp only [hc]
  rw [pay9_slice]
  simp only [mask_apply]
  rw [group_sum (fun k => z (ix2 r (lane o k)) * z (ix2 r (lane o k))) j d, mul_inv64]

/-- The keys of the projected rows, frames last. -/
theorem pay1_apply (z : FVec Ideal S1024x1024 .f32) (w : Vec Ideal S1024x1 .f32) (r : Fin 1024) (g : Fin 16) (d : Fin 64) :
    k0_pay1 (k0_pay10 z) (k0_pay11 z) (k0_pay12 w) (k0_pay13 (F := Ideal)) (ix3 0 (col g d) r)
      = headNorm (fun c => z (ix2 c r)) (fun d => w (ix2 (col g d) 0)) g d := by
  have e (g : Fin 16) (d : Fin 64) : k0_pay10 z (ix3 g d r) = z (ix2 (col g d) r) := by
    unfold k0_pay10
    pointwise
    refine congrArg z (congrArg (fun c => ix2 c r) (Fin.ext ?_))
    show g.val * 64 + d.val = 64 * g.val + d.val
    omega
  unfold k0_pay1 k0_pay11 k0_pay12 k0_pay13 headNorm
  simp only [← e]
  generalize k0_pay10 z = y
  pointwise
  have hg : (64 * g.val + d.val) / 64 = g.val := by omega
  have hd : (64 * g.val + d.val) % 64 = d.val := by omega
  have hc : g.val * 64 + d.val = 64 * g.val + d.val := by omega
  simp only [hg, hd, hc]

theorem hz2 : (![0, 0] : Fin 2 → Nat) = fun _ => 0 := funext fun a => by fin_cases a <;> rfl

theorem hz3 : (![0, 0, 0] : Fin 3 → Nat) = fun _ => 0 := funext fun a => by fin_cases a <;> rfl

section
variable (x0 : Vec Ideal S1024x1024 .f32) (x1 : Vec Ideal S1x1024 .f32) (x2 : Vec Ideal S1024x3072 .bf16)
  (x3 : Vec Ideal S1024x1024 .bf16) (x4 x5 : Vec Ideal S1x1024 .f32) (x6 : Vec Ideal S1024x1 .f32)

/-- What the body leaves in the queries' block, of the inputs' blocks. -/
theorem outq_apply (r : Fin 1024) (g : Fin 16) (d : Fin 64) :
    out0_7 x0 x1 x2 x3 x4 x5 x6 (ix2 r (col g d))
      = headNorm (fun c => ∑ k : Fin 1024, rms (fun k => x0 (ix2 r k)) (fun k => x1 (ix2 0 k)) k * x2 (ix2 k ⟨c.val, by omega⟩))
          (fun d => x4 (ix2 0 (col g d))) g d * Ideal.ofBits .f32 0x3E38AA3B#32 := by
  have l0 (x : Vec Ideal S1024x1024 .f32) : View.ld x r0_0 = x := View.ld_unit_zero hz2 _ _
  have l1 (x : Vec Ideal S1x1024 .f32) : View.ld x r0_1 = x := View.ld_unit_zero hz2 _ _
  have l2 (k f : Fin 1024) : View.ld x2 r0_2 (ix2 k f) = x2 (ix2 k ⟨f.val, by omega⟩) := by
    show x2 _ = x2 _
    refine congrArg x2 (funext fun a => Fin.ext ?_)
    match a with
    | ⟨0, _⟩ => show 0 + 1 * k.val = _; simp
    | ⟨1, _⟩ => show 0 + 1 * f.val = _; simp
  unfold out0_7
  rw [View.canon_unit_zero hz2, l0, l1, l1, pay9_apply]
  simp only [pay3_apply, l2]

/-- What the body leaves in the keys' block, of the inputs' blocks. -/
theorem outk_apply (r : Fin 1024) (g : Fin 16) (d : Fin 64) :
    out0_8 x0 x1 x2 x3 x4 x5 x6 (ix3 0 (col g d) r)
      = headNorm (fun c => ∑ k : Fin 1024, rms (fun k => x0 (ix2 r k)) (fun k => x1 (ix2 0 k)) k * x3 (ix2 c k))
          (fun d => x6 (ix2 (col g d) 0)) g d := by
  have l0 (x : Vec Ideal S1024x1024 .f32) : View.ld x r0_0 = x := View.ld_unit_zero hz2 _ _
  have l0' (x : Vec Ideal S1024x1024 .bf16) : View.ld x r0_0 = x := View.ld_unit_zero hz2 _ _
  have l1 (x : Vec Ideal S1x1024 .f32) : View.ld x r0_1 = x := View.ld_unit_zero hz2 _ _
  have l4 (x : Vec Ideal S1024x1 .f32) : View.ld x r0_4 = x := View.ld_unit_zero hz2 _ _
  unfold_out out0_8
  rw [View.canon_unit_zero hz3, l0, l0', l1, l4, pay1_apply]
  simp only [pay4_apply]

/-- What the body leaves in the values' block, of the inputs' blocks. -/
theorem outv_apply (r e : Fin 1024) :
    out0_9 x0 x1 x2 x3 x4 x5 x6 (ix2 r e)
      = ∑ k : Fin 1024, rms (fun k => x0 (ix2 r k)) (fun k => x1 (ix2 0 k)) k * x2 (ix2 k ⟨2048 + e.val, by omega⟩) := by
  have l0 (x : Vec Ideal S1024x1024 .f32) : View.ld x r0_0 = x := View.ld_unit_zero hz2 _ _
  have l1 (x : Vec Ideal S1x1024 .f32) : View.ld x r0_1 = x := View.ld_unit_zero hz2 _ _
  have l3 (k f : Fin 1024) : View.ld x2 r0_3 (ix2 k f) = x2 (ix2 k ⟨2048 + f.val, by omega⟩) := by
    show x2 _ = x2 _
    refine congrArg x2 (funext fun a => Fin.ext ?_)
    match a with
    | ⟨0, _⟩ => show 0 + 1 * k.val = _; simp
    | ⟨1, _⟩ => show 2048 + 1 * f.val = _; simp
  unfold out0_9
  rw [View.canon_unit_zero hz2, l0, l1, pay5_apply]
  simp only [l3]
end

variable (m : (ℓ : Loc nD τ sig) → Buf (Elt Ideal) ℓ) (c : Dev nD)

/-- Where each window's block lies at a grid point. -/
theorem place : ∀ t : Fin cfg0.N,
    win0_0.index t = ![t.val, 0] ∧ win0_1.index t = ![0, 0] ∧ win0_2.index t = ![0, 0] ∧ win0_3.index t = ![0, 0]
    ∧ win0_4.index t = ![0, 0] ∧ win0_6.index t = ![0, 0] ∧ win0_7.index t = ![t.val, 0]
    ∧ win0_8.index t = ![t.val / 2, 0, t.val % 2] ∧ win0_9.index t = ![t.val, 0] := by
  decide +kernel

/-- The sequence of the rows of the block at `t`. -/
abbrev seq (t : Fin cfg0.N) : Fin 16 :=
  ⟨t.val / 2, by have h : t.val < 32 := t.isLt; omega⟩

/-- The place in its sequence of row `r` of the block at `t`. -/
abbrev pos (t : Fin cfg0.N) (r : Fin 1024) : Fin 2048 :=
  ⟨1024 * (t.val % 2) + r.val, by omega⟩

/-- A block's rows are the sequence's. -/
theorem read_x (t : Fin cfg0.N) (r : Fin 1024) (d : Fin 1024) :
    iblk m c 0 t (ix2 r d) = m ((c : Thread nD τ).loc main_arg0) (ix3 (seq t) (pos t r) d) := by
  have ht : t.val < 32 := t.isLt
  obtain ⟨e0, -⟩ := place t
  blk_simp [iblk, e0]
  entry_read
  pointwise
  have h : (((View.whole main_v0).slice (win0_0.rect t)).emb (ix2 r d) 0).val = 1024 * t.val + r.val := by
    blk_simp [e0]
    omega
  refine congrArg (m ((c : Thread nD τ).loc main_arg0)) ?_
  refine (congrArg₂ (fun (b : Fin 16) (s : Fin 2048) => ix3 b s _) (Fin.ext ?_) (Fin.ext ?_)).trans
    (congrArg (ix3 (seq t) (pos t r)) (Fin.ext ?_))
  · show _ / 2048 = t.val / 2
    rw [h]
    omega
  · show _ % 2048 = 1024 * (t.val % 2) + r.val
    rw [h]
    omega
  · blk_simp [e0]

/-- The rows' norm's weight. -/
theorem read_ln (t : Fin cfg0.N) (d : Fin 1024) :
    iblk m c 1 t (ix2 0 d) = m ((c : Thread nD τ).loc main_arg1) (ix1 d) := by
  obtain ⟨-, e0, -⟩ := place t
  blk_simp [iblk, e0]
  entry_read
  pointwise
  blk_ext [e0]

/-- The projection's columns of the queries, keys and values. -/
theorem read_w (t : Fin cfg0.N) (k : Fin 1024) (f : Fin 3072) :
    iblk m c 2 t (ix2 k f) = m ((c : Thread nD τ).loc main_arg2) (ix2 k ⟨f.val, by omega⟩) := by
  obtain ⟨-, -, e0, -⟩ := place t
  blk_simp [iblk, e0]
  entry_read
  pointwise
  blk_ext [e0]

/-- The keys' columns, as rows. -/
theorem read_wk (t : Fin cfg0.N) (f k : Fin 1024) :
    iblk m c 3 t (ix2 f k) = m ((c : Thread nD τ).loc main_arg2) (ix2 k ⟨1024 + f.val, by omega⟩) := by
  obtain ⟨-, -, -, e0, -⟩ := place t
  blk_simp [iblk, e0]
  entry_read
  pointwise
  blk_ext [e0]

/-- The queries' norm's weight, one head after another. -/
theorem read_qn (t : Fin cfg0.N) (g : Fin 16) (d : Fin 64) :
    iblk m c 4 t (ix2 0 (col g d)) = m ((c : Thread nD τ).loc main_arg3) (ix1 d) := by
  obtain ⟨-, -, -, -, e0, -⟩ := place t
  blk_simp [iblk, e0]
  entry_read
  pointwise
  blk_ext [e0]

/-- The keys' norm's weight, one head after another. -/
theorem read_kn (t : Fin cfg0.N) (g : Fin 16) (d : Fin 64) :
    iblk m c 6 t (ix2 (col g d) 0) = m ((c : Thread nD τ).loc main_arg4) (ix1 d) := by
  obtain ⟨-, -, -, -, -, e0, -⟩ := place t
  blk_simp [iblk, e0]
  entry_read
  pointwise
  blk_ext [e0]

/-- The queries of all rows. -/
def queryFn (x : Fin 16 → Fin 2048 → Fin 1024 → EReal) (w : Fin 1024 → EReal) (Z : Fin 1024 → Fin 9232 → EReal)
    (n : Fin 64 → EReal) (y : S32768x1024.Idx) : EReal :=
  query (x ⟨(y 0).val / 2048, by have h : (y 0).val < 32768 := (y 0).isLt; omega⟩ ⟨(y 0).val % 2048, by omega⟩) w Z n
    ⟨(y 1).val / 64, by have h : (y 1).val < 1024 := (y 1).isLt; omega⟩ ⟨(y 1).val % 64, by omega⟩

/-- The keys of all rows, frames last. -/
def keyFn (x : Fin 16 → Fin 2048 → Fin 1024 → EReal) (w : Fin 1024 → EReal) (Z : Fin 1024 → Fin 9232 → EReal)
    (n : Fin 64 → EReal) (y : S16x1024x2048.Idx) : EReal :=
  key (x (y 0) (y 2)) w Z n
    ⟨(y 1).val / 64, by have h : (y 1).val < 1024 := (y 1).isLt; omega⟩ ⟨(y 1).val % 64, by omega⟩

/-- The values of all rows. -/
def valueFn (x : Fin 16 → Fin 2048 → Fin 1024 → EReal) (w : Fin 1024 → EReal) (Z : Fin 1024 → Fin 9232 → EReal)
    (y : S32768x1024.Idx) : EReal :=
  proj (x ⟨(y 0).val / 2048, by have h : (y 0).val < 32768 := (y 0).isLt; omega⟩ ⟨(y 0).val % 2048, by omega⟩) w Z
    ⟨2048 + (y 1).val, by have h : (y 1).val < 1024 := (y 1).isLt; omega⟩

/-- The queries' function at a row and a lane of a group. -/
theorem queryFn_at (x : Fin 16 → Fin 2048 → Fin 1024 → EReal) (w : Fin 1024 → EReal) (Z : Fin 1024 → Fin 9232 → EReal)
    (n : Fin 64 → EReal) (y : S32768x1024.Idx) (b : Fin 16) (s : Fin 2048) (g : Fin 16) (d : Fin 64)
    (h0 : (y 0).val = 2048 * b.val + s.val) (h1 : (y 1).val = 64 * g.val + d.val) :
    queryFn x w Z n y = query (x b s) w Z n g d := by
  have e0 : (y 0).val / 2048 = b.val := by omega
  have e1 : (y 0).val % 2048 = s.val := by omega
  have e2 : (y 1).val / 64 = g.val := by omega
  have e3 : (y 1).val % 64 = d.val := by omega
  unfold queryFn
  simp only [e0, e1, e2, e3]

/-- The keys' function at a row and a lane of a group. -/
theorem keyFn_at (x : Fin 16 → Fin 2048 → Fin 1024 → EReal) (w : Fin 1024 → EReal) (Z : Fin 1024 → Fin 9232 → EReal)
    (n : Fin 64 → EReal) (y : S16x1024x2048.Idx) (b : Fin 16) (s : Fin 2048) (g : Fin 16) (d : Fin 64)
    (h0 : y 0 = b) (h2 : y 2 = s) (h1 : (y 1).val = 64 * g.val + d.val) :
    keyFn x w Z n y = key (x b s) w Z n g d := by
  have e2 : (y 1).val / 64 = g.val := by omega
  have e3 : (y 1).val % 64 = d.val := by omega
  unfold keyFn
  simp only [e2, e3, h0, h2]

/-- The values' function at a row and a lane. -/
theorem valueFn_at (x : Fin 16 → Fin 2048 → Fin 1024 → EReal) (w : Fin 1024 → EReal) (Z : Fin 1024 → Fin 9232 → EReal)
    (y : S32768x1024.Idx) (b : Fin 16) (s : Fin 2048) (e : Fin 1024)
    (h0 : (y 0).val = 2048 * b.val + s.val) (h1 : (y 1).val = e.val) :
    valueFn x w Z y = proj (x b s) w Z ⟨2048 + e.val, by omega⟩ := by
  have e0 : (y 0).val / 2048 = b.val := by omega
  have e1 : (y 0).val % 2048 = s.val := by omega
  unfold valueFn
  simp only [e0, e1, h1]

/-- The rows as a function of the sequence and the place. -/
abbrev X : Fin 16 → Fin 2048 → Fin 1024 → EReal := fun b s k => m ((c : Thread nD τ).loc main_arg0) (ix3 b s k)

/-- The rows' norm's weight. -/
abbrev W : Fin 1024 → EReal := fun k => m ((c : Thread nD τ).loc main_arg1) (ix1 k)

/-- The whole input projection. -/
abbrev P : Fin 1024 → Fin 9232 → EReal := fun k f => m ((c : Thread nD τ).loc main_arg2) (ix2 k f)

/-- What the kernel leaves in its queries. -/
theorem query_value : (dats m 0 c).arrAt 7 cfg0.N
    = queryFn (X m c) (W m c) (P m c) (fun d => m ((c : Thread nD τ).loc main_arg3) (ix1 d)) := by
  refine (dats m 0 c).arrAt_eq_of_covers 7 _ (by decide +kernel) fun t hf y => ?_
  have hp := (place t).2.2.2.2.2.2.1
  obtain ⟨r, e, rfl⟩ : ∃ (r : Fin 1024) (e : Fin 1024), y = ix2 r e := ⟨y 0, y 1, (ix2_eta y).symm⟩
  obtain ⟨g, d, rfl⟩ := exists_col e
  have h0 : ((((cfg0.win 7).blk t).view.emb (ix2 r (col g d))) 0).val = 1024 * t.val + r.val := by blk_simp [hp]; omega
  have h1 : ((((cfg0.win 7).blk t).view.emb (ix2 r (col g d))) 1).val = 64 * g.val + d.val := by blk_simp [hp]
  refine Eq.trans ?_ (queryFn_at _ _ _ _ (((cfg0.win 7).blk t).view.emb (ix2 r (col g d))) (seq t) (pos t r) g d
    (by rw [h0]; show _ = 2048 * (t.val / 2) + (1024 * (t.val % 2) + r.val); omega) h1).symm
  blk_simp
  rw [after0_7]
  refine (outq_apply _ _ _ _ _ _ _ r g d).trans ?_
  simp only [read_x, read_ln, read_w, read_qn]
  rfl

/-- What the kernel leaves in its keys. -/
theorem key_value : (dats m 0 c).arrAt 8 cfg0.N
    = keyFn (X m c) (W m c) (P m c) (fun d => m ((c : Thread nD τ).loc main_arg4) (ix1 d)) := by
  refine (dats m 0 c).arrAt_eq_of_covers 8 _ (by decide +kernel) fun t hf y => ?_
  have hp := (place t).2.2.2.2.2.2.2.1
  obtain ⟨o, e, r, rfl⟩ : ∃ (o : Fin 1) (e : Fin 1024) (r : Fin 1024), y = ix3 o e r := ⟨y 0, y 1, y 2, (ix3_eta y).symm⟩
  obtain rfl : o = 0 := Subsingleton.elim _ _
  obtain ⟨g, d, rfl⟩ := exists_col e
  have h0 : (((cfg0.win 8).blk t).view.emb (ix3 0 (col g d) r)) 0 = seq t := Fin.ext (by show _ = t.val / 2; blk_simp [hp]; simp)
  have h2 : (((cfg0.win 8).blk t).view.emb (ix3 0 (col g d) r)) 2 = pos t r :=
    Fin.ext (by show _ = 1024 * (t.val % 2) + r.val; blk_simp [hp]; omega)
  have h1 : ((((cfg0.win 8).blk t).view.emb (ix3 0 (col g d) r)) 1).val = 64 * g.val + d.val := by blk_simp [hp]
  refine Eq.trans ?_ (keyFn_at _ _ _ _ (((cfg0.win 8).blk t).view.emb (ix3 0 (col g d) r)) (seq t) (pos t r) g d h0 h2 h1).symm
  blk_simp
  rw [after0_8]
  refine (outk_apply _ _ _ _ _ _ _ r g d).trans ?_
  simp only [read_x, read_ln, read_wk, read_kn]
  rfl

/-- What the kernel leaves in its values. -/
theorem value_value : (dats m 0 c).arrAt 9 cfg0.N = valueFn (X m c) (W m c) (P m c) := by
  refine (dats m 0 c).arrAt_eq_of_covers 9 _ (by decide +kernel) fun t hf y => ?_
  have hp := (place t).2.2.2.2.2.2.2.2
  obtain ⟨r, e, rfl⟩ : ∃ (r : Fin 1024) (e : Fin 1024), y = ix2 r e := ⟨y 0, y 1, (ix2_eta y).symm⟩
  have h0 : ((((cfg0.win 9).blk t).view.emb (ix2 r e)) 0).val = 1024 * t.val + r.val := by blk_simp [hp]; omega
  have h1 : ((((cfg0.win 9).blk t).view.emb (ix2 r e)) 1).val = e.val := by blk_simp [hp]
  refine Eq.trans ?_ (valueFn_at _ _ _ (((cfg0.win 9).blk t).view.emb (ix2 r e)) (seq t) (pos t r) e
    (by rw [h0]; show _ = 2048 * (t.val / 2) + (1024 * (t.val % 2) + r.val); omega) h1).symm
  blk_simp
  rw [after0_9]
  refine (outv_apply _ _ _ _ _ _ _ r e).trans ?_
  simp only [read_x, read_ln, read_w]
  rfl

end Cert.Proofs.Project
-- ==== Proof.ProjectRefValue.lean ====
module

public import proofs.«01_k».proof.Proof.Project
public import proofs.«01_k».proof.Proof.Gen.ProjectRefIdeal.Read
public import Idealize.ShloMosaic.Lib.Pipeline.ValueKit

@[expose] public section

set_option maxRecDepth 16384

noncomputable section

namespace Cert.Proofs.ProjectReference

open Cert.ProjectRefIdeal Cert.ProjectRefIdeal.Gen Cert.ProjectRefIdeal.Read Idealize.ShloMosaic Idealize.ShloMosaic.TcCoe Idealize.SL.Sem
open Cert.Proofs.Layer (rms proj headNorm query key col exists_col)

variable (x0 : Vec Ideal S16x2048x1024 .f32) (x1 : Vec Ideal S1024 .f32) (x2 : Vec Ideal S1024x9232 .f32)
  (x3 x4 : Vec Ideal S64 .f32)

/-- The normed rows. -/
theorem norm_apply (b : Fin 16) (s : Fin 2048) (d : Fin 1024) :
    val_main_v12 (F := Ideal) x0 x1 (ix3 b s d) = rms (fun k => x0 (ix3 b s k)) (fun k => x1 (ix1 k)) d := by
  unfold val_main_v12 val_main_v11 val_main_v10 val_main_v9 val_main_v8 val_main_v7 val_main_v6 val_main_v5 val_main_v4
    val_main_v3 val_main_v2 val_main_v1 val_main_v0 val_main_cst val_main_cst_0 val_main_cst_1 rms
  pointwise

/-- The projected rows. -/
theorem proj_apply (b : Fin 16) (s : Fin 2048) (f : Fin 3072) :
    val_main_v14 (F := Ideal) x0 x1 x2 (ix3 b s f)
      = proj (fun k => x0 (ix3 b s k)) (fun k => x1 (ix1 k)) (fun k f => x2 (ix2 k f)) ⟨f.val, by omega⟩ := by
  unfold proj
  simp only [← norm_apply]
  unfold val_main_v14 val_main_v13
  generalize val_main_v12 (F := Ideal) x0 x1 = y
  pointwise

/-- The values' rows. -/
theorem value_apply (r : Fin 32768) (e : Fin 1024) :
    val_main_v50 (F := Ideal) x0 x1 x2 (ix2 r e)
      = proj (fun k => x0 (ix3 ⟨r.val / 2048, by omega⟩ ⟨r.val % 2048, by omega⟩ k)) (fun k => x1 (ix1 k))
          (fun k f => x2 (ix2 k f)) ⟨2048 + e.val, by omega⟩ := by
  refine Eq.trans ?_ (proj_apply x0 x1 x2 ⟨r.val / 2048, by omega⟩ ⟨r.val % 2048, by omega⟩ ⟨2048 + e.val, by omega⟩)
  unfold val_main_v50 val_main_v17
  generalize val_main_v14 (F := Ideal) x0 x1 x2 = y
  pointwise

/-- The queries' rows. -/
theorem query_apply (r : Fin 32768) (g : Fin 16) (d : Fin 64) :
    val_main_v49 (F := Ideal) x0 x1 x2 x3 (ix2 r (col g d))
      = query (fun k => x0 (ix3 ⟨r.val / 2048, by omega⟩ ⟨r.val % 2048, by omega⟩ k)) (fun k => x1 (ix1 k))
          (fun k f => x2 (ix2 k f)) (fun d => x3 (ix1 d)) g d := by
  unfold query headNorm
  have h (x : Fin 64) : proj (fun k => x0 (ix3 ⟨r.val / 2048, by omega⟩ ⟨r.val % 2048, by omega⟩ k)) (fun k => x1 (ix1 k))
      (fun k f => x2 (ix2 k f)) ⟨64 * g.val + x.val, by omega⟩ = val_main_v14 (F := Ideal) x0 x1 x2
        (ix3 ⟨r.val / 2048, by omega⟩ ⟨r.val % 2048, by omega⟩ ⟨64 * g.val + x.val, by omega⟩) :=
    (proj_apply x0 x1 x2 ⟨r.val / 2048, by omega⟩ ⟨r.val % 2048, by omega⟩ ⟨64 * g.val + x.val, by omega⟩).symm
  simp only [h]
  unfold val_main_v49 val_main_v48 val_main_v47 val_main_v46 val_main_cst_8 val_main_v31 val_main_v30 val_main_v29 val_main_v28
    val_main_v27 val_main_v26 val_main_v25 val_main_v24 val_main_v23 val_main_v22 val_main_v21 val_main_v20 val_main_v19
    val_main_v18 val_main_v15 val_main_cst_2 val_main_cst_3 val_main_cst_4
  generalize val_main_v14 (F := Ideal) x0 x1 x2 = y
  pointwise
  have hg : (64 * g.val + d.val) / 128 * 128 + (64 * g.val + d.val) / 64 % 2 * 64 = 64 * g.val := by omega
  have hd : (64 * g.val + d.val) % 64 = d.val := by omega
  simp only [hg, hd]

/-- The keys, frames last. -/
theorem key_apply (b : Fin 16) (g : Fin 16) (d : Fin 64) (s : Fin 2048) :
    val_main_v52 (F := Ideal) x0 x1 x2 x4 (ix3 b (col g d) s)
      = key (fun k => x0 (ix3 b s k)) (fun k => x1 (ix1 k)) (fun k f => x2 (ix2 k f)) (fun d => x4 (ix1 d)) g d := by
  unfold key headNorm
  have h (x : Fin 64) : proj (fun k => x0 (ix3 b s k)) (fun k => x1 (ix1 k)) (fun k f => x2 (ix2 k f))
      ⟨1024 + (64 * g.val + x.val), by omega⟩ = val_main_v14 (F := Ideal) x0 x1 x2 (ix3 b s ⟨1024 + (64 * g.val + x.val), by omega⟩) :=
    (proj_apply x0 x1 x2 b s ⟨1024 + (64 * g.val + x.val), by omega⟩).symm
  simp only [h]
  unfold val_main_v52 val_main_v51 val_main_v45 val_main_v44 val_main_v43 val_main_v42 val_main_v41 val_main_v40 val_main_v39
    val_main_v38 val_main_v37 val_main_v36 val_main_v35 val_main_v34 val_main_v33 val_main_v32 val_main_v16
    val_main_cst_5 val_main_cst_6 val_main_cst_7
  generalize val_main_v14 (F := Ideal) x0 x1 x2 = y
  pointwise
  have hg : (64 * g.val + d.val) / 128 * 128 + (64 * g.val + d.val) / 64 % 2 * 64 = 64 * g.val := by omega
  have hd : (64 * g.val + d.val) % 64 = d.val := by omega
  simp only [hg, hd]

end Cert.Proofs.ProjectReference
-- ==== Proof.ProjectClaim.lean ====
module

public import proofs.«01_k».proof.Defs
public import proofs.«01_k».proof.Proof.ProjectKernel
public import proofs.«01_k».proof.Proof.ProjectRefValue
public import proofs.«01_k».proof.Proof.Gen.ProjectRefIdeal.Run

@[expose] public section

set_option maxRecDepth 16384

noncomputable section

namespace Cert.Proofs.Project

open Idealize.ShloMosaic Idealize.SL.Sem

/-- The kernel and the reference leave the same queries, keys and values. -/
theorem algebraic : Cert.algebraic_ProjectIdeal_ProjectRefIdeal (hProjectIdeal := Cert.ProjectIdeal.Gen.facts)
    (hProjectRefIdeal := Cert.ProjectRefIdeal.Gen.facts) := by
  intro m g m' g' _ hagree
  refine ⟨fun c => (Cert.ProjectIdeal.Gen.dats m 0 c).arrAt 7 Cert.ProjectIdeal.cfg0.N,
    fun c => (Cert.ProjectIdeal.Gen.dats m 0 c).arrAt 8 Cert.ProjectIdeal.cfg0.N,
    fun c => (Cert.ProjectIdeal.Gen.dats m 0 c).arrAt 9 Cert.ProjectIdeal.cfg0.N, Cert.ProjectIdeal.Value.run_blocks m g, ?_⟩
  refine (θ_run _ _ _).mono (fun r h c => ⟨?_, ?_, ?_, (h c).2.2.2⟩) (Cert.ProjectRefIdeal.Value.run m' g')
  · obtain ⟨a0, a1, a2, a3, a4⟩ := hagree c
    refine (h c).1.trans ?_
    rw [Cert.ProjectRefIdeal.Read.val_main_v49_eq, a0, a1, a2, a3]
    refine Eq.trans ?_ (query_value m c).symm
    funext y
    obtain ⟨r, e, rfl⟩ : ∃ (r : Fin 32768) (e : Fin 1024), y = ix2 r e := ⟨y 0, y 1, (ix2_eta y).symm⟩
    obtain ⟨g, d, rfl⟩ := Layer.exists_col e
    refine (ProjectReference.query_apply _ _ _ _ r g d).trans (queryFn_at (X m c) (W m c) (P m c) _ (ix2 r (Layer.col g d))
      ⟨r.val / 2048, by omega⟩ ⟨r.val % 2048, by omega⟩ g d ?_ rfl).symm
    show r.val = 2048 * (r.val / 2048) + r.val % 2048
    omega
  · obtain ⟨a0, a1, a2, a3, a4⟩ := hagree c
    refine (h c).2.1.trans ?_
    rw [Cert.ProjectRefIdeal.Read.val_main_v52_eq, a0, a1, a2, a4]
    refine Eq.trans ?_ (key_value m c).symm
    funext y
    obtain ⟨b, e, s, rfl⟩ : ∃ (b : Fin 16) (e : Fin 1024) (s : Fin 2048), y = ix3 b e s := ⟨y 0, y 1, y 2, (ix3_eta y).symm⟩
    obtain ⟨g, d, rfl⟩ := Layer.exists_col e
    exact (ProjectReference.key_apply _ _ _ _ b g d s).trans (keyFn_at (X m c) (W m c) (P m c) _ (ix3 b (Layer.col g d) s) b s g d rfl rfl rfl).symm
  · obtain ⟨a0, a1, a2, a3, a4⟩ := hagree c
    refine (h c).2.2.1.trans ?_
    rw [Cert.ProjectRefIdeal.Read.val_main_v50_eq, a0, a1, a2]
    refine Eq.trans ?_ (value_value m c).symm
    funext y
    obtain ⟨r, e, rfl⟩ : ∃ (r : Fin 32768) (e : Fin 1024), y = ix2 r e := ⟨y 0, y 1, (ix2_eta y).symm⟩
    refine (ProjectReference.value_apply _ _ _ r e).trans (valueFn_at (X m c) (W m c) (P m c) (ix2 r e)
      ⟨r.val / 2048, by omega⟩ ⟨r.val % 2048, by omega⟩ e ?_ rfl).symm
    show r.val = 2048 * (r.val / 2048) + r.val % 2048
    omega

end Cert.Proofs.Project
-- ==== Proof.ProjectSampleKernel.lean ====
module

public import proofs.«01_k».proof.Proof.Project
public import proofs.«01_k».proof.Proof.Gen.ProjectSampleIdeal.Value
public import Idealize.ShloMosaic.Lib.Pipeline.ValueKit
public import Idealize.ShloMosaic.Lib.Claim

@[expose] public section

set_option maxRecDepth 16384

noncomputable section

namespace Cert.Proofs.ProjectSample

open Cert.ProjectSampleIdeal Cert.ProjectSampleIdeal.Gen Idealize.ShloMosaic Idealize.ShloMosaic.TcCoe Idealize.SL.Sem
open Cert.Proofs.Layer (rms proj headNorm query key col exists_col same_group group_sum mul_inv64 ofBits_one)

/-- The weight of a lane in a group's sum. -/
theorem mask_apply (k e : Fin 256) :
    Scalar.select (k0_pay6 (ix2 k e)) (k0_pay7 (F := Ideal) (ix2 k e)) (k0_pay8 (F := Ideal) (ix2 k e))
      = if k.val / 64 = e.val / 64 then (1 : EReal) else 0 := by
  have h : k0_pay6 (ix2 k e) = if k.val / 64 = e.val / 64 then 1#1 else 0#1 := by
    unfold k0_pay6
    pointwise
    exact same_group k e
  rw [h]
  unfold k0_pay7 k0_pay8
  pointwise
  split <;> rfl

section
variable (v0 : Vec Ideal S512x1024 .f32) (v2 : Vec Ideal S1x1024 .f32)

/-- The block's rows, normed. -/
theorem pay2_apply (r : Fin 512) (d : Fin 1024) :
    k0_pay2 v0 v2 (ix2 r d) = rms (fun k => v0 (ix2 r k)) (fun k => v2 (ix2 0 k)) d := by
  unfold k0_pay2 rms
  pointwise

theorem pay3_apply (w : Vec Ideal S1024x1024 .bf16) (r : Fin 512) (f : Fin 1024) :
    k0_pay3 v0 v2 w (ix2 r f) = ∑ k : Fin 1024, rms (fun k => v0 (ix2 r k)) (fun k => v2 (ix2 0 k)) k * w (ix2 k f) := by
  simp only [← pay2_apply]
  unfold k0_pay3
  generalize k0_pay2 v0 v2 = h
  pointwise

theorem pay4_apply (w : Vec Ideal S1024x1024 .bf16) (r : Fin 512) (f : Fin 1024) :
    k0_pay4 v0 v2 w (ix2 r f) = ∑ k : Fin 1024, rms (fun k => v0 (ix2 r k)) (fun k => v2 (ix2 0 k)) k * w (ix2 k f) := by
  simp only [← pay2_apply]
  unfold k0_pay4
  generalize k0_pay2 v0 v2 = h
  pointwise

theorem pay5_apply (w : Vec Ideal S1024x1024 .bf16) (r : Fin 512) (f : Fin 1024) :
    k0_pay5 v0 v2 w (ix2 r f) = ∑ k : Fin 1024, rms (fun k => v0 (ix2 r k)) (fun k => v2 (ix2 0 k)) k * w (ix2 k f) := by
  simp only [← pay2_apply]
  unfold k0_pay5
  generalize k0_pay2 v0 v2 = h
  pointwise
end

/-- Lane `e` of slice `o`, of four slices of 256. -/
abbrev lane (o : Fin 4) (e : Fin 256) : Fin 1024 := ⟨256 * o.val + e.val, by omega⟩

/-- The queries read slice by slice, with the sum over the slice still weighted. -/
theorem pay9_slice (z : FVec Ideal S512x1024 .f32) (b : IVec S256x256 1) (x y : FVec Ideal S256x256 .f32) (w : Vec Ideal S1x1024 .f32)
    (r : Fin 512) (o : Fin 4) (e : Fin 256) :
    k0_pay9 z b x y w (ix2 r (lane o e))
      = z (ix2 r (lane o e)) * Ideal.rsqrt ((∑ k : Fin 256, z (ix2 r (lane o k)) * z (ix2 r (lane o k))
          * Scalar.select (b (ix2 k e)) (x (ix2 k e)) (y (ix2 k e))) * Ideal.ofBits .f32 0x3C800000#32 + Ideal.ofBits .f32 0x358637BD#32)
        * w (ix2 0 (lane o e)) * Ideal.ofBits .f32 0x3E38AA3B#32 := by
  unfold k0_pay9
  match o with
  | ⟨0, _⟩ =>
    have h (k : Fin 256) : lane ⟨0, by decide⟩ k = ⟨k.val, by omega⟩ := Fin.ext (by show 256 * 0 + k.val = k.val; omega)
    simp only [h]
    pointwise
  | ⟨1, _⟩ =>
    have h (k : Fin 256) : lane ⟨1, by decide⟩ k = ⟨256 + k.val, by omega⟩ := rfl
    simp only [h]
    pointwise
  | ⟨2, _⟩ =>
    have h (k : Fin 256) : lane ⟨2, by decide⟩ k = ⟨512 + k.val, by omega⟩ := rfl
    simp only [h]
    pointwise
    rw [dif_neg (by omega), dif_neg (by omega), dif_pos (by omega)]
    have he : 512 + e.val - 256 - 256 = e.val := by omega
    simp only [he]
  | ⟨3, _⟩ =>
    have h (k : Fin 256) : lane ⟨3, by decide⟩ k = ⟨768 + k.val, by omega⟩ := rfl
    simp only [h]
    pointwise
    rw [dif_neg (by omega), dif_neg (by omega), dif_neg (by omega)]
    have he : 768 + e.val - 256 - 256 - 256 = e.val := by omega
    simp only [he]

/-- The queries of the projected rows. -/
theorem pay9_apply (z : FVec Ideal S512x1024 .f32) (w : Vec Ideal S1x1024 .f32) (r : Fin 512) (g : Fin 16) (d : Fin 64) :
    k0_pay9 z k0_pay6 (k0_pay7 (F := Ideal)) (k0_pay8 (F := Ideal)) w (ix2 r (col g d))
      = headNorm (fun c => z (ix2 r c)) (fun d => w (ix2 0 (col g d))) g d * Ideal.ofBits .f32 0x3E38AA3B#32 := by
  obtain ⟨o, j, rfl⟩ : ∃ o j : Fin 4, g = ⟨4 * o.val + j.val, by omega⟩ :=
    ⟨⟨g.val / 4, by omega⟩, ⟨g.val % 4, by omega⟩, Fin.ext (by show g.val = 4 * (g.val / 4) + g.val % 4; omega)⟩
  have hc (x : Fin 64) : col ⟨4 * o.val + j.val, by omega⟩ x = lane o ⟨64 * j.val + x.val, by omega⟩ :=
    Fin.ext (by show 64 * (4 * o.val + j.val) + x.val = 256 * o.val + (64 * j.val + x.val); omega)
  unfold headNorm
  simp only [hc]
  rw [pay9_slice]
  simp only [mask_apply]
  rw [group_sum (fun k => z (ix2 r (lane o k)) * z (ix2 r (lane o k))) j d, mul_inv64]

/-- The weight of a lane in a group's sum, made once more for the keys. -/
theorem mask'_apply (k e : Fin 256) :
    k0_pay10 (F := Ideal) (ix2 k e) = if k.val / 64 = e.val / 64 then (1 : EReal) else 0 := by
  refine Eq.trans ?_ (mask_apply k e)
  unfold k0_pay10 k0_pay6 k0_pay7 k0_pay8
  pointwise

/-- The keys read slice by slice, with the sum over the slice still weighted. -/
theorem pay1_slice (z : FVec Ideal S512x1024 .f32) (b : FVec Ideal S256x256 .bf16) (w : Vec Ideal S1x1024 .f32)
    (r : Fin 512) (o : Fin 4) (e : Fin 256) :
    k0_pay1 z b w (ix2 r (lane o e))
      = z (ix2 r (lane o e)) * Ideal.rsqrt ((∑ k : Fin 256, z (ix2 r (lane o k)) * z (ix2 r (lane o k))
          * b (ix2 k e)) * Ideal.ofBits .f32 0x3C800000#32 + Ideal.ofBits .f32 0x358637BD#32)
        * w (ix2 0 (lane o e)) := by
  unfold k0_pay1
  match o with
  | ⟨0, _⟩ =>
    have h (k : Fin 256) : lane ⟨0, by decide⟩ k = ⟨k.val, by omega⟩ := Fin.ext (by show 256 * 0 + k.val = k.val; omega)
    simp only [h]
    pointwise
  | ⟨1, _⟩ =>
    have h (k : Fin 256) : lane ⟨1, by decide⟩ k = ⟨256 + k.val, by omega⟩ := rfl
    simp only [h]
    pointwise
  | ⟨2, _⟩ =>
    have h (k : Fin 256) : lane ⟨2, by decide⟩ k = ⟨512 + k.val, by omega⟩ := rfl
    simp only [h]
    pointwise
    rw [dif_neg (by omega), dif_neg (by omega), dif_pos (by omega)]
    have he : 512 + e.val - 256 - 256 = e.val := by omega
    simp only [he]
  | ⟨3, _⟩ =>
    have h (k : Fin 256) : lane ⟨3, by decide⟩ k = ⟨768 + k.val, by omega⟩ := rfl
    simp only [h]
    pointwise
    rw [dif_neg (by omega), dif_neg (by omega), dif_neg (by omega)]
    have he : 768 + e.val - 256 - 256 - 256 = e.val := by omega
    simp only [he]

/-- The keys of the projected rows. -/
theorem pay1_apply (z : FVec Ideal S512x1024 .f32) (w : Vec Ideal S1x1024 .f32) (r : Fin 512) (g : Fin 16) (d : Fin 64) :
    k0_pay1 z (k0_pay10 (F := Ideal)) w (ix2 r (col g d))
      = headNorm (fun c => z (ix2 r c)) (fun d => w (ix2 0 (col g d))) g d := by
  obtain ⟨o, j, rfl⟩ : ∃ o j : Fin 4, g = ⟨4 * o.val + j.val, by omega⟩ :=
    ⟨⟨g.val / 4, by omega⟩, ⟨g.val % 4, by omega⟩, Fin.ext (by show g.val = 4 * (g.val / 4) + g.val % 4; omega)⟩
  have hc (x : Fin 64) : col ⟨4 * o.val + j.val, by omega⟩ x = lane o ⟨64 * j.val + x.val, by omega⟩ :=
    Fin.ext (by show 64 * (4 * o.val + j.val) + x.val = 256 * o.val + (64 * j.val + x.val); omega)
  unfold headNorm
  simp only [hc]
  rw [pay1_slice]
  simp only [mask'_apply]
  rw [group_sum (fun k => z (ix2 r (lane o k)) * z (ix2 r (lane o k))) j d, mul_inv64]

theorem hz2 : (![0, 0] : Fin 2 → Nat) = fun _ => 0 := funext fun a => by fin_cases a <;> rfl

section
variable (x0 : Vec Ideal S512x1024 .f32) (x1 : Vec Ideal S1x1024 .f32) (x2 : Vec Ideal S1024x3072 .bf16)
  (x3 : Vec Ideal S1024x1024 .bf16) (x4 x5 : Vec Ideal S1x1024 .f32) (x6 : Vec Ideal S1024x1 .f32)

/-- What the body leaves in the queries' block, of the inputs' blocks. -/
theorem outq_apply (r : Fin 512) (g : Fin 16) (d : Fin 64) :
    out0_7 x0 x1 x2 x3 x4 x5 x6 (ix2 r (col g d))
      = headNorm (fun c => ∑ k : Fin 1024, rms (fun k => x0 (ix2 r k)) (fun k => x1 (ix2 0 k)) k * x2 (ix2 k ⟨c.val, by omega⟩))
          (fun d => x4 (ix2 0 (col g d))) g d * Ideal.ofBits .f32 0x3E38AA3B#32 := by
  have l0 (x : Vec Ideal S512x1024 .f32) : View.ld x r0_0 = x := View.ld_unit_zero hz2 _ _
  have l1 (x : Vec Ideal S1x1024 .f32) : View.ld x r0_1 = x := View.ld_unit_zero hz2 _ _
  have l2 (k f : Fin 1024) : View.ld x2 r0_2 (ix2 k f) = x2 (ix2 k ⟨f.val, by omega⟩) := by
    show x2 _ = x2 _
    refine congrArg x2 (funext fun a => Fin.ext ?_)
    match a with
    | ⟨0, _⟩ => show 0 + 1 * k.val = _; simp
    | ⟨1, _⟩ => show 0 + 1 * f.val = _; simp
  unfold out0_7
  rw [View.canon_unit_zero hz2, l0, l1, l1, pay9_apply]
  simp only [pay3_apply, l2]

/-- What the body leaves in the keys' block, of the inputs' blocks. -/
theorem outk_apply (r : Fin 512) (g : Fin 16) (d : Fin 64) :
    out0_8 x0 x1 x2 x3 x4 x5 x6 (ix2 r (col g d))
      = headNorm (fun c => ∑ k : Fin 1024, rms (fun k => x0 (ix2 r k)) (fun k => x1 (ix2 0 k)) k * x2 (ix2 k ⟨1024 + c.val, by omega⟩))
          (fun d => x5 (ix2 0 (col g d))) g d := by
  have l0 (x : Vec Ideal S512x1024 .f32) : View.ld x r0_0 = x := View.ld_unit_zero hz2 _ _
  have l1 (x : Vec Ideal S1x1024 .f32) : View.ld x r0_1 = x := View.ld_unit_zero hz2 _ _
  have l2 (k f : Fin 1024) : View.ld x2 r0_3 (ix2 k f) = x2 (ix2 k ⟨1024 + f.val, by omega⟩) := by
    show x2 _ = x2 _
    refine congrArg x2 (funext fun a => Fin.ext ?_)
    match a with
    | ⟨0, _⟩ => show 0 + 1 * k.val = _; simp
    | ⟨1, _⟩ => show 1024 + 1 * f.val = _; simp
  unfold out0_8
  rw [View.canon_unit_zero hz2, l0, l1, l1, pay1_apply]
  simp only [pay4_apply, l2]

/-- What the body leaves in the values' block, of the inputs' blocks. -/
theorem outv_apply (r : Fin 512) (e : Fin 1024) :
    out0_9 x0 x1 x2 x3 x4 x5 x6 (ix2 r e)
      = ∑ k : Fin 1024, rms (fun k => x0 (ix2 r k)) (fun k => x1 (ix2 0 k)) k * x2 (ix2 k ⟨2048 + e.val, by omega⟩) := by
  have l0 (x : Vec Ideal S512x1024 .f32) : View.ld x r0_0 = x := View.ld_unit_zero hz2 _ _
  have l1 (x : Vec Ideal S1x1024 .f32) : View.ld x r0_1 = x := View.ld_unit_zero hz2 _ _
  have l4 (k f : Fin 1024) : View.ld x2 r0_4 (ix2 k f) = x2 (ix2 k ⟨2048 + f.val, by omega⟩) := by
    show x2 _ = x2 _
    refine congrArg x2 (funext fun a => Fin.ext ?_)
    match a with
    | ⟨0, _⟩ => show 0 + 1 * k.val = _; simp
    | ⟨1, _⟩ => show 2048 + 1 * f.val = _; simp
  unfold out0_9
  rw [View.canon_unit_zero hz2, l0, l1, pay5_apply]
  simp only [l4]
end

variable (m : (ℓ : Loc nD τ sig) → Buf (Elt Ideal) ℓ) (c : Dev nD)

/-- Where each window's block lies at the one grid point. -/
theorem place : ∀ t : Fin cfg0.N,
    win0_0.index t = ![0, 0] ∧ win0_1.index t = ![0, 0] ∧ win0_2.index t = ![0, 0]
    ∧ win0_4.index t = ![0, 0] ∧ win0_5.index t = ![0, 0] ∧ win0_7.index t = ![0, 0]
    ∧ win0_8.index t = ![0, 0] ∧ win0_9.index t = ![0, 0] := by
  decide +kernel

/-- The sequence of a row. -/
abbrev seq (r : Fin 512) : Fin 16 :=
  ⟨r.val / 32, by omega⟩

/-- The place of a row in its sequence. -/
abbrev pos (r : Fin 512) : Fin 32 :=
  ⟨r.val % 32, by omega⟩

/-- A block's rows are the sequences'. -/
theorem read_x (t : Fin cfg0.N) (r : Fin 512) (d : Fin 1024) :
    iblk m c 0 t (ix2 r d) = m ((c : Thread nD τ).loc main_arg0) (ix3 (seq r) (pos r) d) := by
  obtain ⟨e0, -⟩ := place t
  blk_simp [iblk, e0]
  entry_read
  pointwise
  have h : (((View.whole main_v0).slice (win0_0.rect t)).emb (ix2 r d) 0).val = r.val := by
    blk_simp [e0]
  refine congrArg (m ((c : Thread nD τ).loc main_arg0)) ?_
  refine (congrArg₂ (fun (b : Fin 16) (s : Fin 32) => ix3 b s _) (Fin.ext ?_) (Fin.ext ?_)).trans
    (congrArg (ix3 (seq r) (pos r)) (Fin.ext ?_))
  · show _ / 32 = r.val / 32
    rw [h]
  · show _ % 32 = r.val % 32
    rw [h]
  · blk_simp [e0]

/-- The rows' norm's weight. -/
theorem read_ln (t : Fin cfg0.N) (d : Fin 1024) :
    iblk m c 1 t (ix2 0 d) = m ((c : Thread nD τ).loc main_arg1) (ix1 d) := by
  obtain ⟨-, e0, -⟩ := place t
  blk_simp [iblk, e0]
  entry_read
  pointwise
  blk_ext [e0]

/-- The projection's columns of the queries, keys and values. -/
theorem read_w (t : Fin cfg0.N) (k : Fin 1024) (f : Fin 3072) :
    iblk m c 2 t (ix2 k f) = m ((c : Thread nD τ).loc main_arg2) (ix2 k ⟨f.val, by omega⟩) := by
  obtain ⟨-, -, e0, -⟩ := place t
  blk_simp [iblk, e0]
  entry_read
  pointwise
  blk_ext [e0]

/-- The queries' norm's weight, one head after another. -/
theorem read_qn (t : Fin cfg0.N) (g : Fin 16) (d : Fin 64) :
    iblk m c 4 t (ix2 0 (col g d)) = m ((c : Thread nD τ).loc main_arg3) (ix1 d) := by
  obtain ⟨-, -, -, e0, -⟩ := place t
  blk_simp [iblk, e0]
  entry_read
  pointwise
  blk_ext [e0]

/-- The keys' norm's weight, one head after another. -/
theorem read_kn (t : Fin cfg0.N) (g : Fin 16) (d : Fin 64) :
    iblk m c 5 t (ix2 0 (col g d)) = m ((c : Thread nD τ).loc main_arg4) (ix1 d) := by
  obtain ⟨-, -, -, -, e0, -⟩ := place t
  blk_simp [iblk, e0]
  entry_read
  pointwise
  blk_ext [e0]

/-- The queries of all rows. -/
def queryFn (x : Fin 16 → Fin 32 → Fin 1024 → EReal) (w : Fin 1024 → EReal) (Z : Fin 1024 → Fin 9232 → EReal)
    (n : Fin 64 → EReal) (y : S512x1024.Idx) : EReal :=
  query (x ⟨(y 0).val / 32, by have h : (y 0).val < 512 := (y 0).isLt; omega⟩ ⟨(y 0).val % 32, by omega⟩) w Z n
    ⟨(y 1).val / 64, by have h : (y 1).val < 1024 := (y 1).isLt; omega⟩ ⟨(y 1).val % 64, by omega⟩

/-- The keys of all rows. -/
def keyFn (x : Fin 16 → Fin 32 → Fin 1024 → EReal) (w : Fin 1024 → EReal) (Z : Fin 1024 → Fin 9232 → EReal)
    (n : Fin 64 → EReal) (y : S512x1024.Idx) : EReal :=
  key (x ⟨(y 0).val / 32, by have h : (y 0).val < 512 := (y 0).isLt; omega⟩ ⟨(y 0).val % 32, by omega⟩) w Z n
    ⟨(y 1).val / 64, by have h : (y 1).val < 1024 := (y 1).isLt; omega⟩ ⟨(y 1).val % 64, by omega⟩

/-- The values of all rows. -/
def valueFn (x : Fin 16 → Fin 32 → Fin 1024 → EReal) (w : Fin 1024 → EReal) (Z : Fin 1024 → Fin 9232 → EReal)
    (y : S512x1024.Idx) : EReal :=
  proj (x ⟨(y 0).val / 32, by have h : (y 0).val < 512 := (y 0).isLt; omega⟩ ⟨(y 0).val % 32, by omega⟩) w Z
    ⟨2048 + (y 1).val, by have h : (y 1).val < 1024 := (y 1).isLt; omega⟩

/-- The queries' function at a row and a lane of a group. -/
theorem queryFn_at (x : Fin 16 → Fin 32 → Fin 1024 → EReal) (w : Fin 1024 → EReal) (Z : Fin 1024 → Fin 9232 → EReal)
    (n : Fin 64 → EReal) (y : S512x1024.Idx) (b : Fin 16) (s : Fin 32) (g : Fin 16) (d : Fin 64)
    (h0 : (y 0).val = 32 * b.val + s.val) (h1 : (y 1).val = 64 * g.val + d.val) :
    queryFn x w Z n y = query (x b s) w Z n g d := by
  have e0 : (y 0).val / 32 = b.val := by omega
  have e1 : (y 0).val % 32 = s.val := by omega
  have e2 : (y 1).val / 64 = g.val := by omega
  have e3 : (y 1).val % 64 = d.val := by omega
  unfold queryFn
  simp only [e0, e1, e2, e3]

/-- The keys' function at a row and a lane of a group. -/
theorem keyFn_at (x : Fin 16 → Fin 32 → Fin 1024 → EReal) (w : Fin 1024 → EReal) (Z : Fin 1024 → Fin 9232 → EReal)
    (n : Fin 64 → EReal) (y : S512x1024.Idx) (b : Fin 16) (s : Fin 32) (g : Fin 16) (d : Fin 64)
    (h0 : (y 0).val = 32 * b.val + s.val) (h1 : (y 1).val = 64 * g.val + d.val) :
    keyFn x w Z n y = key (x b s) w Z n g d := by
  have e0 : (y 0).val / 32 = b.val := by omega
  have e1 : (y 0).val % 32 = s.val := by omega
  have e2 : (y 1).val / 64 = g.val := by omega
  have e3 : (y 1).val % 64 = d.val := by omega
  unfold keyFn
  simp only [e0, e1, e2, e3]

/-- The values' function at a row and a lane. -/
theorem valueFn_at (x : Fin 16 → Fin 32 → Fin 1024 → EReal) (w : Fin 1024 → EReal) (Z : Fin 1024 → Fin 9232 → EReal)
    (y : S512x1024.Idx) (b : Fin 16) (s : Fin 32) (e : Fin 1024)
    (h0 : (y 0).val = 32 * b.val + s.val) (h1 : (y 1).val = e.val) :
    valueFn x w Z y = proj (x b s) w Z ⟨2048 + e.val, by omega⟩ := by
  have e0 : (y 0).val / 32 = b.val := by omega
  have e1 : (y 0).val % 32 = s.val := by omega
  unfold valueFn
  simp only [e0, e1, h1]

/-- The rows as a function of the sequence and the place. -/
abbrev X : Fin 16 → Fin 32 → Fin 1024 → EReal := fun b s k => m ((c : Thread nD τ).loc main_arg0) (ix3 b s k)

/-- The rows' norm's weight. -/
abbrev W : Fin 1024 → EReal := fun k => m ((c : Thread nD τ).loc main_arg1) (ix1 k)

/-- The whole input projection. -/
abbrev P : Fin 1024 → Fin 9232 → EReal := fun k f => m ((c : Thread nD τ).loc main_arg2) (ix2 k f)

/-- What the kernel leaves in its queries. -/
theorem query_value : (dats m 0 c).arrAt 7 cfg0.N
    = queryFn (X m c) (W m c) (P m c) (fun d => m ((c : Thread nD τ).loc main_arg3) (ix1 d)) := by
  refine (dats m 0 c).arrAt_eq_of_covers 7 _ (by decide +kernel) fun t hf y => ?_
  have hp := (place t).2.2.2.2.2.1
  obtain ⟨r, e, rfl⟩ : ∃ (r : Fin 512) (e : Fin 1024), y = ix2 r e := ⟨y 0, y 1, (ix2_eta y).symm⟩
  obtain ⟨g, d, rfl⟩ := exists_col e
  have h0 : ((((cfg0.win 7).blk t).view.emb (ix2 r (col g d))) 0).val = r.val := by blk_simp [hp]
  have h1 : ((((cfg0.win 7).blk t).view.emb (ix2 r (col g d))) 1).val = 64 * g.val + d.val := by blk_simp [hp]
  refine Eq.trans ?_ (queryFn_at _ _ _ _ (((cfg0.win 7).blk t).view.emb (ix2 r (col g d))) (seq r) (pos r) g d
    (by rw [h0]; show _ = 32 * (r.val / 32) + r.val % 32; omega) h1).symm
  blk_simp
  rw [after0_7]
  refine (outq_apply _ _ _ _ _ _ _ r g d).trans ?_
  simp only [read_x, read_ln, read_w, read_qn]
  rfl

/-- What the kernel leaves in its keys. -/
theorem key_value : (dats m 0 c).arrAt 8 cfg0.N
    = keyFn (X m c) (W m c) (P m c) (fun d => m ((c : Thread nD τ).loc main_arg4) (ix1 d)) := by
  refine (dats m 0 c).arrAt_eq_of_covers 8 _ (by decide +kernel) fun t hf y => ?_
  have hp := (place t).2.2.2.2.2.2.1
  obtain ⟨r, e, rfl⟩ : ∃ (r : Fin 512) (e : Fin 1024), y = ix2 r e := ⟨y 0, y 1, (ix2_eta y).symm⟩
  obtain ⟨g, d, rfl⟩ := exists_col e
  have h0 : ((((cfg0.win 8).blk t).view.emb (ix2 r (col g d))) 0).val = r.val := by blk_simp [hp]
  have h1 : ((((cfg0.win 8).blk t).view.emb (ix2 r (col g d))) 1).val = 64 * g.val + d.val := by blk_simp [hp]
  refine Eq.trans ?_ (keyFn_at _ _ _ _ (((cfg0.win 8).blk t).view.emb (ix2 r (col g d))) (seq r) (pos r) g d
    (by rw [h0]; show _ = 32 * (r.val / 32) + r.val % 32; omega) h1).symm
  blk_simp
  rw [after0_8]
  refine (outk_apply _ _ _ _ _ _ _ r g d).trans ?_
  simp only [read_x, read_ln, read_w, read_kn]
  rfl

/-- What the kernel leaves in its values. -/
theorem value_value : (dats m 0 c).arrAt 9 cfg0.N = valueFn (X m c) (W m c) (P m c) := by
  refine (dats m 0 c).arrAt_eq_of_covers 9 _ (by decide +kernel) fun t hf y => ?_
  have hp := (place t).2.2.2.2.2.2.2
  obtain ⟨r, e, rfl⟩ : ∃ (r : Fin 512) (e : Fin 1024), y = ix2 r e := ⟨y 0, y 1, (ix2_eta y).symm⟩
  have h0 : ((((cfg0.win 9).blk t).view.emb (ix2 r e)) 0).val = r.val := by blk_simp [hp]
  have h1 : ((((cfg0.win 9).blk t).view.emb (ix2 r e)) 1).val = e.val := by blk_simp [hp]
  refine Eq.trans ?_ (valueFn_at _ _ _ (((cfg0.win 9).blk t).view.emb (ix2 r e)) (seq r) (pos r) e
    (by rw [h0]; show _ = 32 * (r.val / 32) + r.val % 32; omega) h1).symm
  blk_simp
  rw [after0_9]
  refine (outv_apply _ _ _ _ _ _ _ r e).trans ?_
  simp only [read_x, read_ln, read_w]
  rfl

end Cert.Proofs.ProjectSample
-- ==== Proof.ProjectSampleRefValue.lean ====
module

public import proofs.«01_k».proof.Proof.Project
public import proofs.«01_k».proof.Proof.Gen.ProjectSampleRefIdeal.Read
public import Idealize.ShloMosaic.Lib.Pipeline.ValueKit

@[expose] public section

set_option maxRecDepth 16384

noncomputable section

namespace Cert.Proofs.ProjectSampleReference

open Cert.ProjectSampleRefIdeal Cert.ProjectSampleRefIdeal.Gen Cert.ProjectSampleRefIdeal.Read Idealize.ShloMosaic Idealize.ShloMosaic.TcCoe Idealize.SL.Sem
open Cert.Proofs.Layer (rms proj headNorm query key col exists_col)

variable (x0 : Vec Ideal S16x32x1024 .f32) (x1 : Vec Ideal S1024 .f32) (x2 : Vec Ideal S1024x9232 .f32)
  (x3 x4 : Vec Ideal S64 .f32)

/-- The normed rows. -/
theorem norm_apply (b : Fin 16) (s : Fin 32) (d : Fin 1024) :
    val_main_v12 (F := Ideal) x0 x1 (ix3 b s d) = rms (fun k => x0 (ix3 b s k)) (fun k => x1 (ix1 k)) d := by
  unfold val_main_v12 val_main_v11 val_main_v10 val_main_v9 val_main_v8 val_main_v7 val_main_v6 val_main_v5 val_main_v4
    val_main_v3 val_main_v2 val_main_v1 val_main_v0 val_main_cst val_main_cst_0 val_main_cst_1 rms
  pointwise

/-- The projected rows. -/
theorem proj_apply (b : Fin 16) (s : Fin 32) (f : Fin 3072) :
    val_main_v14 (F := Ideal) x0 x1 x2 (ix3 b s f)
      = proj (fun k => x0 (ix3 b s k)) (fun k => x1 (ix1 k)) (fun k f => x2 (ix2 k f)) ⟨f.val, by omega⟩ := by
  unfold proj
  simp only [← norm_apply]
  unfold val_main_v14 val_main_v13
  generalize val_main_v12 (F := Ideal) x0 x1 = y
  pointwise

/-- The values' rows. -/
theorem value_apply (r : Fin 512) (e : Fin 1024) :
    val_main_v50 (F := Ideal) x0 x1 x2 (ix2 r e)
      = proj (fun k => x0 (ix3 ⟨r.val / 32, by omega⟩ ⟨r.val % 32, by omega⟩ k)) (fun k => x1 (ix1 k))
          (fun k f => x2 (ix2 k f)) ⟨2048 + e.val, by omega⟩ := by
  refine Eq.trans ?_ (proj_apply x0 x1 x2 ⟨r.val / 32, by omega⟩ ⟨r.val % 32, by omega⟩ ⟨2048 + e.val, by omega⟩)
  unfold val_main_v50 val_main_v17
  generalize val_main_v14 (F := Ideal) x0 x1 x2 = y
  pointwise

/-- The queries' rows. -/
theorem query_apply (r : Fin 512) (g : Fin 16) (d : Fin 64) :
    val_main_v49 (F := Ideal) x0 x1 x2 x3 (ix2 r (col g d))
      = query (fun k => x0 (ix3 ⟨r.val / 32, by omega⟩ ⟨r.val % 32, by omega⟩ k)) (fun k => x1 (ix1 k))
          (fun k f => x2 (ix2 k f)) (fun d => x3 (ix1 d)) g d := by
  unfold query headNorm
  have h (x : Fin 64) : proj (fun k => x0 (ix3 ⟨r.val / 32, by omega⟩ ⟨r.val % 32, by omega⟩ k)) (fun k => x1 (ix1 k))
      (fun k f => x2 (ix2 k f)) ⟨64 * g.val + x.val, by omega⟩ = val_main_v14 (F := Ideal) x0 x1 x2
        (ix3 ⟨r.val / 32, by omega⟩ ⟨r.val % 32, by omega⟩ ⟨64 * g.val + x.val, by omega⟩) :=
    (proj_apply x0 x1 x2 ⟨r.val / 32, by omega⟩ ⟨r.val % 32, by omega⟩ ⟨64 * g.val + x.val, by omega⟩).symm
  simp only [h]
  unfold val_main_v49 val_main_v48 val_main_v47 val_main_v46 val_main_cst_8 val_main_v31 val_main_v30 val_main_v29 val_main_v28
    val_main_v27 val_main_v26 val_main_v25 val_main_v24 val_main_v23 val_main_v22 val_main_v21 val_main_v20 val_main_v19
    val_main_v18 val_main_v15 val_main_cst_2 val_main_cst_3 val_main_cst_4
  generalize val_main_v14 (F := Ideal) x0 x1 x2 = y
  pointwise
  have hg : (64 * g.val + d.val) / 128 * 128 + (64 * g.val + d.val) / 64 % 2 * 64 = 64 * g.val := by omega
  have hd : (64 * g.val + d.val) % 64 = d.val := by omega
  simp only [hg, hd]

/-- The keys' rows. -/
theorem key_apply (r : Fin 512) (g : Fin 16) (d : Fin 64) :
    val_main_v51 (F := Ideal) x0 x1 x2 x4 (ix2 r (col g d))
      = key (fun k => x0 (ix3 ⟨r.val / 32, by omega⟩ ⟨r.val % 32, by omega⟩ k)) (fun k => x1 (ix1 k))
          (fun k f => x2 (ix2 k f)) (fun d => x4 (ix1 d)) g d := by
  unfold key headNorm
  have h (x : Fin 64) : proj (fun k => x0 (ix3 ⟨r.val / 32, by omega⟩ ⟨r.val % 32, by omega⟩ k)) (fun k => x1 (ix1 k))
      (fun k f => x2 (ix2 k f)) ⟨1024 + (64 * g.val + x.val), by omega⟩ = val_main_v14 (F := Ideal) x0 x1 x2
        (ix3 ⟨r.val / 32, by omega⟩ ⟨r.val % 32, by omega⟩ ⟨1024 + (64 * g.val + x.val), by omega⟩) :=
    (proj_apply x0 x1 x2 ⟨r.val / 32, by omega⟩ ⟨r.val % 32, by omega⟩ ⟨1024 + (64 * g.val + x.val), by omega⟩).symm
  simp only [h]
  unfold val_main_v51 val_main_v45 val_main_v44 val_main_v43 val_main_v42 val_main_v41 val_main_v40 val_main_v39
    val_main_v38 val_main_v37 val_main_v36 val_main_v35 val_main_v34 val_main_v33 val_main_v32 val_main_v16
    val_main_cst_5 val_main_cst_6 val_main_cst_7
  generalize val_main_v14 (F := Ideal) x0 x1 x2 = y
  pointwise
  have hg : (64 * g.val + d.val) / 128 * 128 + (64 * g.val + d.val) / 64 % 2 * 64 = 64 * g.val := by omega
  have hd : (64 * g.val + d.val) % 64 = d.val := by omega
  simp only [hg, hd]

end Cert.Proofs.ProjectSampleReference
-- ==== Proof.ProjectSampleClaim.lean ====
module

public import proofs.«01_k».proof.Defs
public import proofs.«01_k».proof.Proof.ProjectSampleKernel
public import proofs.«01_k».proof.Proof.ProjectSampleRefValue
public import proofs.«01_k».proof.Proof.Gen.ProjectSampleRefIdeal.Run

@[expose] public section

set_option maxRecDepth 16384

noncomputable section

namespace Cert.Proofs.ProjectSample

open Idealize.ShloMosaic Idealize.SL.Sem

/-- The kernel and the reference leave the same queries, keys and values. -/
theorem algebraic : Cert.algebraic_ProjectSampleIdeal_ProjectSampleRefIdeal (hProjectSampleIdeal := Cert.ProjectSampleIdeal.Gen.facts)
    (hProjectSampleRefIdeal := Cert.ProjectSampleRefIdeal.Gen.facts) := by
  intro m g m' g' _ hagree
  refine ⟨fun c => (Cert.ProjectSampleIdeal.Gen.dats m 0 c).arrAt 7 Cert.ProjectSampleIdeal.cfg0.N,
    fun c => (Cert.ProjectSampleIdeal.Gen.dats m 0 c).arrAt 8 Cert.ProjectSampleIdeal.cfg0.N,
    fun c => (Cert.ProjectSampleIdeal.Gen.dats m 0 c).arrAt 9 Cert.ProjectSampleIdeal.cfg0.N, Cert.ProjectSampleIdeal.Value.run_blocks m g, ?_⟩
  refine (θ_run _ _ _).mono (fun r h c => ⟨?_, ?_, ?_, (h c).2.2.2⟩) (Cert.ProjectSampleRefIdeal.Value.run m' g')
  · obtain ⟨a0, a1, a2, a3, a4⟩ := hagree c
    refine (h c).1.trans ?_
    rw [Cert.ProjectSampleRefIdeal.Read.val_main_v49_eq, a0, a1, a2, a3]
    refine Eq.trans ?_ (query_value m c).symm
    funext y
    obtain ⟨r, e, rfl⟩ : ∃ (r : Fin 512) (e : Fin 1024), y = ix2 r e := ⟨y 0, y 1, (ix2_eta y).symm⟩
    obtain ⟨g, d, rfl⟩ := Layer.exists_col e
    refine (ProjectSampleReference.query_apply _ _ _ _ r g d).trans (queryFn_at (X m c) (W m c) (P m c) _ (ix2 r (Layer.col g d))
      ⟨r.val / 32, by omega⟩ ⟨r.val % 32, by omega⟩ g d ?_ rfl).symm
    show r.val = 32 * (r.val / 32) + r.val % 32
    omega
  · obtain ⟨a0, a1, a2, a3, a4⟩ := hagree c
    refine (h c).2.1.trans ?_
    rw [Cert.ProjectSampleRefIdeal.Read.val_main_v51_eq, a0, a1, a2, a4]
    refine Eq.trans ?_ (key_value m c).symm
    funext y
    obtain ⟨r, e, rfl⟩ : ∃ (r : Fin 512) (e : Fin 1024), y = ix2 r e := ⟨y 0, y 1, (ix2_eta y).symm⟩
    obtain ⟨g, d, rfl⟩ := Layer.exists_col e
    refine (ProjectSampleReference.key_apply _ _ _ _ r g d).trans (keyFn_at (X m c) (W m c) (P m c) _ (ix2 r (Layer.col g d))
      ⟨r.val / 32, by omega⟩ ⟨r.val % 32, by omega⟩ g d ?_ rfl).symm
    show r.val = 32 * (r.val / 32) + r.val % 32
    omega
  · obtain ⟨a0, a1, a2, a3, a4⟩ := hagree c
    refine (h c).2.2.1.trans ?_
    rw [Cert.ProjectSampleRefIdeal.Read.val_main_v50_eq, a0, a1, a2]
    refine Eq.trans ?_ (value_value m c).symm
    funext y
    obtain ⟨r, e, rfl⟩ : ∃ (r : Fin 512) (e : Fin 1024), y = ix2 r e := ⟨y 0, y 1, (ix2_eta y).symm⟩
    refine (ProjectSampleReference.value_apply _ _ _ r e).trans (valueFn_at (X m c) (W m c) (P m c) (ix2 r e)
      ⟨r.val / 32, by omega⟩ ⟨r.val % 32, by omega⟩ e ?_ rfl).symm
    show r.val = 32 * (r.val / 32) + r.val % 32
    omega

end Cert.Proofs.ProjectSample
-- ==== Proof.FfnSampleKernel.lean ====
module

public import proofs.«01_k».proof.Proof.Layer
public import proofs.«01_k».proof.Proof.Gen.FfnSampleIdeal.Value
public import Idealize.ShloMosaic.Lib.Pipeline.ValueKit
public import Idealize.ShloMosaic.Lib.Claim

@[expose] public section

set_option maxRecDepth 16384

noncomputable section

namespace Cert.Proofs.FfnSample

open Cert.FfnSampleIdeal Cert.FfnSampleIdeal.Gen Idealize.ShloMosaic Idealize.ShloMosaic.TcCoe Idealize.SL.Sem Cert.Proofs.Layer

section
variable (v0 : Vec Ideal S512x1024 .f32) (v1 : Vec Ideal S1x1024 .f32)

/-- The block's rows, normed. -/
theorem pay2_apply (r : Fin 512) (d : Fin 1024) :
    k0_pay2 v0 v1 (ix2 r d) = rms (fun k => v0 (ix2 r k)) (fun k => v1 (ix2 0 k)) d := by
  unfold k0_pay2 rms
  pointwise

/-- The first chunk's gated hidden units. -/
theorem pay3_apply (v16 v19 : Vec Ideal S1024x1536 .bf16) (r : Fin 512) (f : Fin 1536) :
    k0_pay3 v0 v1 v16 v19 (ix2 r f)
      = siluT (∑ k : Fin 1024, rms (fun k => v0 (ix2 r k)) (fun k => v1 (ix2 0 k)) k * v16 (ix2 k f))
        * (∑ k : Fin 1024, rms (fun k => v0 (ix2 r k)) (fun k => v1 (ix2 0 k)) k * v19 (ix2 k f)) := by
  simp only [← pay2_apply]
  unfold k0_pay3 siluT
  generalize k0_pay2 v0 v1 = h
  pointwise

theorem pay4_apply (v32 : Vec Ideal S1024x1280 .bf16) (r : Fin 512) (f : Fin 1280) :
    k0_pay4 v0 v1 v32 (ix2 r f)
      = ∑ k : Fin 1024, rms (fun k => v0 (ix2 r k)) (fun k => v1 (ix2 0 k)) k * v32 (ix2 k f) := by
  simp only [← pay2_apply]
  unfold k0_pay4
  generalize k0_pay2 v0 v1 = h
  pointwise

theorem pay5_apply (v29 : Vec Ideal S1024x1280 .bf16) (r : Fin 512) (f : Fin 1280) :
    k0_pay5 v0 v1 v29 (ix2 r f)
      = Ideal.ofBits .f32 0x3F000000#32 * ∑ k : Fin 1024, rms (fun k => v0 (ix2 r k)) (fun k => v1 (ix2 0 k)) k * v29 (ix2 k f) := by
  simp only [← pay2_apply]
  unfold k0_pay5
  generalize k0_pay2 v0 v1 = h
  pointwise

theorem pay6_apply (v29 : Vec Ideal S1024x1280 .bf16) (r : Fin 512) (f : Fin 1280) :
    k0_pay6 v0 v1 v29 (ix2 r f)
      = Ideal.tanh (Ideal.ofBits .f32 0x3F000000#32
          * ∑ k : Fin 1024, rms (fun k => v0 (ix2 r k)) (fun k => v1 (ix2 0 k)) k * v29 (ix2 k f)) := by
  rw [← pay5_apply]
  rfl

/-- The block's result from the two chunks' hidden units. -/
theorem pay1_apply (a : FVec Ideal S512x1536 .bf16) (u p q : FVec Ideal S512x1280 .f32) (w : Vec Ideal S1536x1024 .bf16)
    (z : Vec Ideal S1280x1024 .bf16) (r : Fin 512) (e : Fin 1024) :
    k0_pay1 v0 a u p q w z (ix2 r e)
      = v0 (ix2 r e) + (∑ f : Fin 1536, a (ix2 r f) * w (ix2 f e))
        + ∑ f : Fin 1280, (p (ix2 r f) * q (ix2 r f) + p (ix2 r f)) * u (ix2 r f) * z (ix2 f e) := by
  unfold k0_pay1
  pointwise
end

theorem hz2 : (![0, 0] : Fin 2 → Nat) = fun _ => 0 := funext fun a => by fin_cases a <;> rfl

/-- What the body leaves in the result's block, of the inputs' blocks. -/
theorem out_apply (x0 : Vec Ideal S512x1024 .f32) (x1 : Vec Ideal S1x1024 .f32) (x2 : Vec Ideal S1024x5632 .bf16)
    (x3 : Vec Ideal S2816x1024 .bf16) (r : Fin 512) (e : Fin 1024) :
    out0_4 x0 x1 x2 x3 (ix2 r e)
      = ffn siluT (fun k => x0 (ix2 r k)) (fun k => x1 (ix2 0 k)) (fun k f => x2 (ix2 k f)) (fun f e => x3 (ix2 f e)) e := by
  have l2 (k : Fin 1024) (f : Fin 1536) : View.ld x2 r0_2 (ix2 k f) = x2 (ix2 k ⟨f.val, by omega⟩) := by
    show x2 _ = x2 _
    refine congrArg x2 (funext fun a => Fin.ext ?_)
    match a with
    | ⟨0, _⟩ => show 0 + 1 * k.val = _; simp
    | ⟨1, _⟩ => show 0 + 1 * f.val = _; simp
  have l3 (k : Fin 1024) (f : Fin 1536) : View.ld x2 r0_3 (ix2 k f) = x2 (ix2 k ⟨2816 + f.val, by omega⟩) := by
    show x2 _ = x2 _
    refine congrArg x2 (funext fun a => Fin.ext ?_)
    match a with
    | ⟨0, _⟩ => show 0 + 1 * k.val = _; simp
    | ⟨1, _⟩ => show 2816 + 1 * f.val = _; simp
  have l4 (k : Fin 1024) (f : Fin 1280) : View.ld x2 r0_4 (ix2 k f) = x2 (ix2 k ⟨1536 + f.val, by omega⟩) := by
    show x2 _ = x2 _
    refine congrArg x2 (funext fun a => Fin.ext ?_)
    match a with
    | ⟨0, _⟩ => show 0 + 1 * k.val = _; simp
    | ⟨1, _⟩ => show 1536 + 1 * f.val = _; simp
  have l5 (k : Fin 1024) (f : Fin 1280) : View.ld x2 r0_5 (ix2 k f) = x2 (ix2 k ⟨2816 + (1536 + f.val), by omega⟩) := by
    show x2 _ = x2 _
    refine congrArg x2 (funext fun a => Fin.ext ?_)
    match a with
    | ⟨0, _⟩ => show 0 + 1 * k.val = _; simp
    | ⟨1, _⟩ => show 4352 + 1 * f.val = 2816 + (1536 + f.val); omega
  have l6 (f : Fin 1536) (e : Fin 1024) : View.ld x3 r0_6 (ix2 f e) = x3 (ix2 ⟨f.val, by omega⟩ e) := by
    show x3 _ = x3 _
    refine congrArg x3 (funext fun a => Fin.ext ?_)
    match a with
    | ⟨0, _⟩ => show 0 + 1 * f.val = _; simp
    | ⟨1, _⟩ => show 0 + 1 * e.val = _; simp
  have l7 (f : Fin 1280) (e : Fin 1024) : View.ld x3 r0_7 (ix2 f e) = x3 (ix2 ⟨1536 + f.val, by omega⟩ e) := by
    show x3 _ = x3 _
    refine congrArg x3 (funext fun a => Fin.ext ?_)
    match a with
    | ⟨0, _⟩ => show 1536 + 1 * f.val = _; simp
    | ⟨1, _⟩ => show 0 + 1 * e.val = _; simp
  have l0 : View.ld x0 r0_0 = x0 := View.ld_unit_zero hz2 _ _
  have l1 : View.ld x1 r0_1 = x1 := View.ld_unit_zero hz2 _ _
  unfold out0_4
  rw [View.canon_unit_zero hz2, l0, l1, pay1_apply]
  simp only [pay3_apply, pay4_apply, pay5_apply, pay6_apply, l2, l3, l4, l5, l6, l7]
  unfold ffn
  rw [Fin.sum_univ_add (a := 1536) (b := 1280), ← add_assoc]
  rfl

variable (m : (ℓ : Loc nD τ sig) → Buf (Elt Ideal) ℓ) (c : Dev nD)

/-- Where each window's block lies at a grid point. -/
theorem place : ∀ t : Fin cfg0.N,
    win0_0.index t = ![0, 0] ∧ win0_1.index t = ![0, 0] ∧ win0_2.index t = ![0, 0] ∧ win0_3.index t = ![0, 0]
    ∧ win0_4.index t = ![0, 0] := by
  decide +kernel

theorem read_x (t : Fin cfg0.N) (r : Fin 512) (d : Fin 1024) :
    iblk m c 0 t (ix2 r d) = m ((c : Thread nD τ).loc main_arg0) (ix2 r d) := by
  obtain ⟨e0, -⟩ := place t
  blk_ext [iblk, V, e0]

theorem read_ln (t : Fin cfg0.N) (d : Fin 1024) :
    iblk m c 1 t (ix2 0 d) = m ((c : Thread nD τ).loc main_arg1) (ix1 d) := by
  obtain ⟨-, e0, -⟩ := place t
  blk_simp [iblk, e0]
  entry_read
  pointwise
  blk_ext [e0]

theorem read_u (t : Fin cfg0.N) (k : Fin 1024) (f : Fin 5632) :
    iblk m c 2 t (ix2 k f) = m ((c : Thread nD τ).loc main_arg2) (ix2 k f) := by
  obtain ⟨-, -, e0, -⟩ := place t
  blk_simp [iblk, e0]
  entry_read
  pointwise
  blk_ext [e0]

theorem read_d (t : Fin cfg0.N) (f : Fin 2816) (e : Fin 1024) :
    iblk m c 3 t (ix2 f e) = m ((c : Thread nD τ).loc main_arg3) (ix2 f e) := by
  obtain ⟨-, -, -, e0, -⟩ := place t
  blk_simp [iblk, e0]
  entry_read
  pointwise
  blk_ext [e0]

/-- The whole result, row by row, of the arguments. -/
def ffnFn (act : EReal → EReal) (x : Fin 512 → Fin 1024 → EReal) (w : Fin 1024 → EReal) (U : Fin 1024 → Fin 5632 → EReal)
    (D : Fin 2816 → Fin 1024 → EReal) (y : S512x1024.Idx) : EReal :=
  ffn act (x (y 0)) w U D (y 1)

/-- What the kernel leaves in its result. -/
theorem kernel_value : (dats m 0 c).arrAt 4 cfg0.N
    = ffnFn siluT (fun r k => m ((c : Thread nD τ).loc main_arg0) (ix2 r k)) (fun k => m ((c : Thread nD τ).loc main_arg1) (ix1 k))
      (fun k f => m ((c : Thread nD τ).loc main_arg2) (ix2 k f)) (fun f e => m ((c : Thread nD τ).loc main_arg3) (ix2 f e)) := by
  refine (dats m 0 c).arrAt_eq_of_covers 4 _ (by decide +kernel) fun t hf y => ?_
  have hp := (place t).2.2.2.2
  obtain ⟨r, e, rfl⟩ : ∃ (r : Fin 512) (e : Fin 1024), y = ix2 r e := ⟨y 0, y 1, (ix2_eta y).symm⟩
  blk_simp
  rw [after0_4]
  refine (out_apply _ _ _ _ r e).trans ?_
  simp only [read_x, read_ln, read_u, read_d]
  unfold ffnFn
  congr 1
  · funext k
    congr 2
    exact Fin.ext (by blk_simp [hp])
  · exact Fin.ext (by blk_simp [hp])

end Cert.Proofs.FfnSample
-- ==== Proof.FfnSampleRefValue.lean ====
module

public import proofs.«01_k».proof.Proof.Layer
public import proofs.«01_k».proof.Proof.Gen.FfnSampleRefIdeal.Read
public import Idealize.ShloMosaic.Lib.Pipeline.ValueKit

@[expose] public section

set_option maxRecDepth 16384

noncomputable section

namespace Cert.Proofs.FfnSampleReference

open Cert.FfnSampleRefIdeal Cert.FfnSampleRefIdeal.Gen Cert.FfnSampleRefIdeal.Read Idealize.ShloMosaic Idealize.ShloMosaic.TcCoe Idealize.SL.Sem
open Cert.Proofs.Layer

variable (x0 : Vec Ideal S512x1024 .f32) (x1 : Vec Ideal S1024 .f32) (x2 : Vec Ideal S1024x5632 .f32)
  (x3 : Vec Ideal S2816x1024 .f32)

/-- The normed rows. -/
theorem norm_apply (r : Fin 512) (d : Fin 1024) :
    val_main_v12 (F := Ideal) x0 x1 (ix2 r d) = rms (fun k => x0 (ix2 r k)) (fun k => x1 (ix1 k)) d := by
  unfold val_main_v12 val_main_v11 val_main_v10 val_main_v9 val_main_v8 val_main_v7 val_main_v6 val_main_v5 val_main_v4
    val_main_v3 val_main_v2 val_main_v1 val_main_v0 val_main_cst val_main_cst_0 val_main_cst_1 rms
  pointwise

/-- The hidden units before their gates. -/
theorem hidden_apply (r : Fin 512) (f : Fin 5632) :
    val_main_v13 (F := Ideal) x0 x1 x2 (ix2 r f)
      = ∑ k : Fin 1024, rms (fun k => x0 (ix2 r k)) (fun k => x1 (ix1 k)) k * x2 (ix2 k f) := by
  simp only [← norm_apply]
  unfold val_main_v13
  generalize val_main_v12 (F := Ideal) x0 x1 = y
  pointwise

/-- The gated hidden units. -/
theorem gated_apply (r : Fin 512) (f : Fin 2816) :
    val_main_v17 (F := Ideal) x0 x1 x2 (ix2 r f)
      = silu (val_main_v13 (F := Ideal) x0 x1 x2 (ix2 r ⟨f.val, by omega⟩))
        * val_main_v13 (F := Ideal) x0 x1 x2 (ix2 r ⟨2816 + f.val, by omega⟩) := by
  unfold val_main_v17 val_main_v16 val_main_call0_v5 val_main_call0_v4 val_main_call0_v3 val_main_call0_v2 val_main_call0_v1
    val_main_call0_v0 val_main_call0_cst val_main_call0_cst_0 val_main_v14 val_main_v15 silu Layer.sig
  generalize val_main_v13 (F := Ideal) x0 x1 x2 = y
  rw [← ofBits_one]
  pointwise

/-- The reference's result at a row and a column. -/
theorem ref_apply (r : Fin 512) (e : Fin 1024) :
    val_main_v19 (F := Ideal) x0 x1 x2 x3 (ix2 r e)
      = ffn silu (fun k => x0 (ix2 r k)) (fun k => x1 (ix1 k)) (fun k f => x2 (ix2 k f)) (fun f e => x3 (ix2 f e)) e := by
  have h : val_main_v19 (F := Ideal) x0 x1 x2 x3 (ix2 r e)
      = x0 (ix2 r e) + ∑ f : Fin 2816, val_main_v17 (F := Ideal) x0 x1 x2 (ix2 r f) * x3 (ix2 f e) := by
    unfold val_main_v19 val_main_v18
    generalize val_main_v17 (F := Ideal) x0 x1 x2 = y
    pointwise
  rw [h]
  simp only [gated_apply, hidden_apply]
  rfl

end Cert.Proofs.FfnSampleReference
-- ==== Proof.FfnSampleClaim.lean ====
module

public import proofs.«01_k».proof.Defs
public import proofs.«01_k».proof.Proof.Pre
public import proofs.«01_k».proof.Proof.FfnSampleKernel
public import proofs.«01_k».proof.Proof.FfnSampleRefValue
public import proofs.«01_k».proof.Proof.Gen.FfnSampleRefIdeal.Run
public import proofs.«01_k».proof.Proof.Gen.Pre_ffn_sample_finite

@[expose] public section

set_option maxRecDepth 16384

noncomputable section

namespace Cert.Proofs.FfnSample

open Idealize.ShloMosaic Idealize.SL.Sem

instance : Subsingleton (Cert.Pre_ffn_sample_finite.S_).Idx := ⟨fun _ _ => funext fun a => a.elim0⟩

section
open Cert.Pre_ffn_sample_finite Cert.Pre_ffn_sample_finite.Gen

/-- The precondition says that every element of the arguments it names is a real. -/
theorem real_args (x0 : FVec Ideal S512x1024 .f32) (x1 : FVec Ideal S1024 .f32) (x2 : FVec Ideal S1024x5632 .f32)
    (x3 : FVec Ideal S2816x1024 .f32) (h : fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal)) := by
  have h1 := congrFun h (fun a => a.elim0)
  unfold fn at h1
  obtain ⟨h1, e2⟩ := IntOp.andi_eq_one.1 h1
  obtain ⟨e0, e1⟩ := IntOp.andi_eq_one.1 h1
  exact ⟨Finite.real_of_all x0 _ _ _ _ _ e0, Finite.real_of_all x1 _ _ _ _ _ e1, Finite.real_of_all x2 _ _ _ _ _ e2⟩
end

/-- On finite rows and first weights the kernel and the reference leave the same result. -/
theorem algebraic : Cert.algebraic_FfnSampleIdeal_FfnSampleRefIdeal_pre_ffn_sample_finite (hFfnSampleIdeal := Cert.FfnSampleIdeal.Gen.facts)
    (hFfnSampleRefIdeal := Cert.FfnSampleRefIdeal.Gen.facts) (hPre_ffn_sample_finite := Cert.Pre_ffn_sample_finite.Gen.facts) := by
  intro m g m' g' hpre hagree
  refine ⟨fun c => (Cert.FfnSampleIdeal.Gen.dats m 0 c).arrAt 4 Cert.FfnSampleIdeal.cfg0.N, Cert.FfnSampleIdeal.Value.run_blocks m g, ?_⟩
  refine (θ_run _ _ _).mono (fun r h c => ⟨?_, (h c).2⟩) (Cert.FfnSampleRefIdeal.Value.run m' g')
  obtain ⟨a0, a1, a2, a3⟩ := hagree c
  refine (h c).1.trans ?_
  rw [Cert.FfnSampleRefIdeal.Read.val_main_v19_eq, a0, a1, a2, a3]
  obtain ⟨r0, r1, r2⟩ := real_args _ _ _ _ (hpre c)
  refine Eq.trans ?_ (kernel_value m c).symm
  funext y
  obtain ⟨r, e, rfl⟩ : ∃ (r : Fin 512) (e : Fin 1024), y = ix2 r e := ⟨y 0, y 1, (ix2_eta y).symm⟩
  refine (FfnSampleReference.ref_apply _ _ _ _ r e).trans ?_
  exact (Layer.ffn_act _ _ _ _ e (fun d => r0 (ix2 r d)) (fun d => r1 (ix1 d)) fun k f => r2 (ix2 k f)).symm

end Cert.Proofs.FfnSample
-- ==== Proof.ConvIdealRun.lean ====
module

public import proofs.«01_k».proof.Proof.Gen.ConvIdeal.Skeleton
public import proofs.«01_k».proof.Proof.Gen.ConvIdeal.Frame
public import Idealize.ShloMosaic.Lib.Claim

@[expose] public section

set_option maxRecDepth 16384

noncomputable section

/-! What one half sequence of the delta projection leaves behind, and the run of all of them.

The scratch carries the last eight projected rows to the next half. What a half writes there does not depend on what it
found there, and at the first half of a sequence the found rows are not used at all; so the rows found before point `t`
can be taken to be those of point `t - 1`, at `t = 0` too. -/

namespace Cert.ConvIdeal.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ConvIdeal Cert.ConvIdeal.Gen

variable {F : FTy → Type} [FloatOps F]

/-! ## The values -/

abbrev rRows : Rect S1024x1024 := Rect.unit (s := S1024x1024) ![0, 0] S1024x1024.size inb_S1024x1024_S1024x1024_0_0
abbrev rLn : Rect S1x1024 := Rect.unit (s := S1x1024) ![0, 0] S1x1024.size inb_S1x1024_S1x1024_0_0
abbrev rGate : Rect S1024x128 := Rect.unit (s := S1024x128) ![0, 0] S1024x128.size inb_S1024x128_S1024x128_0_0
abbrev rLane : Rect S1x128 := Rect.unit (s := S1x128) ![0, 0] S1x128.size inb_S1x128_S1x128_0_0
abbrev rW0 : Rect S1024x3072 := Rect.unit (s := S1024x3072) ![0, 0] S1024x1024.size inb_S1024x3072_S1024x1024_0_0
abbrev rW1 : Rect S1024x3072 := Rect.unit (s := S1024x3072) ![0, 1024] S1024x1024.size inb_S1024x3072_S1024x1024_0_1024
abbrev rW2 : Rect S1024x3072 := Rect.unit (s := S1024x3072) ![0, 2048] S1024x1024.size inb_S1024x3072_S1024x1024_0_2048
abbrev rT0 : Rect S4x3072 := Rect.unit (s := S4x3072) ![0, 0] S4x1024.size inb_S4x3072_S4x1024_0_0
abbrev rT1 : Rect S4x3072 := Rect.unit (s := S4x3072) ![0, 1024] S4x1024.size inb_S4x3072_S4x1024_0_1024
abbrev rT2 : Rect S4x3072 := Rect.unit (s := S4x3072) ![0, 2048] S4x1024.size inb_S4x3072_S4x1024_0_2048
abbrev rB0 : Rect S1x8x3072 := Rect.unit (s := S1x8x3072) ![0, 0, 0] S1x8x1024.size inb_S1x8x3072_S1x8x1024_0_0_0
abbrev rB1 : Rect S1x8x3072 := Rect.unit (s := S1x8x3072) ![0, 0, 1024] S1x8x1024.size inb_S1x8x3072_S1x8x1024_0_0_1024
abbrev rB2 : Rect S1x8x3072 := Rect.unit (s := S1x8x3072) ![0, 0, 2048] S1x8x1024.size inb_S1x8x3072_S1x8x1024_0_0_2048
abbrev rC0 : Rect S8x3072 := Rect.unit (s := S8x3072) ![0, 0] S8x1024.size inb_S8x3072_S8x1024_0_0
abbrev rC1 : Rect S8x3072 := Rect.unit (s := S8x3072) ![0, 1024] S8x1024.size inb_S8x3072_S8x1024_0_1024
abbrev rC2 : Rect S8x3072 := Rect.unit (s := S8x3072) ![0, 2048] S8x1024.size inb_S8x3072_S8x1024_0_2048

/-- Whether a point is the first half of its sequence: its number is even, in the words the kernel computes with. -/
def first (i : grid0.Coords) : BitVec 1 :=
  let n : BitVec 32 := Scalar.select (Scalar.cmpi .eq 2#32 0#32) 1#32 2#32
  let r : BitVec 32 := Scalar.remsi (BitVec.ofNat 32 (i 0).val) n
  let neg : BitVec 1 := Scalar.andi (Scalar.xori (Scalar.cmpi .slt r 0#32) (Scalar.cmpi .slt n 0#32)) (Scalar.cmpi .ne r 0#32)
  Scalar.cmpi .eq (Scalar.select neg (Scalar.addi r n) r) 0#32

/-- The query, key and value channels before the convolution. -/
def zq (x0 : Vec F S1024x1024 .f32) (x1 : Vec F S1x1024 .f32) (x2 : Vec F S1024x3072 .bf16) : FVec F S1024x1024 .f32 :=
  k0_pay3 (View.ld x0 rRows) (View.ld x1 rLn) (View.ld x2 rW0)
def zk (x0 : Vec F S1024x1024 .f32) (x1 : Vec F S1x1024 .f32) (x2 : Vec F S1024x3072 .bf16) : FVec F S1024x1024 .f32 :=
  k0_pay4 (View.ld x0 rRows) (View.ld x1 rLn) (View.ld x2 rW1)
def zv (x0 : Vec F S1024x1024 .f32) (x1 : Vec F S1x1024 .f32) (x2 : Vec F S1024x3072 .bf16) : FVec F S1024x1024 .f32 :=
  k0_pay16 (k0_pay2 (View.ld x0 rRows) (View.ld x1 rLn)) (View.ld x2 rW2)

/-- The queries of a half: the convolution of `z` behind the rows `cb` (at a first half) or `cr`, its SiLU, the norm. -/
def queries (b : BitVec 1) (z : FVec F S1024x1024 .f32) (cw : Vec F S4x1024 .f32) (cb : Vec F S1x8x1024 .f32)
    (cr : Vec F S8x1024 .f32) : FVec F S1024x1024 .f32 :=
  k0_pay15 (k0_pay8 cw) (iota .tc S1x8x1 32 [1] iota_S1x8x1_d1_w32) (k0_pay13 z b (k0_pay8 cw) cb cr) (k0_pay14 z b cb cr) 3#32

/-- The keys. -/
def keys (b : BitVec 1) (z : FVec F S1024x1024 .f32) (cw : Vec F S4x1024 .f32) (cb : Vec F S1x8x1024 .f32)
    (cr : Vec F S8x1024 .f32) : FVec F S1024x1024 .f32 :=
  k0_pay31
    (k0_pay25 (k0_pay17 cw) (k0_pay21 z b cb cr) (iota .tc S1x8x1 32 [1] iota_S1x8x1_d1_w32) (k0_pay22 z b cw cb cr) (k0_pay23 z b cb cr) k0_pay24)
    (k0_pay26 (F := F))
    (k0_pay27 (k0_pay17 cw) (k0_pay21 z b cb cr) (iota .tc S1x8x1 32 [1] iota_S1x8x1_d1_w32) (k0_pay22 z b cw cb cr) (k0_pay23 z b cb cr) k0_pay24)
    (k0_pay28 (k0_pay17 cw) (k0_pay21 z b cb cr) (iota .tc S1x8x1 32 [1] iota_S1x8x1_d1_w32) (k0_pay22 z b cw cb cr) (k0_pay23 z b cb cr) k0_pay24)
    (k0_pay29 (k0_pay17 cw) (k0_pay21 z b cb cr) (iota .tc S1x8x1 32 [1] iota_S1x8x1_d1_w32) (k0_pay22 z b cw cb cr) (k0_pay23 z b cb cr) k0_pay24)
    (k0_pay30 (k0_pay17 cw) (k0_pay21 z b cb cr) (iota .tc S1x8x1 32 [1] iota_S1x8x1_d1_w32) (k0_pay22 z b cw cb cr) (k0_pay23 z b cb cr) k0_pay24)

/-- The values. -/
def vals (b : BitVec 1) (z : FVec F S1024x1024 .f32) (cw : Vec F S4x1024 .f32) (cb : Vec F S1x8x1024 .f32)
    (cr : Vec F S8x1024 .f32) : FVec F S1024x1024 .f32 :=
  k0_pay1 (k0_pay32 cw) (k0_pay36 b z cb cr) (iota .tc S1x8x1 32 [1] iota_S1x8x1_d1_w32) (k0_pay37 z cw) (k0_pay38 b z cb cr)

/-- The block of convolved rows a half leaves, when it found the rows `xs` in the scratch. -/
def convOut (b : BitVec 1) (x0 : Vec F S1024x1024 .f32) (x1 : Vec F S1x1024 .f32) (x2 : Vec F S1024x3072 .bf16)
    (x4 : Vec F S4x3072 .f32) (x5 : Vec F S1x8x3072 .f32) (xs : Vec F S8x3072 .f32) : Vec F S1024x3072 .f32 :=
  View.canon [⟨rW2, vals b (zv x0 x1 x2) (View.ld x4 rT2) (View.ld x5 rB2) (View.ld xs rC2)⟩,
    ⟨rW1, keys b (zk x0 x1 x2) (View.ld x4 rT1) (View.ld x5 rB1) (View.ld xs rC1)⟩,
    ⟨rW0, queries b (zq x0 x1 x2) (View.ld x4 rT0) (View.ld x5 rB0) (View.ld xs rC0)⟩]

/-- The block of gates. -/
def gateOut (x0 : Vec F S1024x1024 .f32) (x1 : Vec F S1x1024 .f32) (x3 : Vec F S1024x128 .bf16) (x6 x7 : Vec F S1x128 .f32) :
    Vec F S1024x128 .f32 :=
  View.canon [⟨rGate, k0_pay7 (k0_pay5 (View.ld x0 rRows) (View.ld x1 rLn) (View.ld x3 rGate)) (iota .tc S1024x128 32 [1] iota_S1024x128_d1_w32)
    (k0_pay6 (View.ld x0 rRows) (View.ld x1 rLn) (View.ld x3 rGate) (View.ld x7 rLane)) (View.ld x6 rLane)⟩]

/-- The block of last rows. -/
def stateOut (x0 : Vec F S1024x1024 .f32) (x1 : Vec F S1x1024 .f32) (x2 : Vec F S1024x3072 .bf16) : Vec F S1x8x3072 .f32 :=
  View.canon [⟨rB2, k0_pay35 (zv x0 x1 x2)⟩, ⟨rB1, k0_pay20 (zk x0 x1 x2)⟩, ⟨rB0, k0_pay11 (zq x0 x1 x2)⟩]

/-- The same rows as the scratch keeps them. -/
def tailOut (x0 : Vec F S1024x1024 .f32) (x1 : Vec F S1x1024 .f32) (x2 : Vec F S1024x3072 .bf16) : Vec F S8x3072 .f32 :=
  View.canon [⟨rC2, k0_pay34 (zv x0 x1 x2)⟩, ⟨rC1, k0_pay19 (zk x0 x1 x2)⟩, ⟨rC0, k0_pay10 (zq x0 x1 x2)⟩]

/-- At a first half the rows found in the scratch are not used. -/
theorem convOut_first (x0 : Vec F S1024x1024 .f32) (x1 : Vec F S1x1024 .f32) (x2 : Vec F S1024x3072 .bf16)
    (x4 : Vec F S4x3072 .f32) (x5 : Vec F S1x8x3072 .f32) (xs xs' : Vec F S8x3072 .f32) :
    convOut 1#1 x0 x1 x2 x4 x5 xs = convOut 1#1 x0 x1 x2 x4 x5 xs' := by
  have hq : ∀ z cw cb (cr cr' : Vec F S8x1024 .f32), queries 1#1 z cw cb cr = queries 1#1 z cw cb cr' := fun _ _ _ _ _ => rfl
  have hk : ∀ z cw cb (cr cr' : Vec F S8x1024 .f32), keys 1#1 z cw cb cr = keys 1#1 z cw cb cr' := fun _ _ _ _ _ => rfl
  have hv : ∀ z cw cb (cr cr' : Vec F S8x1024 .f32), vals 1#1 z cw cb cr = vals 1#1 z cw cb cr' := fun _ _ _ _ _ => rfl
  unfold convOut
  rw [hq _ _ _ _ (View.ld xs' rC0), hk _ _ _ _ (View.ld xs' rC1), hv _ _ _ _ (View.ld xs' rC2)]

/-! ## The stores cover -/

theorem cover_conv (p0 p1 p2 : Vec F S1024x1024 .f32) (y : S1024x3072.Idx) :
    ∃ pc ∈ ([⟨rW2, p2⟩, ⟨rW1, p1⟩, ⟨rW0, p0⟩] : List (View.Piece (Elt F) S1024x3072 .f32)), y ∈ pc.1.set :=
  View.cover_of_tiledL [⟨rW2, p2⟩, ⟨rW1, p1⟩, ⟨rW0, p0⟩] S1024x1024.size (by sl_kernel_rfl) y

theorem cover_gate (p0 : Vec F S1024x128 .f32) (y : S1024x128.Idx) :
    ∃ pc ∈ ([⟨rGate, p0⟩] : List (View.Piece (Elt F) S1024x128 .f32)), y ∈ pc.1.set :=
  View.cover_of_tiledL [⟨rGate, p0⟩] S1024x128.size (by sl_kernel_rfl) y

theorem cover_state (p0 p1 p2 : Vec F S1x8x1024 .f32) (y : S1x8x3072.Idx) :
    ∃ pc ∈ ([⟨rB2, p2⟩, ⟨rB1, p1⟩, ⟨rB0, p0⟩] : List (View.Piece (Elt F) S1x8x3072 .f32)), y ∈ pc.1.set :=
  View.cover_of_tiledL [⟨rB2, p2⟩, ⟨rB1, p1⟩, ⟨rB0, p0⟩] S1x8x1024.size (by sl_kernel_rfl) y

theorem cover_tail (p0 p1 p2 : Vec F S8x1024 .f32) (y : S8x3072.Idx) :
    ∃ pc ∈ ([⟨rC2, p2⟩, ⟨rC1, p1⟩, ⟨rC0, p0⟩] : List (View.Piece (Elt F) S8x3072 .f32)), y ∈ pc.1.set :=
  View.cover_of_tiledL [⟨rC2, p2⟩, ⟨rC1, p1⟩, ⟨rC0, p0⟩] S8x1024.size (by sl_kernel_rfl) y

/-! ## The body -/

set_option maxHeartbeats 2000000 in
/-- The body, called with the inputs' blocks, anything in the outputs and the rows `xs` in the scratch, leaves the values
above. -/
theorem body_run (c : Dev nD) (E : Set ℕ) (i : grid0.Coords) (arg1 : Memref sig .tc .vmem S1024x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1024x128 .bf16) (harg4 : arg4.IsWhole) (arg5 : Memref sig .tc .vmem S4x3072 .f32) (harg5 : arg5.IsWhole) (arg6 : Memref sig .tc .vmem S1x8x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1024x3072 .f32) (harg9 : arg9.IsWhole) (arg10 : Memref sig .tc .vmem S1024x128 .f32) (harg10 : arg10.IsWhole) (arg11 : Memref sig .tc .vmem S1x8x3072 .f32) (harg11 : arg11.IsWhole) (arg12 : Memref sig .tc .vmem S8x3072 .f32) (harg12 : arg12.IsWhole)
    (x0 : Vec F S1024x1024 .f32) (x1 : Vec F S1x1024 .f32) (x2 : Vec F S1024x3072 .bf16) (x3 : Vec F S1024x128 .bf16) (x4 : Vec F S4x3072 .f32) (x5 : Vec F S1x8x3072 .f32) (x6 : Vec F S1x128 .f32) (x7 : Vec F S1x128 .f32) (xs : Vec F S8x3072 .f32) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (convOut (first i) x0 x1 x2 x4 x5 xs) ∗ owns (c : Thread nD τ) arg10 fullShare (gateOut x0 x1 x3 x6 x7) ∗ owns (c : Thread nD τ) arg11 fullShare (stateOut x0 x1 x2) ∗ owns (c : Thread nD τ) arg12 fullShare (tailOut x0 x1 x2)) -∗ K ⟨⟩))
      ⊢ wp frame (wpE (defs₀ (F := F)) Variants.none c none) E (cc0_inproj_delta i arg1 harg1 arg2 harg2 arg3 harg3 arg4 harg4 arg5 harg5 arg6 harg6 arg7 harg7 arg8 harg8 arg9 harg9 arg10 harg10 arg11 harg11 arg12 harg12) K := by
  simp only [cc0_inproj_delta_eq_skeleton]; unfold cc0_inproj_delta_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs, %hfs, HS⟩, Hk⟩
  subst hf0 hf1 hf2 hf3 hf4 hf5 hf6 hf7 hfs
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ (cover_conv _ _ _)).trans ?_
    rfl
  isplitl [H9]
  · iexists _; isplitr
    swap; · iexact H9
    ipureintro
    refine (View.read_writes_eq_canon _ _ _ (cover_gate _)).trans ?_
    rfl
  isplitl [H10]
  · iexists _; isplitr
    swap; · iexact H10
    ipureintro
    refine (View.read_writes_eq_canon _ _ _ (cover_state _ _ _)).trans ?_
    rfl
  iexists _; isplitr
  swap; · iexact HS
  ipureintro
  refine (View.read_writes_eq_canon _ _ _ (cover_tail _ _ _)).trans ?_
  rfl

/-! ## Point by point -/

variable (m : (ℓ : Loc nD τ sig) → Buf (Elt F) ℓ) (ρ : Dev nD → PrngReg)

/-- The scratch. -/
abbrev scratch : Memref sig .tc .vmem S8x3072 .f32 := Memref.whole cc0_scratch0

theorem phiA_eq (c : Dev nD) :
    (Pipeline.ΦA spec0 c : sProp (MT nD τ sig Unit (Elt F) ℕ (UR sig nD τ) ℕ)) = iprop(iprop((∃ d, owns (c : Thread nD τ) scratch fullShare d)) ∗ (∃ r, prngReg c r)) := by
  unfold Pipeline.ΦA; rw [scopedRest0_eq]; simp only [scratch, owns_whole]; try rfl

/-- What point `t` leaves in the scratch. -/
def left (c : Dev nD) (t : Fin cfg0.N) : Vec F S8x3072 .f32 := tailOut (iblk m c 0 t) (iblk m c 1 t) (iblk m c 2 t)

/-- The point before (the first has none: itself). -/
def before (t : Fin cfg0.N) : Fin cfg0.N := ⟨t.val - 1, lt_of_le_of_lt (Nat.sub_le _ _) t.isLt⟩

/-- The rows found in the scratch at point `t`. -/
def found (c : Dev nD) (t : Fin cfg0.N) : Vec F S8x3072 .f32 := left m c (before t)

/-- The scratch before position `n`: anything at first, then what the point before left. -/
def phi (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scratch fullShare (left m c ⟨n, hn⟩)) ∗ (∃ r, prngReg c r))

theorem phi_zero (c : Dev nD) (n : ℕ) (h : n ≤ cfg0.N) (hz : n = 0) : phi m c n h = Pipeline.ΦA spec0 c := by
  subst hz; rfl

theorem phi_pos (c : Dev nD) (n : ℕ) (h : n ≤ cfg0.N) (hz : n ≠ 0) :
    phi m c n h = iprop(iprop(owns (c : Thread nD τ) scratch fullShare (left m c ⟨n - 1, by omega⟩)) ∗ (∃ r, prngReg c r)) := by
  cases n with
  | zero => exact absurd rfl hz
  | succ n => rfl

/-- The arrays as the region finds them, and what the body leaves in each window's buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => convOut (first (grid0.coords t)) (iblk m c 0 t) (iblk m c 1 t) (iblk m c 2 t) (iblk m c 4 t) (iblk m c 5 t) (found m c t)
    | ⟨9, _⟩ => gateOut (iblk m c 0 t) (iblk m c 1 t) (iblk m c 3 t) (iblk m c 6 t) (iblk m c 7 t)
    | ⟨10, _⟩ => stateOut (iblk m c 0 t) (iblk m c 1 t) (iblk m c 2 t)
  Φ t := phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem phi_castSucc (c : Dev nD) (t : Fin cfg0.N) :
    (dats m 0 c).Φ t.castSucc = phi m c t.val (Nat.le_of_lt t.isLt) := by
  dsimp only [dats]; exact Pipeline.Dat.Φ_castSucc (phi m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t
    = convOut (first (grid0.coords t)) (iblk m c 0 t) (iblk m c 1 t) (iblk m c 2 t) (iblk m c 4 t) (iblk m c 5 t) (found m c t) := by
  dsimp only [dats]
theorem after9 (c : Dev nD) (t : Fin cfg0.N) : (dats m 0 c).after 9 t
    = gateOut (iblk m c 0 t) (iblk m c 1 t) (iblk m c 3 t) (iblk m c 6 t) (iblk m c 7 t) := by dsimp only [dats]
theorem after10 (c : Dev nD) (t : Fin cfg0.N) : (dats m 0 c).after 10 t
    = stateOut (iblk m c 0 t) (iblk m c 1 t) (iblk m c 2 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-- Point 0 is a first half. -/
theorem first_zero (t : Fin cfg0.N) (hz : t.val = 0) : first (grid0.coords t) = 1#1 :=
  (by decide +kernel : ∀ t : Fin grid0.N, t.val = 0 → first (grid0.coords t) = 1#1) t hz

/-- What the body is called with at point `t`. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 4000000 in
/-- The body at any point. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl,
    after0, after1, after2, after3, after4, after5, after6, after7, after8, after9, after10]
  rw [show (dats m 0 c).Φ t.succ = iprop(iprop(owns (c : Thread nD τ) scratch fullShare (left m c t)) ∗ (∃ r, prngReg c r)) from rfl]
  by_cases hz : t.val = 0
  · rw [phi_castSucc m c t, phi_zero m c _ _ hz, phiA_eq]
    rw [first_zero t hz]
    iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    rw [convOut_first _ _ _ _ _ (found m c t) ds, ← first_zero t hz]
    iapply (body_run c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS]; · iexact HS
    iintro ⟨H0, H1, H2, H3, H4, H5, H6, H7, H8, H9, H10, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [phi_castSucc m c t, phi_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body_run c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS]; · iexact HS
    iintro ⟨H0, H1, H2, H3, H4, H5, H6, H7, H8, H9, H10, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem body_row (t : Fin cfg0.N) :
    defs₀ (F := F) .tc cfg0.body (cfg0.bodyArgs t (cfg0.slots t)) = bodyAt0 t := by
  unfold defs₀; rw [Defs.onTc_tc]

/-- The obligation of the launch, at every point. -/
theorem obligation (c : Dev nD) : BodyObligation (dats (F := F) m 0 c) (defs₀ (F := F)) Variants.none () Set.univ := fun t => by
  rw [bigSep_W0, bigSep_W0, body_row]
  exact triple_restated (body_at m c t) rfl .rfl fun _ => .rfl

theorem phi_in (c : Dev nD) : Pipeline.ΦA spec0 c ⊢ (dats m 0 c).Φ 0 := by
  rw [show (dats m 0 c).Φ 0 = phi m c 0 (Nat.zero_le _) from rfl, phi_zero m c 0 _ rfl]

theorem phi_out (c : Dev nD) : (dats m 0 c).Φ (Fin.last cfg0.N) ⊢ Pipeline.ΦA spec0 c := by
  rw [show (dats m 0 c).Φ (Fin.last cfg0.N) = phi m c cfg0.N (le_refl _) from rfl,
    phi_pos m c _ _ (by have : cfg0.N = 32 := N_0; omega), phiA_eq]
  iintro ⟨HS, Hg⟩
  isplitl [HS]
  · iexists _; iexact HS
  iexact Hg

set_option backward.isDefEq.respectTransparency.types false in
/-- Every execution ends, with the arrays at what the points write back and the counters at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := phi_in m) (hout := phi_out m)

/-- The same without the counters. -/
theorem run : θ_run defs (onTc (τ := τ) (main (F := F))) (s₀ m ρ) (Pipeline.FramePost cfgs (dats m) 0 (V m)) :=
  (θ_run defs _ _).mono (fun _ h => h.1) (run_quiet m ρ)

/-- The frame: every execution ends and leaves the arguments and the counters. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run m ρ)) ((θ_run defs _ _).mono (fun _ h => h.2) (run_quiet m ρ))

end Cert.ConvIdeal.Carry

end
-- ==== Proof.ConvMath.lean ====
module

public import proofs.«01_k».proof.Proof.Project

@[expose] public section

set_option maxRecDepth 16384

noncomputable section

/-! The short convolution of the delta layer, the norm of its heads and its gates, as mathematics: once as the problem
states them and once as the kernel computes them, and why the two agree at reals. -/

namespace Cert.Proofs.Layer

open Idealize.ShloMosaic Cert.Proofs.RealMath

/-- Lane `d` of head `g`, of eight heads of 128. -/
abbrev chan (g : Fin 8) (d : Fin 128) : Fin 1024 := ⟨128 * g.val + d.val, by omega⟩

/-- Every lane is one of a head. -/
theorem exists_chan (c : Fin 1024) : ∃ (g : Fin 8) (d : Fin 128), c = chan g d :=
  ⟨⟨c.val / 128, by omega⟩, ⟨c.val % 128, by omega⟩, Fin.ext (by show c.val = 128 * (c.val / 128) + c.val % 128; omega)⟩

/-- The channel `s` steps before place `l`: one of the three buffered rows `b` before the sequence's begin, of `z` after. -/
def ago (z : Fin 2048 → EReal) (b : Fin 3 → EReal) (l : Fin 2048) (s : ℕ) : EReal :=
  if h : l.val < s then b ⟨3 + l.val - s, by omega⟩ else z ⟨l.val - s, by omega⟩

/-- Four taps, the oldest first. -/
def taps (p : ℕ → EReal) (w : Fin 4 → EReal) : EReal := p 3 * w 0 + p 2 * w 1 + p 1 * w 2 + p 0 * w 3

/-- Half of four taps, the newest first. -/
def tapsH (p : ℕ → EReal) (w : Fin 4 → EReal) : EReal :=
  p 0 * (w 3 * Ideal.ofBits .f32 0x3F000000#32) + p 1 * (w 2 * Ideal.ofBits .f32 0x3F000000#32)
    + p 2 * (w 1 * Ideal.ofBits .f32 0x3F000000#32) + p 3 * (w 0 * Ideal.ofBits .f32 0x3F000000#32)

/-- The activated taps, as the problem has them. -/
def act (p : ℕ → EReal) (w : Fin 4 → EReal) : EReal := silu (taps p w)

/-- The activated taps through half of them and the hyperbolic tangent. -/
def actH (p : ℕ → EReal) (w : Fin 4 → EReal) : EReal := tapsH p w * Ideal.tanh (tapsH p w) + tapsH p w

/-- Finite taps are finite, and half of them is half of them. -/
theorem taps_real (p : ℕ → EReal) (w : Fin 4 → EReal) (hp : ∀ s, ∃ r : ℝ, p s = (r : EReal)) (hw : ∀ j, ∃ r : ℝ, w j = (r : EReal)) :
    ∃ r : ℝ, taps p w = (r : EReal) ∧ tapsH p w = Ideal.ofBits .f32 0x3F000000#32 * (r : EReal) := by
  choose P hP using hp
  choose W hW using hw
  refine ⟨P 3 * W 0 + P 2 * W 1 + P 1 * W 2 + P 0 * W 3, ?_, ?_⟩
  · unfold taps
    simp only [hP, hW, ← EReal.coe_mul, ← EReal.coe_add]
  · unfold tapsH
    simp only [hP, hW, ofBits_half, ← EReal.coe_mul, ← EReal.coe_add]
    congr 1
    ring

/-- The two activations agree at reals. -/
theorem actH_eq (p : ℕ → EReal) (w : Fin 4 → EReal) (hp : ∀ s, ∃ r : ℝ, p s = (r : EReal)) (hw : ∀ j, ∃ r : ℝ, w j = (r : EReal)) :
    actH p w = act p w := by
  obtain ⟨r, h, hh⟩ := taps_real p w hp hw
  unfold actH act
  rw [h, hh, ← siluT_coe]
  rfl

/-- Activated finite taps are finite. -/
theorem act_real (p : ℕ → EReal) (w : Fin 4 → EReal) (hp : ∀ s, ∃ r : ℝ, p s = (r : EReal)) (hw : ∀ j, ∃ r : ℝ, w j = (r : EReal)) :
    ∃ r : ℝ, act p w = (r : EReal) := by
  obtain ⟨r, h, -⟩ := taps_real p w hp hw
  refine ⟨r * (1 / (1 + Real.exp (-r))), ?_⟩
  unfold act silu
  rw [h, sig_coe, ← EReal.coe_mul]

/-- A head over its length. -/
def unit (y : Fin 1024 → EReal) (g : Fin 8) (d : Fin 128) : EReal :=
  y (chan g d) * Ideal.rsqrt ((∑ x : Fin 128, y (chan g x) * y (chan g x)) + Ideal.ofBits .f32 0x358637BD#32)

/-- The queries' heads: over their length, with the scale of the scores. -/
def unitQ (y : Fin 1024 → EReal) (g : Fin 8) (d : Fin 128) : EReal :=
  unit y g d * Ideal.rsqrt (Ideal.ofBits .f32 0x43000000#32)

/-- A head with every square weighted by `W` and the small number `e`. -/
def unitW (W e : EReal) (y : Fin 1024 → EReal) (g : Fin 8) (d : Fin 128) : EReal :=
  y (chan g d) * Ideal.rsqrt ((∑ x : Fin 128, y (chan g x) * y (chan g x) * W) + e)

theorem ofBits_128 : Ideal.ofBits .f32 0x43000000#32 = ((128 : ℝ) : EReal) := by
  simp [Ideal.ofBits, Ideal.ieee]
  rw [← EReal.coe_mul]
  norm_num

/-- The norm's small number, and 128 times it. -/
theorem ofBits_eps128 : ∃ e : ℝ, 0 < e ∧ Ideal.ofBits .f32 0x358637BD#32 = (e : EReal)
    ∧ Ideal.ofBits .f32 0x390637BD#32 = ((128 * e : ℝ) : EReal) := by
  simp [Ideal.ofBits, Ideal.ieee]
  refine ⟨_, ?_, (EReal.coe_mul _ _).symm, ?_⟩
  · norm_num
  · rw [← EReal.coe_mul]
    refine congrArg _ ?_
    norm_num

/-- With weights of one it is the head over its length. -/
theorem unitW_one (y : Fin 1024 → EReal) :
    unitW (Ideal.ofBits .f32 0x3F800000#32) (Ideal.ofBits .f32 0x358637BD#32) y = unit y := by
  funext g d
  unfold unitW unit
  simp only [ofBits_one, mul_one]

/-- With weights of 128 and 128 times the small number it is the scaled head, at reals. -/
theorem unitW_128 (y : Fin 1024 → EReal) (hy : ∀ c, ∃ r : ℝ, y c = (r : EReal)) :
    unitW (Ideal.ofBits .f32 0x43000000#32) (Ideal.ofBits .f32 0x390637BD#32) y = unitQ y := by
  funext g d
  choose Y hY using hy
  obtain ⟨e, he, e1, e2⟩ := ofBits_eps128
  unfold unitW unitQ unit
  simp only [hY, e1, e2, ofBits_128, ← EReal.coe_mul, coe_sum, ← EReal.coe_add]
  have hs : (∑ x : Fin 128, Y (chan g x) * Y (chan g x) * 128) + 128 * e = (∑ x : Fin 128, Y (chan g x) * Y (chan g x) + e) * 128 := by
    rw [← Finset.sum_mul]; ring
  have hp : 0 < ∑ x : Fin 128, Y (chan g x) * Y (chan g x) + e :=
    add_pos_of_nonneg_of_pos (Finset.sum_nonneg fun k _ => mul_self_nonneg _) he
  rw [hs]
  generalize ∑ x : Fin 128, Y (chan g x) * Y (chan g x) + e = S at hp ⊢
  have hq : 0 < S * 128 := by positivity
  have h8 : (0 : ℝ) < 128 := by norm_num
  rw [Ideal.rsqrt_coe, Ideal.rsqrt_coe, Ideal.rsqrt_coe, if_neg (not_lt.2 hp.le), if_neg hp.ne', if_neg (not_lt.2 hq.le), if_neg hq.ne',
    if_neg (not_lt.2 h8.le), if_neg h8.ne', ← EReal.coe_mul, ← EReal.coe_mul, ← EReal.coe_mul, Real.sqrt_mul hp.le, mul_inv, mul_assoc]

/-- A channel of the projected rows that the convolution takes. -/
def fed (x : Fin 2048 → Fin 1024 → EReal) (w : Fin 1024 → EReal) (Z : Fin 1024 → Fin 9232 → EReal) (f : Fin 3072)
    (l : Fin 2048) : EReal :=
  proj (x l) w Z ⟨3072 + f.val, by omega⟩

/-- Channel `f` at place `l` after convolution and activation `a`. -/
def mixed (a : (ℕ → EReal) → (Fin 4 → EReal) → EReal) (x : Fin 2048 → Fin 1024 → EReal) (w : Fin 1024 → EReal)
    (Z : Fin 1024 → Fin 9232 → EReal) (B : Fin 3 → Fin 3072 → EReal) (K : Fin 4 → Fin 3072 → EReal) (f : Fin 3072)
    (l : Fin 2048) : EReal :=
  a (ago (fed x w Z f) (fun j => B j f) l) (fun j => K j f)

/-- The heads' rows: queries, keys and values, by their norms. -/
def heads (a : (ℕ → EReal) → (Fin 4 → EReal) → EReal) (nq nk : (Fin 1024 → EReal) → Fin 8 → Fin 128 → EReal)
    (x : Fin 2048 → Fin 1024 → EReal) (w : Fin 1024 → EReal) (Z : Fin 1024 → Fin 9232 → EReal) (B : Fin 3 → Fin 3072 → EReal)
    (K : Fin 4 → Fin 3072 → EReal) (l : Fin 2048) (o : Fin 3) (g : Fin 8) (d : Fin 128) : EReal :=
  match o with
  | ⟨0, _⟩ => nq (fun c => mixed a x w Z B K ⟨c.val, by omega⟩ l) g d
  | ⟨1, _⟩ => nk (fun c => mixed a x w Z B K ⟨1024 + c.val, by omega⟩ l) g d
  | ⟨2, _⟩ => mixed a x w Z B K ⟨2048 + (128 * g.val + d.val), by omega⟩ l

/-- On finite arguments the kernel's heads are the problem's. -/
theorem heads_eq (x : Fin 2048 → Fin 1024 → EReal) (w : Fin 1024 → EReal) (Z : Fin 1024 → Fin 9232 → EReal) (B : Fin 3 → Fin 3072 → EReal)
    (K : Fin 4 → Fin 3072 → EReal) (l : Fin 2048) (o : Fin 3) (g : Fin 8) (d : Fin 128)
    (hx : ∀ l k, ∃ r : ℝ, x l k = (r : EReal)) (hw : ∀ k, ∃ r : ℝ, w k = (r : EReal)) (hZ : ∀ k f, ∃ r : ℝ, Z k f = (r : EReal))
    (hB : ∀ j f, ∃ r : ℝ, B j f = (r : EReal)) (hK : ∀ j f, ∃ r : ℝ, K j f = (r : EReal)) :
    heads actH (unitW (Ideal.ofBits .f32 0x43000000#32) (Ideal.ofBits .f32 0x390637BD#32))
        (unitW (Ideal.ofBits .f32 0x3F800000#32) (Ideal.ofBits .f32 0x358637BD#32)) x w Z B K l o g d
      = heads act unitQ unit x w Z B K l o g d := by
  have hp (f : Fin 3072) (s : ℕ) : ∃ r : ℝ, ago (fed x w Z f) (fun j => B j f) l s = (r : EReal) := by
    unfold ago
    split
    · exact hB _ _
    · exact dot_real _ _ (rms_real _ w (hx _) hw) fun k => hZ k _
  have ha (f : Fin 3072) : mixed actH x w Z B K f l = mixed act x w Z B K f l := actH_eq _ _ (hp f) fun j => hK j f
  have hr (f : Fin 3072) : ∃ r : ℝ, mixed act x w Z B K f l = (r : EReal) := act_real _ _ (hp f) fun j => hK j f
  unfold heads
  simp only [ha, unitW_one]
  rw [unitW_128 _ fun c => hr _]

/-- The smooth maximum with zero. -/
def softplus (a : EReal) : EReal := max a 0 + Ideal.log1p (Ideal.exp (-(max a (-a))))

/-- The gates of a row: the logistic function `s` of the first eight lanes, the decays in the next eight, zeros. -/
def gates (s : EReal → EReal) (x w : Fin 1024 → EReal) (Z : Fin 1024 → Fin 9232 → EReal) (al dt : Fin 8 → EReal)
    (c : Fin 128) : EReal :=
  if h : c.val < 8 then s (proj x w Z ⟨7168 + c.val, by omega⟩)
  else if h' : c.val < 16 then
    -Ideal.exp (al ⟨c.val - 8, by omega⟩) * softplus (proj x w Z ⟨7168 + c.val, by omega⟩ + dt ⟨c.val - 8, by omega⟩)
  else 0

/-- On finite rows and weights it does not matter how the logistic function is computed. -/
theorem gates_eq (x w : Fin 1024 → EReal) (Z : Fin 1024 → Fin 9232 → EReal) (al dt : Fin 8 → EReal) (c : Fin 128)
    (hx : ∀ k, ∃ r : ℝ, x k = (r : EReal)) (hw : ∀ k, ∃ r : ℝ, w k = (r : EReal)) (hZ : ∀ k f, ∃ r : ℝ, Z k f = (r : EReal)) :
    gates sigT x w Z al dt c = gates sig x w Z al dt c := by
  unfold gates
  rw [show (fun (_ : c.val < 8) => sigT (proj x w Z ⟨7168 + c.val, by omega⟩)) = fun _ => sig (proj x w Z ⟨7168 + c.val, by omega⟩) from
    funext fun _ => sigT_eq _ (dot_real _ _ (rms_real x w hx hw) fun k => hZ k _)]

/-- The small shifts of the head numbers. -/
theorem shift_seven (k : Fin 256) :
    IntOp.shrsi .vector (BitVec.ofNat 32 k.val) 7#32 = BitVec.ofNat 32 (k.val / 128) := by
  revert k
  decide +kernel

/-- Two lanes' head numbers compared. -/
theorem same_head (k e : Fin 256) :
    IntOp.cmpi .eq (IntOp.shrsi .vector (BitVec.ofNat 32 k.val) 7#32) (IntOp.shrsi .vector (BitVec.ofNat 32 e.val) 7#32)
      = if k.val / 128 = e.val / 128 then 1#1 else 0#1 := by
  rw [shift_seven, shift_seven]
  have h : ∀ a b : Fin 2, IntOp.cmpi .eq (BitVec.ofNat 32 a.val) (BitVec.ofNat 32 b.val) = if a.val = b.val then 1#1 else 0#1 := by
    decide +kernel
  exact h ⟨k.val / 128, by omega⟩ ⟨e.val / 128, by omega⟩

/-- A sum over the lanes of a slice, weighted by `W` where they share a lane's head, is over the head's lanes. -/
theorem head_sum (z : Fin 256 → EReal) (W : EReal) (j : Fin 2) (d : Fin 128) :
    ∑ k : Fin 256, z k * (if k.val / 128 = (128 * j.val + d.val) / 128 then W else 0)
      = ∑ x : Fin 128, z ⟨128 * j.val + x.val, by omega⟩ * W := by
  rw [← (finProdFinEquiv (m := 2) (n := 128)).sum_comp, Fintype.sum_prod_type, Finset.sum_eq_single j]
  · refine Finset.sum_congr rfl fun x _ => ?_
    have hv : (finProdFinEquiv (m := 2) (n := 128) (j, x)).val = x.val + 128 * j.val := rfl
    rw [if_pos (by rw [hv]; omega)]
    exact congrArg (fun k => z k * W) (Fin.ext (by rw [hv]; exact Nat.add_comm _ _))
  · intro b _ hb
    refine Finset.sum_eq_zero fun x _ => ?_
    have hv : (finProdFinEquiv (m := 2) (n := 128) (b, x)).val = x.val + 128 * b.val := rfl
    rw [if_neg (by rw [hv]; intro h; exact hb (Fin.ext (by omega))), mul_zero]
  · intro h
    exact absurd (Finset.mem_univ j) h

end Cert.Proofs.Layer
-- ==== Proof.ConvPay.lean ====
module

public import proofs.«01_k».proof.Proof.ConvMath
public import proofs.«01_k».proof.Proof.ConvIdealRun
public import Idealize.ShloMosaic.Lib.Pipeline.ValueKit

@[expose] public section

set_option maxRecDepth 16384

noncomputable section

namespace Cert.Proofs.Conv

open Cert.ConvIdeal Cert.ConvIdeal.Gen Cert.ConvIdeal.Carry Idealize.ShloMosaic Idealize.ShloMosaic.TcCoe Idealize.SL.Sem
open Cert.Proofs.Layer

section
variable (v0 : Vec Ideal S1024x1024 .f32) (v2 : Vec Ideal S1x1024 .f32)

/-- The block's rows, normed. -/
theorem pay2_apply (r : Fin 1024) (d : Fin 1024) :
    k0_pay2 v0 v2 (ix2 r d) = rms (fun k => v0 (ix2 r k)) (fun k => v2 (ix2 0 k)) d := by
  unfold k0_pay2 rms
  pointwise

/-- The normed rows' product with the queries' columns. -/
theorem pay3_apply (w : Vec Ideal S1024x1024 .bf16) (r f : Fin 1024) :
    k0_pay3 v0 v2 w (ix2 r f) = ∑ k : Fin 1024, rms (fun k => v0 (ix2 r k)) (fun k => v2 (ix2 0 k)) k * w (ix2 k f) := by
  simp only [← pay2_apply]
  unfold k0_pay3
  generalize k0_pay2 v0 v2 = h
  pointwise

/-- The normed rows' product with the keys' columns. -/
theorem pay4_apply (w : Vec Ideal S1024x1024 .bf16) (r f : Fin 1024) :
    k0_pay4 v0 v2 w (ix2 r f) = ∑ k : Fin 1024, rms (fun k => v0 (ix2 r k)) (fun k => v2 (ix2 0 k)) k * w (ix2 k f) := by
  simp only [← pay2_apply]
  unfold k0_pay4
  generalize k0_pay2 v0 v2 = h
  pointwise

/-- The normed rows' product with the values' columns. -/
theorem pay16_apply (w : Vec Ideal S1024x1024 .bf16) (r f : Fin 1024) :
    k0_pay16 (k0_pay2 v0 v2) w (ix2 r f) = ∑ k : Fin 1024, rms (fun k => v0 (ix2 r k)) (fun k => v2 (ix2 0 k)) k * w (ix2 k f) := by
  simp only [← pay2_apply]
  unfold k0_pay16
  generalize k0_pay2 v0 v2 = h
  pointwise

/-- The normed rows' product with the gates' columns. -/
theorem pay5_apply (w : Vec Ideal S1024x128 .bf16) (r : Fin 1024) (f : Fin 128) :
    k0_pay5 v0 v2 w (ix2 r f) = ∑ k : Fin 1024, rms (fun k => v0 (ix2 r k)) (fun k => v2 (ix2 0 k)) k * w (ix2 k f) := by
  simp only [← pay2_apply]
  unfold k0_pay5
  generalize k0_pay2 v0 v2 = h
  pointwise

/-- The smooth maximum of the shifted gates. -/
theorem pay6_apply (w : Vec Ideal S1024x128 .bf16) (b : Vec Ideal S1x128 .f32) (r : Fin 1024) (f : Fin 128) :
    k0_pay6 v0 v2 w b (ix2 r f) = softplus (k0_pay5 v0 v2 w (ix2 r f) + b (ix2 0 f)) := by
  unfold k0_pay6 softplus
  generalize k0_pay5 v0 v2 w = h
  pointwise
  rw [zero_sub]
  rfl
end

/-- The gates' block: three groups of lanes. -/
theorem pay7_apply (z p : FVec Ideal S1024x128 .f32) (a : Vec Ideal S1x128 .f32) (r : Fin 1024) (f : Fin 128) :
    k0_pay7 z (iota .tc S1024x128 32 [1] iota_S1024x128_d1_w32) p a (ix2 r f)
      = if f.val < 8 then sigT (z (ix2 r f)) else if f.val < 16 then -Ideal.exp (a (ix2 0 f)) * p (ix2 r f) else 0 := by
  have h8 : ∀ f : Fin 128, IntOp.cmpi .slt (BitVec.ofNat 32 f.val) 8#32 = if f.val < 8 then 1#1 else 0#1 := by decide +kernel
  have h16 : ∀ f : Fin 128, IntOp.cmpi .slt (BitVec.ofNat 32 f.val) 16#32 = if f.val < 16 then 1#1 else 0#1 := by decide +kernel
  unfold k0_pay7 sigT
  pointwise
  rw [h8 f, h16 f, zero_sub]
  by_cases a8 : f.val < 8
  · rw [if_pos a8, if_pos a8]; rfl
  · rw [if_neg a8, if_neg a8]
    by_cases a16 : f.val < 16
    · rw [if_pos a16, if_pos a16]; rfl
    · rw [if_neg a16, if_neg a16]; rfl

/-- The small comparisons of places in a group of eight. -/
theorem slt_small (s : Fin 4) (j : Fin 8) :
    IntOp.cmpi .slt (BitVec.ofNat 32 j.val) (BitVec.ofNat 32 s.val) = if j.val < s.val then 1#1 else 0#1 := by
  revert s j
  decide +kernel

/-- A group of eight rows and the next, rotated by `s` and joined: the rows `s` steps before. -/
def shifted (y : FVec Ideal S129x8x1024 .f32) (s : ℕ) (r e : Fin 1024) : EReal :=
  Scalar.select (IntOp.cmpi .slt (BitVec.ofNat 32 (r.val % 8)) (BitVec.ofNat 32 s))
    (y (ix3 ⟨r.val / 8, by omega⟩ ⟨(r.val % 8 + 8 - s) % 8, by omega⟩ e))
    (y (ix3 ⟨1 + r.val / 8, by omega⟩ ⟨(r.val % 8 + 8 - s) % 8, by omega⟩ e))

/-- The row `s` steps before row `r` of a block `z`, whose first rows come after the eight rows `cb` or `cr`. -/
def back (z : FVec Ideal S1024x1024 .f32) (b : BitVec 1) (cb : Vec Ideal S1x8x1024 .f32) (cr : Vec Ideal S8x1024 .f32)
    (r e : Fin 1024) (s : ℕ) : EReal :=
  if h : r.val < s then
    Scalar.select b (cb (ix3 0 ⟨(8 + r.val - s) % 8, by omega⟩ e)) (cr (ix2 ⟨(8 + r.val - s) % 8, by omega⟩ e))
  else z (ix2 ⟨r.val - s, by omega⟩ e)

section
variable (z : FVec Ideal S1024x1024 .f32) (b : BitVec 1) (cb : Vec Ideal S1x8x1024 .f32) (cr : Vec Ideal S8x1024 .f32)

/-- The shift of the block behind its eight rows. -/
theorem shifted_eq (y : FVec Ideal S129x8x1024 .f32)
    (hy : ∀ (q : Fin 129) (j : Fin 8) (e : Fin 1024), y (ix3 q j e) = if h : q.val * 8 + j.val < 8 then
      Scalar.select b (cb (ix3 0 ⟨q.val * 8 + j.val, h⟩ e)) (cr (ix2 ⟨q.val * 8 + j.val, h⟩ e))
      else z (ix2 ⟨q.val * 8 + j.val - 8, by omega⟩ e))
    (s : Fin 4) (r e : Fin 1024) : shifted y s.val r e = back z b cb cr r e s.val := by
  have hs := s.isLt
  have hr : r.val % 8 < 8 := Nat.mod_lt _ (by decide)
  have hc := slt_small s ⟨r.val % 8, hr⟩
  unfold shifted back
  rw [hc]
  by_cases a : r.val % 8 < s.val
  · rw [if_pos a]
    refine (hy _ _ _).trans ?_
    have e1 : r.val / 8 * 8 + (r.val % 8 + 8 - s.val) % 8 = r.val + 8 - s.val := by omega
    simp only [e1]
    by_cases c : r.val < s.val
    · rw [dif_pos (by omega), dif_pos c]
      have e2 : (8 + r.val - s.val) % 8 = r.val + 8 - s.val := by omega
      simp only [e2]
    · rw [dif_neg (by omega), dif_neg c]
      have e2 : r.val + 8 - s.val - 8 = r.val - s.val := by omega
      simp only [e2]
  · rw [if_neg a]
    refine (hy _ _ _).trans ?_
    have e1 : (1 + r.val / 8) * 8 + (r.val % 8 + 8 - s.val) % 8 = r.val + 8 - s.val := by omega
    simp only [e1]
    rw [dif_neg (by omega), dif_neg (by omega)]
    have e2 : r.val + 8 - s.val - 8 = r.val - s.val := by omega
    simp only [e2]

/-- No step before is the row itself. -/
theorem back_zero (r e : Fin 1024) : back z b cb cr r e 0 = z (ix2 r e) := by
  unfold back
  rw [dif_neg (by omega)]
  rfl

theorem pay12_apply (q : Fin 129) (j : Fin 8) (e : Fin 1024) :
    k0_pay12 z b cb cr (ix3 q j e) = if h : q.val * 8 + j.val < 8 then
      Scalar.select b (cb (ix3 0 ⟨q.val * 8 + j.val, h⟩ e)) (cr (ix2 ⟨q.val * 8 + j.val, h⟩ e))
      else z (ix2 ⟨q.val * 8 + j.val - 8, by omega⟩ e) := by
  unfold k0_pay12
  pointwise

theorem pay21_apply (q : Fin 129) (j : Fin 8) (e : Fin 1024) :
    k0_pay21 z b cb cr (ix3 q j e) = if h : q.val * 8 + j.val < 8 then
      Scalar.select b (cb (ix3 0 ⟨q.val * 8 + j.val, h⟩ e)) (cr (ix2 ⟨q.val * 8 + j.val, h⟩ e))
      else z (ix2 ⟨q.val * 8 + j.val - 8, by omega⟩ e) := by
  unfold k0_pay21
  pointwise

theorem pay36_apply (q : Fin 129) (j : Fin 8) (e : Fin 1024) :
    k0_pay36 b z cb cr (ix3 q j e) = if h : q.val * 8 + j.val < 8 then
      Scalar.select b (cb (ix3 0 ⟨q.val * 8 + j.val, h⟩ e)) (cr (ix2 ⟨q.val * 8 + j.val, h⟩ e))
      else z (ix2 ⟨q.val * 8 + j.val - 8, by omega⟩ e) := by
  unfold k0_pay36
  pointwise

/-- The queries' taps but the oldest. -/
theorem pay13_apply (w : FVec Ideal S4x1024 .f32) (r e : Fin 1024) :
    k0_pay13 z b w cb cr (ix2 r e) = z (ix2 r e) * w (ix2 3 e) + shifted (k0_pay12 z b cb cr) 1 r e * w (ix2 2 e)
      + shifted (k0_pay12 z b cb cr) 2 r e * w (ix2 1 e) := by
  unfold k0_pay13 shifted
  generalize k0_pay12 z b cb cr = y
  pointwise

/-- The keys' two newest taps. -/
theorem pay22_apply (w : Vec Ideal S4x1024 .f32) (r e : Fin 1024) :
    k0_pay22 z b w cb cr (ix2 r e) = z (ix2 r e) * k0_pay17 w (ix2 3 e)
      + shifted (k0_pay21 z b cb cr) 1 r e * k0_pay17 w (ix2 2 e) := by
  unfold k0_pay22 shifted
  generalize k0_pay21 z b cb cr = y
  generalize k0_pay17 w = u
  pointwise

/-- The values' rows one step before. -/
theorem pay38_apply (r e : Fin 1024) :
    k0_pay38 b z cb cr (ix2 r e) = shifted (k0_pay36 b z cb cr) 1 r e := by
  unfold k0_pay38 shifted
  generalize k0_pay36 b z cb cr = y
  pointwise

/-- The values' newest tap. -/
theorem pay37_apply (w : Vec Ideal S4x1024 .f32) (r e : Fin 1024) :
    k0_pay37 z w (ix2 r e) = z (ix2 r e) * k0_pay32 w (ix2 3 e) := by
  unfold k0_pay37
  generalize k0_pay32 w = u
  pointwise
end

theorem pay8_apply (w : Vec Ideal S4x1024 .f32) (j : Fin 4) (e : Fin 1024) :
    k0_pay8 w (ix2 j e) = w (ix2 j e) * Ideal.ofBits .f32 0x3F000000#32 := by
  unfold k0_pay8
  pointwise

theorem pay17_apply (w : Vec Ideal S4x1024 .f32) (j : Fin 4) (e : Fin 1024) :
    k0_pay17 w (ix2 j e) = w (ix2 j e) * Ideal.ofBits .f32 0x3F000000#32 := by
  unfold k0_pay17
  pointwise

theorem pay32_apply (w : Vec Ideal S4x1024 .f32) (j : Fin 4) (e : Fin 1024) :
    k0_pay32 w (ix2 j e) = w (ix2 j e) * Ideal.ofBits .f32 0x3F000000#32 := by
  unfold k0_pay32
  pointwise

/-- The activated keys, of the partial sum and the pads. -/
theorem pay25_apply (w : FVec Ideal S4x1024 .f32) (y : FVec Ideal S129x8x1024 .f32) (p : FVec Ideal S1024x1024 .f32)
    (r e : Fin 1024) :
    k0_pay25 w y (iota .tc S1x8x1 32 [1] iota_S1x8x1_d1_w32) p (dynamicRotate 1 2#32 none y rotates_S129x8x1024_d1) k0_pay24 (ix2 r e)
      = (p (ix2 r e) + shifted y 2 r e * w (ix2 1 e) + shifted y 3 r e * w (ix2 0 e))
          * Ideal.tanh (p (ix2 r e) + shifted y 2 r e * w (ix2 1 e) + shifted y 3 r e * w (ix2 0 e))
        + (p (ix2 r e) + shifted y 2 r e * w (ix2 1 e) + shifted y 3 r e * w (ix2 0 e)) := by
  unfold k0_pay25 k0_pay24 shifted
  pointwise

/-- The values of a half. -/
theorem vals_apply (z : FVec Ideal S1024x1024 .f32) (b : BitVec 1) (w : Vec Ideal S4x1024 .f32) (cb : Vec Ideal S1x8x1024 .f32)
    (cr : Vec Ideal S8x1024 .f32) (r e : Fin 1024) :
    vals b z w cb cr (ix2 r e) = actH (back z b cb cr r e) (fun j => w (ix2 j e)) := by
  have h : k0_pay1 (k0_pay32 w) (k0_pay36 b z cb cr) (iota .tc S1x8x1 32 [1] iota_S1x8x1_d1_w32) (k0_pay37 z w) (k0_pay38 b z cb cr) (ix2 r e)
      = (k0_pay37 z w (ix2 r e) + k0_pay38 b z cb cr (ix2 r e) * k0_pay32 w (ix2 2 e)
          + shifted (k0_pay36 b z cb cr) 2 r e * k0_pay32 w (ix2 1 e) + shifted (k0_pay36 b z cb cr) 3 r e * k0_pay32 w (ix2 0 e))
        * Ideal.tanh (k0_pay37 z w (ix2 r e) + k0_pay38 b z cb cr (ix2 r e) * k0_pay32 w (ix2 2 e)
          + shifted (k0_pay36 b z cb cr) 2 r e * k0_pay32 w (ix2 1 e) + shifted (k0_pay36 b z cb cr) 3 r e * k0_pay32 w (ix2 0 e))
        + (k0_pay37 z w (ix2 r e) + k0_pay38 b z cb cr (ix2 r e) * k0_pay32 w (ix2 2 e)
          + shifted (k0_pay36 b z cb cr) 2 r e * k0_pay32 w (ix2 1 e) + shifted (k0_pay36 b z cb cr) 3 r e * k0_pay32 w (ix2 0 e)) := by
    unfold k0_pay1 shifted
    generalize k0_pay36 b z cb cr = y
    generalize k0_pay32 w = u
    generalize k0_pay37 z w = p
    generalize k0_pay38 b z cb cr = q
    pointwise
  refine h.trans ?_
  have hs := shifted_eq z b cb cr _ (pay36_apply z b cb cr)
  rw [pay37_apply, pay38_apply, show shifted (k0_pay36 b z cb cr) 1 r e = _ from hs 1 r e,
    show shifted (k0_pay36 b z cb cr) 2 r e = _ from hs 2 r e, show shifted (k0_pay36 b z cb cr) 3 r e = _ from hs 3 r e]
  simp only [pay32_apply]
  unfold actH tapsH
  rw [back_zero]
  rfl

/-- Lane `e` of slice `o`, of four slices of 256. -/
abbrev lane (o : Fin 4) (e : Fin 256) : Fin 1024 := ⟨256 * o.val + e.val, by omega⟩

/-- The keys read slice by slice, with the sum over the slice still weighted. -/
theorem pay31_slice (w : FVec Ideal S4x1024 .f32) (y : FVec Ideal S129x8x1024 .f32) (i : IVec S1x8x1 32) (p : FVec Ideal S1024x1024 .f32)
    (y2 : FVec Ideal S129x8x1024 .f32) (i2 : IVec S1x8x1 32) (r : Fin 1024) (o : Fin 4) (e : Fin 256) :
    k0_pay31 (k0_pay25 w y i p y2 i2) (k0_pay26 (F := Ideal)) (k0_pay27 w y i p y2 i2) (k0_pay28 w y i p y2 i2) (k0_pay29 w y i p y2 i2)
        (k0_pay30 w y i p y2 i2) (ix2 r (lane o e))
      = k0_pay25 w y i p y2 i2 (ix2 r (lane o e)) * Ideal.rsqrt ((∑ k : Fin 256, k0_pay25 w y i p y2 i2 (ix2 r (lane o k))
          * k0_pay25 w y i p y2 i2 (ix2 r (lane o k)) * k0_pay26 (F := Ideal) (ix2 k e)) + Ideal.ofBits .f32 0x358637BD#32) := by
  unfold k0_pay31 k0_pay27 k0_pay28 k0_pay29 k0_pay30
  generalize k0_pay25 w y i p y2 i2 = z
  generalize k0_pay26 (F := Ideal) = M
  match o with
  | ⟨0, _⟩ =>
    have h (k : Fin 256) : lane ⟨0, by decide⟩ k = ⟨k.val, by omega⟩ := Fin.ext (by show 256 * 0 + k.val = k.val; omega)
    simp only [h]
    pointwise
  | ⟨1, _⟩ =>
    have h (k : Fin 256) : lane ⟨1, by decide⟩ k = ⟨256 + k.val, by omega⟩ := rfl
    simp only [h]
    pointwise
  | ⟨2, _⟩ =>
    have h (k : Fin 256) : lane ⟨2, by decide⟩ k = ⟨512 + k.val, by omega⟩ := rfl
    simp only [h]
    pointwise
    rw [dif_neg (by omega), dif_neg (by omega), dif_pos (by omega)]
    have he : 512 + e.val - 256 - 256 = e.val := by omega
    simp only [he]
  | ⟨3, _⟩ =>
    have h (k : Fin 256) : lane ⟨3, by decide⟩ k = ⟨768 + k.val, by omega⟩ := rfl
    simp only [h]
    pointwise
    rw [dif_neg (by omega), dif_neg (by omega), dif_neg (by omega)]
    have he : 768 + e.val - 256 - 256 - 256 = e.val := by omega
    simp only [he]

/-- The keys' weights of the lanes. -/
theorem pay26_apply (k e : Fin 256) :
    k0_pay26 (F := Ideal) (ix2 k e) = if k.val / 128 = e.val / 128 then Ideal.ofBits .f32 0x3F800000#32 else 0 := by
  unfold k0_pay26
  pointwise
  rw [same_head k e]
  split <;> rfl

/-- The queries' activated taps, of the partial sum and the rotated pads. -/
def lastTap (w : FVec Ideal S4x1024 .f32) (p : FVec Ideal S1024x1024 .f32) (y : FVec Ideal S129x8x1024 .f32) (r e : Fin 1024) : EReal :=
  (p (ix2 r e) + shifted y 3 r e * w (ix2 0 e)) * Ideal.tanh (p (ix2 r e) + shifted y 3 r e * w (ix2 0 e))
    + (p (ix2 r e) + shifted y 3 r e * w (ix2 0 e))

/-- The same as a block, in the words of the program. -/
def tapped (w : FVec Ideal S4x1024 .f32) (p : FVec Ideal S1024x1024 .f32) (y : FVec Ideal S129x8x1024 .f32) : FVec Ideal S1024x1024 .f32 :=
  let h : FVec Ideal S1024x1024 .f32 := addf p (mulf (shapeCast S1024x1024 (select (broadcastTo S128x8x1024 (shapeCast S1x8x1
      (cmpi .slt (iota .tc S1x8x1 32 [1] iota_S1x8x1_d1_w32) (broadcast S1x8x1 3#32)) shapeCasts_S1x8x1_S1x8x1) broadcasts_S1x8x1_S128x8x1024)
      (extractStridedSlice S128x8x1024 ![0, 0, 0] (dynamicRotate 1 3#32 none y rotates_S129x8x1024_d1) slices_S129x8x1024_o0_0_0_S128x8x1024)
      (extractStridedSlice S128x8x1024 ![1, 0, 0] (dynamicRotate 1 3#32 none y rotates_S129x8x1024_d1) slices_S129x8x1024_o1_0_0_S128x8x1024))
      shapeCasts_S128x8x1024_S1024x1024) (broadcastTo S1024x1024 (extractStridedSlice S1x1024 ![0, 0] w slices_S4x1024_o0_0_S1x1024)
      broadcasts_S1x1024_S1024x1024))
  addf (mulf h (tanh h)) h

theorem tapped_apply (w : FVec Ideal S4x1024 .f32) (p : FVec Ideal S1024x1024 .f32) (y : FVec Ideal S129x8x1024 .f32) (r e : Fin 1024) :
    tapped w p y (ix2 r e) = lastTap w p y r e := by
  unfold tapped lastTap shifted
  pointwise

/-- The queries' weights of the lanes, in the words of the program. -/
def weights : FVec Ideal S256x256 .bf16 :=
  truncf .bf16 (select (cmpi .eq (shrsi (iota .tc S256x256 32 [0] iota_S256x256_d0_w32) (broadcast S256x256 7#32))
    (shrsi (iota .tc S256x256 32 [1] iota_S256x256_d1_w32) (broadcast S256x256 7#32)))
    (broadcast S256x256 (Scalar.ofBits .f32 0x43000000#32 : Ideal .f32)) (broadcast S256x256 (Scalar.ofBits .f32 0x00000000#32 : Ideal .f32))) bitsLt_bf16_f32

theorem weights_apply (k e : Fin 256) :
    weights (ix2 k e) = if k.val / 128 = e.val / 128 then Ideal.ofBits .f32 0x43000000#32 else 0 := by
  unfold weights
  pointwise
  rw [same_head k e]
  split <;> rfl

/-- The weighted squares of one slice. -/
def squares (h : FVec Ideal S1024x256 .f32) (M : FVec Ideal S256x256 .bf16) : FVec Ideal S1024x256 .f32 :=
  matmul dot_S1024x256_S256x256_S1024x256_1_0_0_1_n_n none (truncf .bf16 (mulf h h) bitsLt_bf16_f32) M (constant S1024x256 .f32 0x00000000#32)

/-- The queries' norm, in the words of the program. -/
def normed (z : FVec Ideal S1024x1024 .f32) (M : FVec Ideal S256x256 .bf16) : FVec Ideal S1024x1024 .f32 :=
  mulf z (rsqrt (addf (concatenate S1024x1024 1
    [⟨S1024x256, squares (extractStridedSlice S1024x256 ![0, 0] z slices_S1024x1024_o0_0_S1024x256) M⟩,
     ⟨S1024x256, squares (extractStridedSlice S1024x256 ![0, 256] z slices_S1024x1024_o0_256_S1024x256) M⟩,
     ⟨S1024x256, squares (extractStridedSlice S1024x256 ![0, 512] z slices_S1024x1024_o0_512_S1024x256) M⟩,
     ⟨S1024x256, squares (extractStridedSlice S1024x256 ![0, 768] z slices_S1024x1024_o0_768_S1024x256) M⟩] concatenates_S1024x256_S1024x256_S1024x256_S1024x256_S1024x1024_d1)
    (broadcast S1024x1024 (Scalar.ofBits .f32 0x390637BD#32 : Ideal .f32))))

theorem normed_slice (z : FVec Ideal S1024x1024 .f32) (M : FVec Ideal S256x256 .bf16) (r : Fin 1024) (o : Fin 4) (e : Fin 256) :
    normed z M (ix2 r (lane o e)) = z (ix2 r (lane o e)) * Ideal.rsqrt ((∑ k : Fin 256, z (ix2 r (lane o k))
          * z (ix2 r (lane o k)) * M (ix2 k e)) + Ideal.ofBits .f32 0x390637BD#32) := by
  unfold normed squares
  match o with
  | ⟨0, _⟩ =>
    have h (k : Fin 256) : lane ⟨0, by decide⟩ k = ⟨k.val, by omega⟩ := Fin.ext (by show 256 * 0 + k.val = k.val; omega)
    simp only [h]
    pointwise
  | ⟨1, _⟩ =>
    have h (k : Fin 256) : lane ⟨1, by decide⟩ k = ⟨256 + k.val, by omega⟩ := rfl
    simp only [h]
    pointwise
  | ⟨2, _⟩ =>
    have h (k : Fin 256) : lane ⟨2, by decide⟩ k = ⟨512 + k.val, by omega⟩ := rfl
    simp only [h]
    pointwise
    rw [dif_neg (by omega), dif_neg (by omega), dif_pos (by omega)]
    have he : 512 + e.val - 256 - 256 = e.val := by omega
    simp only [he]
  | ⟨3, _⟩ =>
    have h (k : Fin 256) : lane ⟨3, by decide⟩ k = ⟨768 + k.val, by omega⟩ := rfl
    simp only [h]
    pointwise
    rw [dif_neg (by omega), dif_neg (by omega), dif_neg (by omega)]
    have he : 768 + e.val - 256 - 256 - 256 = e.val := by omega
    simp only [he]

/-- The stored queries are the norm of the activated taps. -/
theorem pay15_eq (w : FVec Ideal S4x1024 .f32) (p : FVec Ideal S1024x1024 .f32) (y : FVec Ideal S129x8x1024 .f32) :
    k0_pay15 w (iota .tc S1x8x1 32 [1] iota_S1x8x1_d1_w32) p (dynamicRotate 1 3#32 none y rotates_S129x8x1024_d1) 3#32
      = normed (tapped w p y) weights := rfl

/-- A lane of a head is a lane of the slice that holds the head. -/
theorem chan_lane (g : Fin 8) (d : Fin 128) :
    chan g d = lane ⟨g.val / 2, by omega⟩ ⟨128 * (g.val % 2) + d.val, by omega⟩ :=
  Fin.ext (by show 128 * g.val + d.val = 256 * (g.val / 2) + (128 * (g.val % 2) + d.val); omega)

/-- The weighted sum over a slice is the one over the head. -/
theorem slice_sum (z : Fin 1024 → EReal) (W : EReal) (M : Fin 256 → Fin 256 → EReal)
    (hM : ∀ k e, M k e = if k.val / 128 = e.val / 128 then W else 0) (g : Fin 8) (d : Fin 128) :
    ∑ k : Fin 256, z (lane ⟨g.val / 2, by omega⟩ k) * z (lane ⟨g.val / 2, by omega⟩ k) * M k ⟨128 * (g.val % 2) + d.val, by omega⟩
      = ∑ x : Fin 128, z (chan g x) * z (chan g x) * W := by
  simp only [hM, chan_lane]
  exact head_sum (fun k => z (lane ⟨g.val / 2, by omega⟩ k) * z (lane ⟨g.val / 2, by omega⟩ k)) W ⟨g.val % 2, by omega⟩ d

section
variable (z : FVec Ideal S1024x1024 .f32) (b : BitVec 1) (w : Vec Ideal S4x1024 .f32) (cb : Vec Ideal S1x8x1024 .f32)
  (cr : Vec Ideal S8x1024 .f32) (r : Fin 1024)

/-- The queries' activated taps. -/
theorem query_taps (e : Fin 1024) :
    tapped (k0_pay8 w) (k0_pay13 z b (k0_pay8 w) cb cr) (k0_pay12 z b cb cr) (ix2 r e)
      = actH (back z b cb cr r e) (fun j => w (ix2 j e)) := by
  have hs := shifted_eq z b cb cr _ (pay12_apply z b cb cr)
  rw [tapped_apply]
  unfold lastTap
  rw [pay13_apply, show shifted (k0_pay12 z b cb cr) 1 r e = _ from hs 1 r e,
    show shifted (k0_pay12 z b cb cr) 2 r e = _ from hs 2 r e, show shifted (k0_pay12 z b cb cr) 3 r e = _ from hs 3 r e]
  simp only [pay8_apply]
  unfold actH tapsH
  rw [back_zero]
  rfl

/-- The keys' activated taps. -/
theorem key_taps (e : Fin 1024) :
    k0_pay25 (k0_pay17 w) (k0_pay21 z b cb cr) (iota .tc S1x8x1 32 [1] iota_S1x8x1_d1_w32) (k0_pay22 z b w cb cr) (k0_pay23 z b cb cr) k0_pay24 (ix2 r e)
      = actH (back z b cb cr r e) (fun j => w (ix2 j e)) := by
  have hs := shifted_eq z b cb cr _ (pay21_apply z b cb cr)
  refine (pay25_apply _ (k0_pay21 z b cb cr) _ r e).trans ?_
  rw [pay22_apply, show shifted (k0_pay21 z b cb cr) 1 r e = _ from hs 1 r e,
    show shifted (k0_pay21 z b cb cr) 2 r e = _ from hs 2 r e, show shifted (k0_pay21 z b cb cr) 3 r e = _ from hs 3 r e]
  simp only [pay17_apply]
  unfold actH tapsH
  rw [back_zero]
  rfl

/-- The queries of a half. -/
theorem queries_apply (g : Fin 8) (d : Fin 128) :
    queries b z w cb cr (ix2 r (chan g d)) = unitW (Ideal.ofBits .f32 0x43000000#32) (Ideal.ofBits .f32 0x390637BD#32)
      (fun c => actH (back z b cb cr r c) (fun j => w (ix2 j c))) g d := by
  have h : queries b z w cb cr (ix2 r (chan g d)) = normed (tapped (k0_pay8 w) (k0_pay13 z b (k0_pay8 w) cb cr) (k0_pay12 z b cb cr)) weights (ix2 r (chan g d)) :=
    congrFun (pay15_eq (k0_pay8 w) (k0_pay13 z b (k0_pay8 w) cb cr) (k0_pay12 z b cb cr)) _
  rw [h]
  unfold unitW
  simp only [← query_taps]
  generalize tapped (k0_pay8 w) (k0_pay13 z b (k0_pay8 w) cb cr) (k0_pay12 z b cb cr) = y
  rw [← slice_sum (fun c => y (ix2 r c)) _ (fun k e => weights (ix2 k e)) weights_apply g d, chan_lane]
  exact normed_slice y weights r _ _

/-- The keys of a half. -/
theorem keys_apply (g : Fin 8) (d : Fin 128) :
    keys b z w cb cr (ix2 r (chan g d)) = unitW (Ideal.ofBits .f32 0x3F800000#32) (Ideal.ofBits .f32 0x358637BD#32)
      (fun c => actH (back z b cb cr r c) (fun j => w (ix2 j c))) g d := by
  unfold unitW
  simp only [← key_taps]
  rw [← slice_sum (fun c => k0_pay25 (k0_pay17 w) (k0_pay21 z b cb cr) (iota .tc S1x8x1 32 [1] iota_S1x8x1_d1_w32)
      (k0_pay22 z b w cb cr) (k0_pay23 z b cb cr) k0_pay24 (ix2 r c)) _ (fun k e => k0_pay26 (F := Ideal) (ix2 k e)) pay26_apply g d, chan_lane]
  exact pay31_slice _ _ _ _ _ _ r _ _
end

/-- The last rows, for the next half and for the buffer. -/
theorem pay10_apply (z : FVec Ideal S1024x1024 .f32) (j : Fin 8) (e : Fin 1024) :
    k0_pay10 z (ix2 j e) = z (ix2 ⟨1016 + j.val, by omega⟩ e) := by
  unfold k0_pay10 k0_pay9
  pointwise

theorem pay19_apply (z : FVec Ideal S1024x1024 .f32) (j : Fin 8) (e : Fin 1024) :
    k0_pay19 z (ix2 j e) = z (ix2 ⟨1016 + j.val, by omega⟩ e) := by
  unfold k0_pay19 k0_pay18
  pointwise

theorem pay34_apply (z : FVec Ideal S1024x1024 .f32) (j : Fin 8) (e : Fin 1024) :
    k0_pay34 z (ix2 j e) = z (ix2 ⟨1016 + j.val, by omega⟩ e) := by
  unfold k0_pay34 k0_pay33
  pointwise

theorem pay11_apply (z : FVec Ideal S1024x1024 .f32) (q : Fin 1) (j : Fin 8) (e : Fin 1024) :
    k0_pay11 z (ix3 q j e) = z (ix2 ⟨1016 + j.val, by omega⟩ e) := by
  unfold k0_pay11 k0_pay9
  pointwise

theorem pay20_apply (z : FVec Ideal S1024x1024 .f32) (q : Fin 1) (j : Fin 8) (e : Fin 1024) :
    k0_pay20 z (ix3 q j e) = z (ix2 ⟨1016 + j.val, by omega⟩ e) := by
  unfold k0_pay20 k0_pay18
  pointwise

theorem pay35_apply (z : FVec Ideal S1024x1024 .f32) (q : Fin 1) (j : Fin 8) (e : Fin 1024) :
    k0_pay35 z (ix3 q j e) = z (ix2 ⟨1016 + j.val, by omega⟩ e) := by
  unfold k0_pay35 k0_pay33
  pointwise

end Cert.Proofs.Conv
-- ==== Proof.ConvKernel.lean ====
module

public import proofs.«01_k».proof.Proof.ConvPay

@[expose] public section

set_option maxRecDepth 16384

noncomputable section

/-! What the delta projection leaves in its three results, as functions of its arguments. -/

namespace Cert.Proofs.Conv

open Cert.ConvIdeal Cert.ConvIdeal.Gen Cert.ConvIdeal.Carry Idealize.ShloMosaic Idealize.ShloMosaic.TcCoe Idealize.SL.Sem
open Cert.Proofs.Layer Cert.Proofs.RealMath

theorem hz2 : (![0, 0] : Fin 2 → Nat) = fun _ => 0 := funext fun a => by fin_cases a <;> rfl

/-! ## One block -/

section
variable (b : BitVec 1) (x0 : Vec Ideal S1024x1024 .f32) (x1 : Vec Ideal S1x1024 .f32) (x2 : Vec Ideal S1024x3072 .bf16)
  (x3 : Vec Ideal S1024x128 .bf16) (x4 : Vec Ideal S4x3072 .f32) (x5 : Vec Ideal S1x8x3072 .f32) (x6 x7 : Vec Ideal S1x128 .f32)
  (xs : Vec Ideal S8x3072 .f32)

/-- Channel `f` of the block's row `r` before the convolution. -/
def chanOf (f : Fin 3072) (r : Fin 1024) : EReal :=
  ∑ k : Fin 1024, rms (fun k => x0 (ix2 r k)) (fun k => x1 (ix2 0 k)) k * x2 (ix2 k f)

/-- The channel `s` rows before row `r`. -/
def pastOf (f : Fin 3072) (r : Fin 1024) (s : ℕ) : EReal :=
  if h : r.val < s then
    Scalar.select b (x5 (ix3 0 ⟨(8 + r.val - s) % 8, by omega⟩ f)) (xs (ix2 ⟨(8 + r.val - s) % 8, by omega⟩ f))
  else chanOf x0 x1 x2 f ⟨r.val - s, by omega⟩

theorem ld_rows (x : Vec Ideal S1024x1024 .f32) : View.ld x rRows = x := View.ld_unit_zero hz2 _ _

theorem ld_ln (x : Vec Ideal S1x1024 .f32) : View.ld x rLn = x := View.ld_unit_zero hz2 _ _

theorem ld_w0 (k f : Fin 1024) : View.ld x2 rW0 (ix2 k f) = x2 (ix2 k ⟨f.val, by omega⟩) := by
  show x2 _ = x2 _
  refine congrArg x2 (funext fun a => Fin.ext ?_)
  match a with
  | ⟨0, _⟩ => show 0 + 1 * k.val = _; simp
  | ⟨1, _⟩ => show 0 + 1 * f.val = _; simp

theorem ld_w1 (k f : Fin 1024) : View.ld x2 rW1 (ix2 k f) = x2 (ix2 k ⟨1024 + f.val, by omega⟩) := by
  show x2 _ = x2 _
  refine congrArg x2 (funext fun a => Fin.ext ?_)
  match a with
  | ⟨0, _⟩ => show 0 + 1 * k.val = _; simp
  | ⟨1, _⟩ => show 1024 + 1 * f.val = _; simp

theorem ld_w2 (k f : Fin 1024) : View.ld x2 rW2 (ix2 k f) = x2 (ix2 k ⟨2048 + f.val, by omega⟩) := by
  show x2 _ = x2 _
  refine congrArg x2 (funext fun a => Fin.ext ?_)
  match a with
  | ⟨0, _⟩ => show 0 + 1 * k.val = _; simp
  | ⟨1, _⟩ => show 2048 + 1 * f.val = _; simp

theorem ld_t0 (k : Fin 4) (f : Fin 1024) : View.ld x4 rT0 (ix2 k f) = x4 (ix2 k ⟨f.val, by omega⟩) := by
  show x4 _ = x4 _
  refine congrArg x4 (funext fun a => Fin.ext ?_)
  match a with
  | ⟨0, _⟩ => show 0 + 1 * k.val = _; simp
  | ⟨1, _⟩ => show 0 + 1 * f.val = _; simp

theorem ld_t1 (k : Fin 4) (f : Fin 1024) : View.ld x4 rT1 (ix2 k f) = x4 (ix2 k ⟨1024 + f.val, by omega⟩) := by
  show x4 _ = x4 _
  refine congrArg x4 (funext fun a => Fin.ext ?_)
  match a with
  | ⟨0, _⟩ => show 0 + 1 * k.val = _; simp
  | ⟨1, _⟩ => show 1024 + 1 * f.val = _; simp

theorem ld_t2 (k : Fin 4) (f : Fin 1024) : View.ld x4 rT2 (ix2 k f) = x4 (ix2 k ⟨2048 + f.val, by omega⟩) := by
  show x4 _ = x4 _
  refine congrArg x4 (funext fun a => Fin.ext ?_)
  match a with
  | ⟨0, _⟩ => show 0 + 1 * k.val = _; simp
  | ⟨1, _⟩ => show 2048 + 1 * f.val = _; simp

theorem ld_b0 (k : Fin 8) (f : Fin 1024) : View.ld x5 rB0 (ix3 0 k f) = x5 (ix3 0 k ⟨f.val, by omega⟩) := by
  show x5 _ = x5 _
  refine congrArg x5 (funext fun a => Fin.ext ?_)
  match a with
  | ⟨0, _⟩ => show 0 + 1 * 0 = _; simp
  | ⟨1, _⟩ => show 0 + 1 * k.val = _; simp
  | ⟨2, _⟩ => show 0 + 1 * f.val = _; simp

theorem ld_b1 (k : Fin 8) (f : Fin 1024) : View.ld x5 rB1 (ix3 0 k f) = x5 (ix3 0 k ⟨1024 + f.val, by omega⟩) := by
  show x5 _ = x5 _
  refine congrArg x5 (funext fun a => Fin.ext ?_)
  match a with
  | ⟨0, _⟩ => show 0 + 1 * 0 = _; simp
  | ⟨1, _⟩ => show 0 + 1 * k.val = _; simp
  | ⟨2, _⟩ => show 1024 + 1 * f.val = _; simp

theorem ld_b2 (k : Fin 8) (f : Fin 1024) : View.ld x5 rB2 (ix3 0 k f) = x5 (ix3 0 k ⟨2048 + f.val, by omega⟩) := by
  show x5 _ = x5 _
  refine congrArg x5 (funext fun a => Fin.ext ?_)
  match a with
  | ⟨0, _⟩ => show 0 + 1 * 0 = _; simp
  | ⟨1, _⟩ => show 0 + 1 * k.val = _; simp
  | ⟨2, _⟩ => show 2048 + 1 * f.val = _; simp

theorem ld_c0 (k : Fin 8) (f : Fin 1024) : View.ld xs rC0 (ix2 k f) = xs (ix2 k ⟨f.val, by omega⟩) := by
  show xs _ = xs _
  refine congrArg xs (funext fun a => Fin.ext ?_)
  match a with
  | ⟨0, _⟩ => show 0 + 1 * k.val = _; simp
  | ⟨1, _⟩ => show 0 + 1 * f.val = _; simp

theorem ld_c1 (k : Fin 8) (f : Fin 1024) : View.ld xs rC1 (ix2 k f) = xs (ix2 k ⟨1024 + f.val, by omega⟩) := by
  show xs _ = xs _
  refine congrArg xs (funext fun a => Fin.ext ?_)
  match a with
  | ⟨0, _⟩ => show 0 + 1 * k.val = _; simp
  | ⟨1, _⟩ => show 1024 + 1 * f.val = _; simp

theorem ld_c2 (k : Fin 8) (f : Fin 1024) : View.ld xs rC2 (ix2 k f) = xs (ix2 k ⟨2048 + f.val, by omega⟩) := by
  show xs _ = xs _
  refine congrArg xs (funext fun a => Fin.ext ?_)
  match a with
  | ⟨0, _⟩ => show 0 + 1 * k.val = _; simp
  | ⟨1, _⟩ => show 2048 + 1 * f.val = _; simp

/-- The three thirds of the channels. -/
theorem zq_apply (r e : Fin 1024) : zq x0 x1 x2 (ix2 r e) = chanOf x0 x1 x2 ⟨e.val, by omega⟩ r := by
  unfold zq chanOf
  rw [ld_rows, ld_ln, pay3_apply]
  exact Finset.sum_congr rfl fun k _ => congrArg (rms (fun k => x0 (ix2 r k)) (fun k => x1 (ix2 0 k)) k * ·) (ld_w0 x2 k e)

theorem zk_apply (r e : Fin 1024) : zk x0 x1 x2 (ix2 r e) = chanOf x0 x1 x2 ⟨1024 + e.val, by omega⟩ r := by
  unfold zk chanOf
  rw [ld_rows, ld_ln, pay4_apply]
  exact Finset.sum_congr rfl fun k _ => congrArg (rms (fun k => x0 (ix2 r k)) (fun k => x1 (ix2 0 k)) k * ·) (ld_w1 x2 k e)

theorem zv_apply (r e : Fin 1024) : zv x0 x1 x2 (ix2 r e) = chanOf x0 x1 x2 ⟨2048 + e.val, by omega⟩ r := by
  unfold zv chanOf
  rw [ld_rows, ld_ln, pay16_apply]
  exact Finset.sum_congr rfl fun k _ => congrArg (rms (fun k => x0 (ix2 r k)) (fun k => x1 (ix2 0 k)) k * ·) (ld_w2 x2 k e)

theorem back_q (r e : Fin 1024) (s : ℕ) :
    back (zq x0 x1 x2) b (View.ld x5 rB0) (View.ld xs rC0) r e s = pastOf b x0 x1 x2 x5 xs ⟨e.val, by omega⟩ r s := by
  unfold back pastOf
  simp only [zq_apply]
  refine dite_congr rfl (fun _ => ?_) fun _ => rfl
  exact congrArg₂ (Scalar.select b) (ld_b0 x5 _ e) (ld_c0 xs _ e)

theorem back_k (r e : Fin 1024) (s : ℕ) :
    back (zk x0 x1 x2) b (View.ld x5 rB1) (View.ld xs rC1) r e s = pastOf b x0 x1 x2 x5 xs ⟨1024 + e.val, by omega⟩ r s := by
  unfold back pastOf
  simp only [zk_apply]
  refine dite_congr rfl (fun _ => ?_) fun _ => rfl
  exact congrArg₂ (Scalar.select b) (ld_b1 x5 _ e) (ld_c1 xs _ e)

theorem back_v (r e : Fin 1024) (s : ℕ) :
    back (zv x0 x1 x2) b (View.ld x5 rB2) (View.ld xs rC2) r e s = pastOf b x0 x1 x2 x5 xs ⟨2048 + e.val, by omega⟩ r s := by
  unfold back pastOf
  simp only [zv_apply]
  refine dite_congr rfl (fun _ => ?_) fun _ => rfl
  exact congrArg₂ (Scalar.select b) (ld_b2 x5 _ e) (ld_c2 xs _ e)

/-- A third's rectangle of the block of convolved rows. -/
theorem emb_w0 (r e : Fin 1024) : (ix2 r ⟨e.val, by omega⟩ : S1024x3072.Idx) = rW0.emb (ix2 r e) := by
  refine funext fun a => Fin.ext ?_
  match a with
  | ⟨0, _⟩ => show r.val = 0 + 1 * r.val; omega
  | ⟨1, _⟩ => show e.val = 0 + 1 * e.val; omega

theorem emb_w1 (r e : Fin 1024) : (ix2 r ⟨1024 + e.val, by omega⟩ : S1024x3072.Idx) = rW1.emb (ix2 r e) := by
  refine funext fun a => Fin.ext ?_
  match a with
  | ⟨0, _⟩ => show r.val = 0 + 1 * r.val; omega
  | ⟨1, _⟩ => show 1024 + e.val = 1024 + 1 * e.val; omega

theorem emb_w2 (r e : Fin 1024) : (ix2 r ⟨2048 + e.val, by omega⟩ : S1024x3072.Idx) = rW2.emb (ix2 r e) := by
  refine funext fun a => Fin.ext ?_
  match a with
  | ⟨0, _⟩ => show r.val = 0 + 1 * r.val; omega
  | ⟨1, _⟩ => show 2048 + e.val = 2048 + 1 * e.val; omega

/-- The queries' lanes of the block. -/
theorem conv_q (r : Fin 1024) (g : Fin 8) (d : Fin 128) :
    convOut b x0 x1 x2 x4 x5 xs (ix2 r ⟨(chan g d).val, by omega⟩)
      = unitW (Ideal.ofBits .f32 0x43000000#32) (Ideal.ofBits .f32 0x390637BD#32)
          (fun c => actH (pastOf b x0 x1 x2 x5 xs ⟨c.val, by omega⟩ r) (fun j => x4 (ix2 j ⟨c.val, by omega⟩))) g d := by
  have hc : (chan g d).val < 1024 := (chan g d).isLt
  unfold convOut
  rw [View.canon_cons_of_not_mem _ _ (by
      show _ ∉ rW2.set
      rw [Rect.mem_set_unit]; intro h; have h1 : 2048 ≤ (chan g d).val := (h 1).1; omega),
    View.canon_cons_of_not_mem _ _ (by
      show _ ∉ rW1.set
      rw [Rect.mem_set_unit]; intro h; have h1 : 1024 ≤ (chan g d).val := (h 1).1; omega),
    emb_w0, View.canon_cons_emb]
  refine (queries_apply _ _ _ _ _ r g d).trans ?_
  exact congrArg (fun y => unitW _ _ y g d) (funext fun c => congrArg₂ actH (funext fun s => back_q b x0 x1 x2 x5 xs r c s)
    (funext fun j => ld_t0 x4 j c))

/-- The keys' lanes. -/
theorem conv_k (r : Fin 1024) (g : Fin 8) (d : Fin 128) :
    convOut b x0 x1 x2 x4 x5 xs (ix2 r ⟨1024 + (chan g d).val, by omega⟩)
      = unitW (Ideal.ofBits .f32 0x3F800000#32) (Ideal.ofBits .f32 0x358637BD#32)
          (fun c => actH (pastOf b x0 x1 x2 x5 xs ⟨1024 + c.val, by omega⟩ r) (fun j => x4 (ix2 j ⟨1024 + c.val, by omega⟩))) g d := by
  have hc : (chan g d).val < 1024 := (chan g d).isLt
  unfold convOut
  rw [View.canon_cons_of_not_mem _ _ (by
      show _ ∉ rW2.set
      rw [Rect.mem_set_unit]; intro h; have h1 : 2048 ≤ 1024 + (chan g d).val := (h 1).1; omega),
    emb_w1, View.canon_cons_emb]
  refine (keys_apply _ _ _ _ _ r g d).trans ?_
  exact congrArg (fun y => unitW _ _ y g d) (funext fun c => congrArg₂ actH (funext fun s => back_k b x0 x1 x2 x5 xs r c s)
    (funext fun j => ld_t1 x4 j c))

/-- The values' lanes. -/
theorem conv_v (r e : Fin 1024) :
    convOut b x0 x1 x2 x4 x5 xs (ix2 r ⟨2048 + e.val, by omega⟩)
      = actH (pastOf b x0 x1 x2 x5 xs ⟨2048 + e.val, by omega⟩ r) (fun j => x4 (ix2 j ⟨2048 + e.val, by omega⟩)) := by
  unfold convOut
  rw [emb_w2, View.canon_cons_emb]
  refine (vals_apply _ _ _ _ _ r e).trans ?_
  exact congrArg₂ actH (funext fun s => back_v b x0 x1 x2 x5 xs r e s) (funext fun j => ld_t2 x4 j e)

/-- The gates' block. -/
theorem gate_apply (r : Fin 1024) (f : Fin 128) :
    gateOut x0 x1 x3 x6 x7 (ix2 r f)
      = if f.val < 8 then sigT (∑ k : Fin 1024, rms (fun k => x0 (ix2 r k)) (fun k => x1 (ix2 0 k)) k * x3 (ix2 k f))
        else if f.val < 16 then -Ideal.exp (x6 (ix2 0 f))
          * softplus ((∑ k : Fin 1024, rms (fun k => x0 (ix2 r k)) (fun k => x1 (ix2 0 k)) k * x3 (ix2 k f)) + x7 (ix2 0 f))
        else 0 := by
  have l3 (x : Vec Ideal S1024x128 .bf16) : View.ld x rGate = x := View.ld_unit_zero hz2 _ _
  have l1 (x : Vec Ideal S1x128 .f32) : View.ld x rLane = x := View.ld_unit_zero hz2 _ _
  unfold gateOut
  rw [View.canon_unit_zero hz2, ld_rows, ld_ln, l3, l1, l1, pay7_apply, pay6_apply, pay5_apply]

/-- A third of a channel's lanes holds it. -/
theorem third (f : Fin 3072) : (∃ e : Fin 1024, f = ⟨e.val, by omega⟩) ∨ (∃ e : Fin 1024, f = ⟨1024 + e.val, by omega⟩)
    ∨ ∃ e : Fin 1024, f = ⟨2048 + e.val, by omega⟩ := by
  by_cases a : f.val < 1024
  · exact .inl ⟨⟨f.val, a⟩, rfl⟩
  by_cases c : f.val < 2048
  · exact .inr (.inl ⟨⟨f.val - 1024, by omega⟩, Fin.ext (by show f.val = 1024 + (f.val - 1024); omega)⟩)
  · exact .inr (.inr ⟨⟨f.val - 2048, by omega⟩, Fin.ext (by show f.val = 2048 + (f.val - 2048); omega)⟩)

/-- The block of last rows. -/
theorem state_apply (j : Fin 8) (f : Fin 3072) :
    stateOut x0 x1 x2 (ix3 0 j f) = chanOf x0 x1 x2 f ⟨1016 + j.val, by omega⟩ := by
  have i0 (e : Fin 1024) : (ix3 0 j ⟨e.val, by omega⟩ : S1x8x3072.Idx) = rB0.emb (ix3 0 j e) := by
    refine funext fun a => Fin.ext ?_
    match a with
    | ⟨0, _⟩ => rfl
    | ⟨1, _⟩ => show j.val = 0 + 1 * j.val; omega
    | ⟨2, _⟩ => show e.val = 0 + 1 * e.val; omega
  have i1 (e : Fin 1024) : (ix3 0 j ⟨1024 + e.val, by omega⟩ : S1x8x3072.Idx) = rB1.emb (ix3 0 j e) := by
    refine funext fun a => Fin.ext ?_
    match a with
    | ⟨0, _⟩ => rfl
    | ⟨1, _⟩ => show j.val = 0 + 1 * j.val; omega
    | ⟨2, _⟩ => show 1024 + e.val = 1024 + 1 * e.val; omega
  have i2 (e : Fin 1024) : (ix3 0 j ⟨2048 + e.val, by omega⟩ : S1x8x3072.Idx) = rB2.emb (ix3 0 j e) := by
    refine funext fun a => Fin.ext ?_
    match a with
    | ⟨0, _⟩ => rfl
    | ⟨1, _⟩ => show j.val = 0 + 1 * j.val; omega
    | ⟨2, _⟩ => show 2048 + e.val = 2048 + 1 * e.val; omega
  unfold stateOut
  rcases third f with ⟨e, rfl⟩ | ⟨e, rfl⟩ | ⟨e, rfl⟩
  · have he := e.isLt
    rw [View.canon_cons_of_not_mem _ _ (by
        show _ ∉ rB2.set
        rw [Rect.mem_set_unit]; intro h; have h1 : 2048 ≤ e.val := (h 2).1; omega),
      View.canon_cons_of_not_mem _ _ (by
        show _ ∉ rB1.set
        rw [Rect.mem_set_unit]; intro h; have h1 : 1024 ≤ e.val := (h 2).1; omega),
      i0, View.canon_cons_emb]
    exact (pay11_apply _ 0 j e).trans (zq_apply _ _ _ _ e)
  · have he := e.isLt
    rw [View.canon_cons_of_not_mem _ _ (by
        show _ ∉ rB2.set
        rw [Rect.mem_set_unit]; intro h; have h1 : 2048 ≤ 1024 + e.val := (h 2).1; omega),
      i1, View.canon_cons_emb]
    exact (pay20_apply _ 0 j e).trans (zk_apply _ _ _ _ e)
  · rw [i2, View.canon_cons_emb]
    exact (pay35_apply _ 0 j e).trans (zv_apply _ _ _ _ e)

/-- The same rows in the scratch. -/
theorem tail_apply (j : Fin 8) (f : Fin 3072) :
    tailOut x0 x1 x2 (ix2 j f) = chanOf x0 x1 x2 f ⟨1016 + j.val, by omega⟩ := by
  have i0 (e : Fin 1024) : (ix2 j ⟨e.val, by omega⟩ : S8x3072.Idx) = rC0.emb (ix2 j e) := by
    refine funext fun a => Fin.ext ?_
    match a with
    | ⟨0, _⟩ => show j.val = 0 + 1 * j.val; omega
    | ⟨1, _⟩ => show e.val = 0 + 1 * e.val; omega
  have i1 (e : Fin 1024) : (ix2 j ⟨1024 + e.val, by omega⟩ : S8x3072.Idx) = rC1.emb (ix2 j e) := by
    refine funext fun a => Fin.ext ?_
    match a with
    | ⟨0, _⟩ => show j.val = 0 + 1 * j.val; omega
    | ⟨1, _⟩ => show 1024 + e.val = 1024 + 1 * e.val; omega
  have i2 (e : Fin 1024) : (ix2 j ⟨2048 + e.val, by omega⟩ : S8x3072.Idx) = rC2.emb (ix2 j e) := by
    refine funext fun a => Fin.ext ?_
    match a with
    | ⟨0, _⟩ => show j.val = 0 + 1 * j.val; omega
    | ⟨1, _⟩ => show 2048 + e.val = 2048 + 1 * e.val; omega
  unfold tailOut
  rcases third f with ⟨e, rfl⟩ | ⟨e, rfl⟩ | ⟨e, rfl⟩
  · have he := e.isLt
    rw [View.canon_cons_of_not_mem _ _ (by
        show _ ∉ rC2.set
        rw [Rect.mem_set_unit]; intro h; have h1 : 2048 ≤ e.val := (h 1).1; omega),
      View.canon_cons_of_not_mem _ _ (by
        show _ ∉ rC1.set
        rw [Rect.mem_set_unit]; intro h; have h1 : 1024 ≤ e.val := (h 1).1; omega),
      i0, View.canon_cons_emb]
    exact (pay10_apply _ j e).trans (zq_apply _ _ _ _ e)
  · have he := e.isLt
    rw [View.canon_cons_of_not_mem _ _ (by
        show _ ∉ rC2.set
        rw [Rect.mem_set_unit]; intro h; have h1 : 2048 ≤ 1024 + e.val := (h 1).1; omega),
      i1, View.canon_cons_emb]
    exact (pay19_apply _ j e).trans (zk_apply _ _ _ _ e)
  · rw [i2, View.canon_cons_emb]
    exact (pay34_apply _ j e).trans (zv_apply _ _ _ _ e)
end

/-! ## What the blocks hold -/

variable (m : (ℓ : Loc nD τ sig) → Buf (Elt Ideal) ℓ) (c : Dev nD)

/-- The rows, sequence after sequence. -/
theorem entry_v4 : V m c main_v4 = shapeCast S32768x1024 (m ((c : Thread nD τ).loc main_arg0)) shapeCasts_S16x2048x1024_S32768x1024 := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  entry_read
  rfl

/-- The norm's weight as a row. -/
theorem entry_v5 : V m c main_v5 = broadcastInDim S1x1024 ![1] bcast_S1024_S1x1024_1 (m ((c : Thread nD τ).loc main_arg2)) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  entry_read
  rfl

/-- The convolved channels' columns. -/
theorem entry_v6 : V m c main_v6 = truncf (F := Ideal) .bf16 (extractStridedSlice S1024x3072 ![0, 3072] (m ((c : Thread nD τ).loc main_arg3) : FVec Ideal S1024x9232 .f32) slices_S1024x9232_S1024x3072_0_3072) bitsLt_bf16_f32 := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  entry_read
  rfl

/-- The gates' columns, padded. -/
theorem entry_v7 : V m c main_v7 = truncf (F := Ideal) .bf16 (pad S1024x128 ![0, 0] ![0, 112] ![0, 0] (extractStridedSlice S1024x16 ![0, 7168] (m ((c : Thread nD τ).loc main_arg3) : FVec Ideal S1024x9232 .f32) slices_S1024x9232_S1024x16_0_7168)
      (sitofp .f32 (constantI S_ 32 0#32) : FVec Ideal S_ .f32) pads_S1024x16_S1024x128_000_01120 h_S_) bitsLt_bf16_f32 := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  entry_read
  rfl

/-- The buffered rows, padded. -/
theorem entry_v3 : V m c main_v3 = pad S16x8x3072 ![0, 5, 0] ![0, 0, 0] ![0, 0, 0] (m ((c : Thread nD τ).loc main_arg1) : FVec Ideal S16x3x3072 .f32)
      (sitofp .f32 (constantI S_ 32 0#32) : FVec Ideal S_ .f32) pads_S16x3x3072_S16x8x3072_000_500_000 h_S_ := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  entry_read
  rfl

/-- The decays' logarithms, padded. -/
theorem entry_v9 : V m c main_v9 = broadcastInDim S1x128 ![1] bcast_S128_S1x128_1 (pad S128 ![8] ![112] ![0] (m ((c : Thread nD τ).loc main_arg5) : FVec Ideal S8 .f32)
      (sitofp .f32 (constantI S_ 32 0#32) : FVec Ideal S_ .f32) pads_S8_S128_81120 h_S_) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  entry_read
  rfl

/-- The decays' shifts, padded. -/
theorem entry_v11 : V m c main_v11 = broadcastInDim S1x128 ![1] bcast_S128_S1x128_1 (pad S128 ![8] ![112] ![0] (m ((c : Thread nD τ).loc main_arg6) : FVec Ideal S8 .f32)
      (sitofp .f32 (constantI S_ 32 0#32) : FVec Ideal S_ .f32) pads_S8_S128_81120 h_S_) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  entry_read
  rfl

/-- Where each window's block lies at a grid point. -/
theorem place : ∀ t : Fin cfg0.N,
    win0_0.index t = ![t.val, 0] ∧ win0_1.index t = ![0, 0] ∧ win0_2.index t = ![0, 0] ∧ win0_3.index t = ![0, 0]
    ∧ win0_4.index t = ![0, 0] ∧ win0_5.index t = ![t.val / 2, 0, 0] ∧ win0_6.index t = ![0, 0] ∧ win0_7.index t = ![0, 0]
    ∧ win0_8.index t = ![t.val, 0] ∧ win0_9.index t = ![t.val, 0] ∧ win0_10.index t = ![t.val, 0, 0] := by
  decide +kernel

/-- A point is a first half at even numbers. -/
theorem first_eq : ∀ t : Fin cfg0.N, first (grid0.coords t) = if t.val % 2 = 0 then 1#1 else 0#1 :=
  (by decide +kernel : ∀ t : Fin grid0.N, first (grid0.coords t) = if t.val % 2 = 0 then 1#1 else 0#1)

/-- The sequence of the rows of the block at `t`. -/
abbrev seq (t : Fin cfg0.N) : Fin 16 :=
  ⟨t.val / 2, by have h : t.val < 32 := t.isLt; omega⟩

/-- The place in its sequence of row `r` of the block at `t`. -/
abbrev pos (t : Fin cfg0.N) (r : Fin 1024) : Fin 2048 :=
  ⟨1024 * (t.val % 2) + r.val, by omega⟩

/-- The rows as the host line orders them. -/
theorem rows_apply (z : FVec Ideal S16x2048x1024 .f32) (R : Fin 32768) (d : Fin 1024) :
    shapeCast S32768x1024 z shapeCasts_S16x2048x1024_S32768x1024 (ix2 R d)
      = z (ix3 ⟨R.val / 2048, by omega⟩ ⟨R.val % 2048, by omega⟩ d) := by
  pointwise

/-- A column that is not of the padding. -/
theorem cols_apply (z : FVec Ideal S1024x9232 .f32) (k : Fin 1024) (f : Fin 128) (hf : f.val < 16) :
    truncf (F := Ideal) .bf16 (pad S1024x128 ![0, 0] ![0, 112] ![0, 0] (extractStridedSlice S1024x16 ![0, 7168] z slices_S1024x9232_S1024x16_0_7168)
      (sitofp .f32 (constantI S_ 32 0#32) : FVec Ideal S_ .f32) pads_S1024x16_S1024x128_000_01120 h_S_) bitsLt_bf16_f32 (ix2 k f)
      = z (ix2 k ⟨7168 + f.val, by omega⟩) := by
  pointwise
  rw [dif_pos hf]

/-- A buffered row behind the padding. -/
theorem buf_apply (z : FVec Ideal S16x3x3072 .f32) (b : Fin 16) (j : Fin 3) (f : Fin 3072) :
    pad S16x8x3072 ![0, 5, 0] ![0, 0, 0] ![0, 0, 0] z (sitofp .f32 (constantI S_ 32 0#32) : FVec Ideal S_ .f32)
      pads_S16x3x3072_S16x8x3072_000_500_000 h_S_ (ix3 b ⟨5 + j.val, by omega⟩ f) = z (ix3 b j f) := by
  pointwise

/-- A lane between the paddings. -/
theorem lane_apply (z : FVec Ideal S8 .f32) (f : Fin 128) (h8 : 8 ≤ f.val) (h16 : f.val < 16) :
    broadcastInDim S1x128 ![1] bcast_S128_S1x128_1 (pad S128 ![8] ![112] ![0] z
      (sitofp .f32 (constantI S_ 32 0#32) : FVec Ideal S_ .f32) pads_S8_S128_81120 h_S_) (ix2 0 f) = z (ix1 ⟨f.val - 8, by omega⟩) := by
  pointwise
  rw [dif_pos ⟨h8, by omega⟩]

/-- A block's rows are the sequence's. -/
theorem read_x (t : Fin cfg0.N) (r : Fin 1024) (d : Fin 1024) :
    iblk m c 0 t (ix2 r d) = m ((c : Thread nD τ).loc main_arg0) (ix3 (seq t) (pos t r) d) := by
  have ht : t.val < 32 := t.isLt
  obtain ⟨e0, -⟩ := place t
  blk_simp [iblk, e0]
  change V m c main_v4 _ = _
  rw [entry_v4]
  have h : ((View.whole main_v4).slice (win0_0.rect t)).emb (ix2 r d) = ix2 ⟨1024 * t.val + r.val, by omega⟩ d := by blk_ext [e0]
  rw [h]
  refine (rows_apply _ _ d).trans (congrArg (m ((c : Thread nD τ).loc main_arg0)) ?_)
  refine congrArg₂ (fun (b : Fin 16) (s : Fin 2048) => ix3 b s d) (Fin.ext ?_) (Fin.ext ?_)
  · show (1024 * t.val + r.val) / 2048 = t.val / 2
    omega
  · show (1024 * t.val + r.val) % 2048 = 1024 * (t.val % 2) + r.val
    omega

/-- The rows' norm's weight. -/
theorem read_ln (t : Fin cfg0.N) (d : Fin 1024) :
    iblk m c 1 t (ix2 0 d) = m ((c : Thread nD τ).loc main_arg2) (ix1 d) := by
  obtain ⟨-, e0, -⟩ := place t
  blk_simp [iblk, e0]
  change V m c main_v5 _ = _
  rw [entry_v5]
  pointwise
  blk_ext [e0]

/-- The projection's columns of the convolved channels. -/
theorem read_w (t : Fin cfg0.N) (k : Fin 1024) (f : Fin 3072) :
    iblk m c 2 t (ix2 k f) = m ((c : Thread nD τ).loc main_arg3) (ix2 k ⟨3072 + f.val, by omega⟩) := by
  obtain ⟨-, -, e0, -⟩ := place t
  blk_simp [iblk, e0]
  change V m c main_v6 _ = _
  rw [entry_v6]
  pointwise
  blk_ext [e0]

/-- The projection's columns of the gates. -/
theorem read_wg (t : Fin cfg0.N) (k : Fin 1024) (f : Fin 128) (hf : f.val < 16) :
    iblk m c 3 t (ix2 k f) = m ((c : Thread nD τ).loc main_arg3) (ix2 k ⟨7168 + f.val, by omega⟩) := by
  obtain ⟨-, -, -, e0, -⟩ := place t
  blk_simp [iblk, e0]
  change V m c main_v7 _ = _
  rw [entry_v7]
  have h : ((View.whole main_v7).slice (win0_3.rect t)).emb (ix2 k f) = ix2 k f := by blk_ext [e0]
  rw [h]
  exact cols_apply _ k f hf

/-- The taps. -/
theorem read_t (t : Fin cfg0.N) (k : Fin 4) (f : Fin 3072) :
    iblk m c 4 t (ix2 k f) = m ((c : Thread nD τ).loc main_arg4) (ix2 k f) := by
  obtain ⟨-, -, -, -, e0, -⟩ := place t
  blk_simp [iblk, e0]
  change V m c main_arg4 _ = _
  rw [V_main_arg4]
  blk_ext [e0]

/-- The buffered rows, behind five of zeros. -/
theorem read_b (t : Fin cfg0.N) (j : Fin 3) (f : Fin 3072) :
    iblk m c 5 t (ix3 0 ⟨5 + j.val, by omega⟩ f) = m ((c : Thread nD τ).loc main_arg1) (ix3 (seq t) j f) := by
  have ht : t.val < 32 := t.isLt
  obtain ⟨-, -, -, -, -, e0, -⟩ := place t
  blk_simp [iblk, e0]
  change V m c main_v3 _ = _
  rw [entry_v3]
  have h : ((View.whole main_v3).slice (win0_5.rect t)).emb (ix3 0 ⟨5 + j.val, by omega⟩ f) = ix3 (seq t) ⟨5 + j.val, by omega⟩ f := by
    blk_ext [e0]
  rw [h]
  exact buf_apply _ _ j f

/-- The decays' logarithms. -/
theorem read_al (t : Fin cfg0.N) (f : Fin 128) (h8 : 8 ≤ f.val) (h16 : f.val < 16) :
    iblk m c 6 t (ix2 0 f) = m ((c : Thread nD τ).loc main_arg5) (ix1 ⟨f.val - 8, by omega⟩) := by
  obtain ⟨-, -, -, -, -, -, e0, -⟩ := place t
  blk_simp [iblk, e0]
  change V m c main_v9 _ = _
  rw [entry_v9]
  have h : ((View.whole main_v9).slice (win0_6.rect t)).emb (ix2 0 f) = ix2 0 f := by blk_ext [e0]
  rw [h]
  exact lane_apply _ f h8 h16

/-- The shifts of the decays. -/
theorem read_dt (t : Fin cfg0.N) (f : Fin 128) (h8 : 8 ≤ f.val) (h16 : f.val < 16) :
    iblk m c 7 t (ix2 0 f) = m ((c : Thread nD τ).loc main_arg6) (ix1 ⟨f.val - 8, by omega⟩) := by
  obtain ⟨-, -, -, -, -, -, -, e0, -⟩ := place t
  blk_simp [iblk, e0]
  change V m c main_v11 _ = _
  rw [entry_v11]
  have h : ((View.whole main_v11).slice (win0_7.rect t)).emb (ix2 0 f) = ix2 0 f := by blk_ext [e0]
  rw [h]
  exact lane_apply _ f h8 h16

/-- The rows as a function of the sequence and the place. -/
abbrev X : Fin 16 → Fin 2048 → Fin 1024 → EReal := fun b s k => m ((c : Thread nD τ).loc main_arg0) (ix3 b s k)

/-- The buffered rows. -/
abbrev B : Fin 16 → Fin 3 → Fin 3072 → EReal := fun b j f => m ((c : Thread nD τ).loc main_arg1) (ix3 b j f)

/-- The rows' norm's weight. -/
abbrev W : Fin 1024 → EReal := fun k => m ((c : Thread nD τ).loc main_arg2) (ix1 k)

/-- The whole input projection. -/
abbrev P : Fin 1024 → Fin 9232 → EReal := fun k f => m ((c : Thread nD τ).loc main_arg3) (ix2 k f)

/-- The taps. -/
abbrev K : Fin 4 → Fin 3072 → EReal := fun j f => m ((c : Thread nD τ).loc main_arg4) (ix2 j f)

/-- The decays' logarithms. -/
abbrev L : Fin 8 → EReal := fun j => m ((c : Thread nD τ).loc main_arg5) (ix1 j)

/-- The decays' shifts. -/
abbrev D : Fin 8 → EReal := fun j => m ((c : Thread nD τ).loc main_arg6) (ix1 j)

/-- A block's channels are the sequence's. -/
theorem chan_eq (t : Fin cfg0.N) (f : Fin 3072) (r : Fin 1024) :
    chanOf (iblk m c 0 t) (iblk m c 1 t) (iblk m c 2 t) f r = fed (X m c (seq t)) (W m c) (P m c) f (pos t r) := by
  unfold chanOf
  simp only [read_x, read_ln, read_w]
  rfl

/-- The rows found in the scratch are the last ones of the block before. -/
theorem found_eq (t : Fin cfg0.N) (j : Fin 8) (f : Fin 3072) :
    found m c t (ix2 j f)
      = fed (X m c (seq (before t))) (W m c) (P m c) f (pos (before t) ⟨1016 + j.val, by omega⟩) := by
  unfold found left
  rw [tail_apply, chan_eq]

/-- The rows before a row of a half sequence are those of the sequence, whether in the block, carried or buffered. -/
theorem past_of (b : BitVec 1) (x0 : Vec Ideal S1024x1024 .f32) (x1 : Vec Ideal S1x1024 .f32) (x2 : Vec Ideal S1024x3072 .bf16)
    (x5 : Vec Ideal S1x8x3072 .f32) (xs : Vec Ideal S8x3072 .f32) (f : Fin 3072) (r : Fin 1024) (s : Fin 4)
    (z : Fin 2048 → EReal) (u : Fin 3 → EReal) (p : ℕ) (hp : p < 2) (hb : b = if p = 0 then 1#1 else 0#1)
    (hz : ∀ r : Fin 1024, chanOf x0 x1 x2 f r = z ⟨1024 * p + r.val, by omega⟩)
    (h5 : ∀ j : Fin 3, x5 (ix3 0 ⟨5 + j.val, by omega⟩ f) = u j)
    (hs : p ≠ 0 → ∀ j : Fin 8, xs (ix2 j f) = z ⟨1016 + j.val, by omega⟩) :
    pastOf b x0 x1 x2 x5 xs f r s.val = ago z u ⟨1024 * p + r.val, by omega⟩ s.val := by
  have hs4 := s.isLt
  have s1 (a b : EReal) : Scalar.select 1#1 a b = a := rfl
  have s0 (a b : EReal) : Scalar.select 0#1 a b = b := rfl
  unfold pastOf ago
  by_cases h : r.val < s.val
  · rw [dif_pos h, hb]
    by_cases h0 : p = 0
    · subst h0
      rw [if_pos rfl, dif_pos (by show 1024 * 0 + r.val < s.val; omega), s1]
      have e1 : (⟨(8 + r.val - s.val) % 8, by omega⟩ : Fin 8)
          = ⟨5 + (⟨3 + r.val - s.val, by omega⟩ : Fin 3).val, by show 5 + (3 + r.val - s.val) < 8; omega⟩ :=
        Fin.ext (by show (8 + r.val - s.val) % 8 = 5 + (3 + r.val - s.val); omega)
      refine (congrArg (fun j => x5 (ix3 0 j f)) e1).trans ((h5 _).trans ?_)
      refine congrArg u (Fin.ext ?_)
      show 3 + r.val - s.val = 3 + (1024 * 0 + r.val) - s.val
      omega
    · rw [if_neg h0, dif_neg (by show ¬ 1024 * p + r.val < s.val; omega), s0, hs h0]
      refine congrArg z (Fin.ext ?_)
      show 1016 + (8 + r.val - s.val) % 8 = 1024 * p + r.val - s.val
      omega
  · rw [dif_neg h, dif_neg (by show ¬ 1024 * p + r.val < s.val; omega), hz]
    refine congrArg z (Fin.ext ?_)
    show 1024 * p + (r.val - s.val) = 1024 * p + r.val - s.val
    omega

/-- The rows before a block's row are those of the sequence. -/
theorem past_eq (t : Fin cfg0.N) (f : Fin 3072) (r : Fin 1024) (s : Fin 4) :
    pastOf (first (grid0.coords t)) (iblk m c 0 t) (iblk m c 1 t) (iblk m c 2 t) (iblk m c 5 t) (found m c t) f r s.val
      = ago (fed (X m c (seq t)) (W m c) (P m c) f) (fun j => B m c (seq t) j f) (pos t r) s.val := by
  have hd (h : t.val % 2 ≠ 0) (j : Fin 8) : found m c t (ix2 j f)
      = fed (X m c (seq t)) (W m c) (P m c) f ⟨1016 + j.val, by omega⟩ := by
    have q1 : seq (before t) = seq t := Fin.ext (by show (t.val - 1) / 2 = t.val / 2; omega)
    have q2 : pos (before t) ⟨1016 + j.val, by omega⟩ = ⟨1016 + j.val, by omega⟩ :=
      Fin.ext (by show 1024 * ((t.val - 1) % 2) + (1016 + j.val) = 1016 + j.val; omega)
    rw [found_eq, q1, q2]
  exact past_of _ _ _ _ _ _ f r s _ (fun j => B m c (seq t) j f) (t.val % 2) (by omega) (first_eq t) (chan_eq m c t f)
    (fun j => read_b m c t j f) hd

/-- The activated taps read the row itself and the three before. -/
theorem actH_congr (p q : ℕ → EReal) (w : Fin 4 → EReal) (h : ∀ s : Fin 4, p s.val = q s.val) : actH p w = actH q w := by
  have h0 : p 0 = q 0 := h 0
  have h1 : p 1 = q 1 := h 1
  have h2 : p 2 = q 2 := h 2
  have h3 : p 3 = q 3 := h 3
  unfold actH tapsH
  rw [h0, h1, h2, h3]

/-- A convolved channel of a block is the sequence's. -/
theorem mixed_eq (t : Fin cfg0.N) (f : Fin 3072) (r : Fin 1024) :
    actH (pastOf (first (grid0.coords t)) (iblk m c 0 t) (iblk m c 1 t) (iblk m c 2 t) (iblk m c 5 t) (found m c t) f r)
        (fun j => iblk m c 4 t (ix2 j f))
      = mixed actH (X m c (seq t)) (W m c) (P m c) (B m c (seq t)) (K m c) f (pos t r) := by
  simp only [read_t]
  exact actH_congr _ _ _ (past_eq m c t f r)

/-! ## The results -/

/-- The convolved rows of all sequences. -/
def convFn (a : (ℕ → EReal) → (Fin 4 → EReal) → EReal) (nq nk : (Fin 1024 → EReal) → Fin 8 → Fin 128 → EReal)
    (x : Fin 16 → Fin 2048 → Fin 1024 → EReal) (b : Fin 16 → Fin 3 → Fin 3072 → EReal) (w : Fin 1024 → EReal)
    (Z : Fin 1024 → Fin 9232 → EReal) (k : Fin 4 → Fin 3072 → EReal) (y : S32768x3072.Idx) : EReal :=
  heads a nq nk (x ⟨(y 0).val / 2048, by have h : (y 0).val < 32768 := (y 0).isLt; omega⟩) w Z
    (b ⟨(y 0).val / 2048, by have h : (y 0).val < 32768 := (y 0).isLt; omega⟩) k ⟨(y 0).val % 2048, by omega⟩
    ⟨(y 1).val / 1024, by have h : (y 1).val < 3072 := (y 1).isLt; omega⟩ ⟨(y 1).val % 1024 / 128, by omega⟩ ⟨(y 1).val % 128, by omega⟩

/-- The gates of all rows. -/
def gateFn (s : EReal → EReal) (x : Fin 16 → Fin 2048 → Fin 1024 → EReal) (w : Fin 1024 → EReal)
    (Z : Fin 1024 → Fin 9232 → EReal) (al dt : Fin 8 → EReal) (y : S32768x128.Idx) : EReal :=
  gates s (x ⟨(y 0).val / 2048, by have h : (y 0).val < 32768 := (y 0).isLt; omega⟩ ⟨(y 0).val % 2048, by omega⟩) w Z al dt (y 1)

/-- The last rows of every half sequence before the convolution. -/
def stateFn (x : Fin 16 → Fin 2048 → Fin 1024 → EReal) (w : Fin 1024 → EReal) (Z : Fin 1024 → Fin 9232 → EReal)
    (y : S32x8x3072.Idx) : EReal :=
  fed (x ⟨(y 0).val / 2, by have h : (y 0).val < 32 := (y 0).isLt; omega⟩) w Z (y 2)
    ⟨1024 * ((y 0).val % 2) + (1016 + (y 1).val), by have h : (y 1).val < 8 := (y 1).isLt; omega⟩

/-- The convolved rows' function at a row and a lane of a head. -/
theorem convFn_at (a : (ℕ → EReal) → (Fin 4 → EReal) → EReal) (nq nk : (Fin 1024 → EReal) → Fin 8 → Fin 128 → EReal)
    (x : Fin 16 → Fin 2048 → Fin 1024 → EReal) (b : Fin 16 → Fin 3 → Fin 3072 → EReal) (w : Fin 1024 → EReal)
    (Z : Fin 1024 → Fin 9232 → EReal) (k : Fin 4 → Fin 3072 → EReal) (y : S32768x3072.Idx) (q : Fin 16) (l : Fin 2048) (o : Fin 3)
    (g : Fin 8) (d : Fin 128) (h0 : (y 0).val = 2048 * q.val + l.val) (h1 : (y 1).val = 1024 * o.val + (128 * g.val + d.val)) :
    convFn a nq nk x b w Z k y = heads a nq nk (x q) w Z (b q) k l o g d := by
  have e0 : (y 0).val / 2048 = q.val := by omega
  have e1 : (y 0).val % 2048 = l.val := by omega
  have e2 : (y 1).val / 1024 = o.val := by omega
  have e3 : (y 1).val % 1024 / 128 = g.val := by omega
  have e4 : (y 1).val % 128 = d.val := by omega
  unfold convFn
  simp only [e0, e1, e2, e3, e4]

/-- The gates' function at a row and a lane. -/
theorem gateFn_at (s : EReal → EReal) (x : Fin 16 → Fin 2048 → Fin 1024 → EReal) (w : Fin 1024 → EReal)
    (Z : Fin 1024 → Fin 9232 → EReal) (al dt : Fin 8 → EReal) (y : S32768x128.Idx) (q : Fin 16) (l : Fin 2048) (f : Fin 128)
    (h0 : (y 0).val = 2048 * q.val + l.val) (h1 : y 1 = f) : gateFn s x w Z al dt y = gates s (x q l) w Z al dt f := by
  have e0 : (y 0).val / 2048 = q.val := by omega
  have e1 : (y 0).val % 2048 = l.val := by omega
  unfold gateFn
  simp only [e0, e1, h1]

/-- The last rows' function at a half, a row and a lane. -/
theorem stateFn_at (x : Fin 16 → Fin 2048 → Fin 1024 → EReal) (w : Fin 1024 → EReal) (Z : Fin 1024 → Fin 9232 → EReal)
    (y : S32x8x3072.Idx) (q : Fin 16) (l : Fin 2048) (f : Fin 3072) (h0 : (y 0).val / 2 = q.val)
    (h1 : 1024 * ((y 0).val % 2) + (1016 + (y 1).val) = l.val) (h2 : y 2 = f) : stateFn x w Z y = fed (x q) w Z f l := by
  unfold stateFn
  simp only [h0, h1, h2]

/-- A lane of the convolved rows is one of a head of a third. -/
theorem exists_lane (f : Fin 3072) : ∃ (o : Fin 3) (g : Fin 8) (d : Fin 128), f = ⟨1024 * o.val + (chan g d).val, by omega⟩ :=
  ⟨⟨f.val / 1024, by omega⟩, ⟨f.val % 1024 / 128, by omega⟩, ⟨f.val % 128, by omega⟩,
    Fin.ext (by show f.val = 1024 * (f.val / 1024) + (128 * (f.val % 1024 / 128) + f.val % 128); omega)⟩

/-- What the kernel leaves in its convolved rows. -/
theorem conv_value : (dats m 0 c).arrAt 8 cfg0.N
    = convFn actH (unitW (Ideal.ofBits .f32 0x43000000#32) (Ideal.ofBits .f32 0x390637BD#32))
        (unitW (Ideal.ofBits .f32 0x3F800000#32) (Ideal.ofBits .f32 0x358637BD#32)) (X m c) (B m c) (W m c) (P m c) (K m c) := by
  refine (dats m 0 c).arrAt_eq_of_covers 8 _ (by decide +kernel) fun t hf y => ?_
  have hp := (place t).2.2.2.2.2.2.2.2.1
  obtain ⟨r, e, rfl⟩ : ∃ (r : Fin 1024) (e : Fin 3072), y = ix2 r e := ⟨y 0, y 1, (ix2_eta y).symm⟩
  obtain ⟨o, g, d, rfl⟩ := exists_lane e
  have h0 : ((((cfg0.win 8).blk t).view.emb (ix2 r ⟨1024 * o.val + (chan g d).val, by omega⟩)) 0).val = 1024 * t.val + r.val := by
    blk_simp [hp]; omega
  have h1 : ((((cfg0.win 8).blk t).view.emb (ix2 r ⟨1024 * o.val + (chan g d).val, by omega⟩)) 1).val
      = 1024 * o.val + (128 * g.val + d.val) := by blk_simp [hp]
  refine Eq.trans ?_ (convFn_at _ _ _ _ _ _ _ _ (((cfg0.win 8).blk t).view.emb (ix2 r ⟨1024 * o.val + (chan g d).val, by omega⟩))
    (seq t) (pos t r) o g d (by rw [h0]; show _ = 2048 * (t.val / 2) + (1024 * (t.val % 2) + r.val); omega) h1).symm
  blk_simp
  rw [after8]
  unfold heads
  match o with
  | ⟨0, _⟩ =>
    have hi : (ix2 r ⟨1024 * 0 + (chan g d).val, by omega⟩ : S1024x3072.Idx) = ix2 r ⟨(chan g d).val, by omega⟩ :=
      congrArg (ix2 r) (Fin.ext (by show 1024 * 0 + (128 * g.val + d.val) = 128 * g.val + d.val; omega))
    refine (congrArg _ hi).trans ((conv_q _ _ _ _ _ _ _ r g d).trans ?_)
    exact congrArg (fun y => unitW _ _ y g d) (funext fun c' => mixed_eq m c t _ r)
  | ⟨1, _⟩ =>
    refine (conv_k _ _ _ _ _ _ _ r g d).trans ?_
    exact congrArg (fun y => unitW _ _ y g d) (funext fun c' => mixed_eq m c t _ r)
  | ⟨2, _⟩ =>
    refine (conv_v _ _ _ _ _ _ _ r (chan g d)).trans ?_
    exact mixed_eq m c t _ r

/-- What the kernel leaves in its gates. -/
theorem gate_value : (dats m 0 c).arrAt 9 cfg0.N = gateFn sigT (X m c) (W m c) (P m c) (L m c) (D m c) := by
  refine (dats m 0 c).arrAt_eq_of_covers 9 _ (by decide +kernel) fun t hf y => ?_
  have hp := (place t).2.2.2.2.2.2.2.2.2.1
  obtain ⟨r, e, rfl⟩ : ∃ (r : Fin 1024) (e : Fin 128), y = ix2 r e := ⟨y 0, y 1, (ix2_eta y).symm⟩
  have h0 : ((((cfg0.win 9).blk t).view.emb (ix2 r e)) 0).val = 1024 * t.val + r.val := by blk_simp [hp]; omega
  have h1 : (((cfg0.win 9).blk t).view.emb (ix2 r e)) 1 = e := Fin.ext (by blk_simp [hp])
  refine Eq.trans ?_ (gateFn_at _ _ _ _ _ _ (((cfg0.win 9).blk t).view.emb (ix2 r e)) (seq t) (pos t r) e
    (by rw [h0]; show _ = 2048 * (t.val / 2) + (1024 * (t.val % 2) + r.val); omega) h1).symm
  blk_simp
  rw [after9]
  refine (gate_apply _ _ _ _ _ r e).trans ?_
  unfold gates
  by_cases a8 : e.val < 8
  · rw [if_pos a8, dif_pos a8]
    simp only [read_x, read_ln, read_wg m c t _ e (by omega)]
    rfl
  · rw [if_neg a8, dif_neg a8]
    by_cases a16 : e.val < 16
    · rw [if_pos a16, dif_pos a16]
      simp only [read_x, read_ln, read_wg m c t _ e a16, read_al m c t e (by omega) a16, read_dt m c t e (by omega) a16]
      rfl
    · rw [if_neg a16, dif_neg a16]

/-- What the kernel leaves in its last rows. -/
theorem state_value : (dats m 0 c).arrAt 10 cfg0.N = stateFn (X m c) (W m c) (P m c) := by
  refine (dats m 0 c).arrAt_eq_of_covers 10 _ (by decide +kernel) fun t hf y => ?_
  have hp := (place t).2.2.2.2.2.2.2.2.2.2
  obtain ⟨o, j, e, rfl⟩ : ∃ (o : Fin 1) (j : Fin 8) (e : Fin 3072), y = ix3 o j e := ⟨y 0, y 1, y 2, (ix3_eta y).symm⟩
  obtain rfl : o = 0 := Subsingleton.elim _ _
  have h0 : ((((cfg0.win 10).blk t).view.emb (ix3 0 j e)) 0).val = t.val := by blk_simp [hp]; simp
  have h1 : ((((cfg0.win 10).blk t).view.emb (ix3 0 j e)) 1).val = j.val := by blk_simp [hp]
  have h2 : (((cfg0.win 10).blk t).view.emb (ix3 0 j e)) 2 = e := Fin.ext (by blk_simp [hp])
  refine Eq.trans ?_ (stateFn_at _ _ _ (((cfg0.win 10).blk t).view.emb (ix3 0 j e)) (seq t) (pos t ⟨1016 + j.val, by omega⟩) e
    (by rw [h0]) (by rw [h0, h1]) h2).symm
  blk_simp
  rw [after10]
  exact (state_apply _ _ _ j e).trans (chan_eq m c t e _)

/-- Every execution of the program ends, with its results at what the blocks leave and its arguments as they were. -/
theorem run_blocks (ρ : Dev nD → PrngReg) : θ_run (defs (F := Ideal)) (onTc (τ := τ) (main (F := Ideal))) ⟨m, fun _ => 0, ρ⟩
    (fun r => ∀ c : Dev nD,
      r.2.mem ((c.tc : Thread nD τ).loc main_v12_0) = (dats m 0 c).arrAt 8 cfg0.N
      ∧ r.2.mem ((c.tc : Thread nD τ).loc main_v12_1) = (dats m 0 c).arrAt 9 cfg0.N
      ∧ r.2.mem ((c.tc : Thread nD τ).loc main_v12_2) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h.1 c).1 8, (h.1 c).1 9, (h.1 c).1 10, h.2 c⟩)
    (θ_run_and (run m ρ) (frame_of m ρ (dats m) (A_eq m) (run m ρ)))

end Cert.Proofs.Conv
-- ==== Proof.ConvRefValue.lean ====
module

public import proofs.«01_k».proof.Proof.ConvMath
public import proofs.«01_k».proof.Proof.Gen.ConvRefIdeal.Read
public import Idealize.ShloMosaic.Lib.Pipeline.ValueKit

@[expose] public section

set_option maxRecDepth 16384

noncomputable section

namespace Cert.Proofs.ConvReference

open Cert.ConvRefIdeal Cert.ConvRefIdeal.Gen Cert.ConvRefIdeal.Read Idealize.ShloMosaic Idealize.ShloMosaic.TcCoe Idealize.SL.Sem
open Cert.Proofs.Layer

variable (x0 : Vec Ideal S16x2048x1024 .f32) (x1 : Vec Ideal S16x3x3072 .f32) (x2 : Vec Ideal S1024 .f32)
  (x3 : Vec Ideal S1024x9232 .f32) (x4 : Vec Ideal S4x3072 .f32) (x5 x6 : Vec Ideal S8 .f32)

/-- The normed rows. -/
theorem norm_apply (b : Fin 16) (s : Fin 2048) (d : Fin 1024) :
    val_main_v12 (F := Ideal) x0 x2 (ix3 b s d) = rms (fun k => x0 (ix3 b s k)) (fun k => x2 (ix1 k)) d := by
  unfold val_main_v12 val_main_v11 val_main_v10 val_main_v9 val_main_v8 val_main_v7 val_main_v6 val_main_v5 val_main_v4
    val_main_v3 val_main_v2 val_main_v1 val_main_v0 val_main_cst val_main_cst_0 val_main_cst_1 rms
  pointwise

/-- The projected rows. -/
theorem proj_apply (b : Fin 16) (s : Fin 2048) (f : Fin 9232) :
    val_main_v13 (F := Ideal) x0 x2 x3 (ix3 b s f)
      = proj (fun k => x0 (ix3 b s k)) (fun k => x2 (ix1 k)) (fun k f => x3 (ix2 k f)) f := by
  unfold proj
  simp only [← norm_apply]
  unfold val_main_v13
  generalize val_main_v12 (F := Ideal) x0 x2 = y
  pointwise

/-- The channels that the convolution takes. -/
theorem fed_apply (b : Fin 16) (s : Fin 2048) (f : Fin 3072) :
    val_main_v14 (F := Ideal) x0 x2 x3 (ix3 b s f)
      = fed (fun l k => x0 (ix3 b l k)) (fun k => x2 (ix1 k)) (fun k f => x3 (ix2 k f)) f s := by
  refine Eq.trans ?_ (proj_apply x0 x2 x3 b s ⟨3072 + f.val, by omega⟩)
  unfold val_main_v14
  generalize val_main_v13 (F := Ideal) x0 x2 x3 = y
  pointwise

/-- The rows with the buffered ones before them. -/
theorem padded_apply (b : Fin 16) (s : Fin 2048) (j : Fin 4) (f : Fin 3072) :
    val_main_v17 (F := Ideal) x0 x1 x2 x3 (ix3 b ⟨j.val + s.val, by omega⟩ f)
      = ago (fed (fun l k => x0 (ix3 b l k)) (fun k => x2 (ix1 k)) (fun k f => x3 (ix2 k f)) f) (fun i => x1 (ix3 b i f)) s
          (3 - j.val) := by
  have hj := j.isLt
  unfold ago
  simp only [← fed_apply]
  unfold val_main_v17
  generalize val_main_v14 (F := Ideal) x0 x2 x3 = y
  by_cases h : s.val < 3 - j.val
  · rw [dif_pos h]
    pointwise
    rw [dif_pos (by omega)]
    exact congrArg (fun i => x1 (ix3 b i f)) (Fin.ext (by show j.val + s.val = 3 + s.val - (3 - j.val); omega))
  · rw [dif_neg h]
    pointwise
    rw [dif_neg (by omega)]
    exact congrArg (fun i => y (ix3 b i f)) (Fin.ext (by show j.val + s.val - 3 = s.val - (3 - j.val); omega))

/-- The taps. -/
theorem taps_apply (b : Fin 16) (s : Fin 2048) (f : Fin 3072) :
    val_main_v40 (F := Ideal) x0 x1 x2 x3 x4 (ix3 b s f)
      = taps (ago (fed (fun l k => x0 (ix3 b l k)) (fun k => x2 (ix1 k)) (fun k f => x3 (ix2 k f)) f) (fun i => x1 (ix3 b i f)) s)
          (fun j => x4 (ix2 j f)) := by
  have h0 := padded_apply x0 x1 x2 x3 b s 0 f
  have h1 := padded_apply x0 x1 x2 x3 b s 1 f
  have h2 := padded_apply x0 x1 x2 x3 b s 2 f
  have h3 := padded_apply x0 x1 x2 x3 b s 3 f
  unfold taps
  refine Eq.trans ?_ (congrArg₂ (· + ·) (congrArg₂ (· + ·) (congrArg₂ (· + ·) (congrArg (· * _) h0) (congrArg (· * _) h1))
    (congrArg (· * _) h2)) (congrArg (· * _) h3))
  unfold val_main_v40 val_main_v39 val_main_v38 val_main_v37 val_main_v36 val_main_v35 val_main_v34 val_main_v33
    val_main_v32 val_main_v31 val_main_v30 val_main_v29 val_main_v28 val_main_v27 val_main_v26 val_main_v25 val_main_v24
    val_main_v23 val_main_v22 val_main_v21 val_main_v20 val_main_v19 val_main_v18
  generalize val_main_v17 (F := Ideal) x0 x1 x2 x3 = y
  pointwise

/-- The activated taps. -/
theorem mixed_apply (b : Fin 16) (s : Fin 2048) (f : Fin 3072) :
    val_main_v41 (F := Ideal) x0 x1 x2 x3 x4 (ix3 b s f)
      = mixed act (fun l k => x0 (ix3 b l k)) (fun k => x2 (ix1 k)) (fun k f => x3 (ix2 k f)) (fun j f => x1 (ix3 b j f))
          (fun j f => x4 (ix2 j f)) f s := by
  unfold mixed act silu Layer.sig
  rw [← taps_apply]
  unfold val_main_v41 val_main_call0_v5 val_main_call0_v4 val_main_call0_cst_0 val_main_call0_v3 val_main_call0_v2
    val_main_call0_cst val_main_call0_v1 val_main_call0_v0
  generalize val_main_v40 (F := Ideal) x0 x1 x2 x3 x4 = y
  pointwise

/-- The sums begin at zero. -/
theorem ofBits_zero : (FloatOps.ofBits .f32 0x00000000#32 : Ideal .f32) = (0 : EReal) := by
  show Ideal.ofBits .f32 0x00000000#32 = 0
  simp [Ideal.ofBits, Ideal.ieee]

/-- The queries' lanes as heads. -/
theorem qlane_apply (b : Fin 16) (s : Fin 2048) (g : Fin 8) (d : Fin 128) :
    val_main_v45 (F := Ideal) x0 x1 x2 x3 x4 (ix4 b s g d)
      = val_main_v41 (F := Ideal) x0 x1 x2 x3 x4 (ix3 b s ⟨(chan g d).val, by omega⟩) := by
  rw [val_main_v45_apply, val_main_v42_apply]
  refine congrArg (val_main_v41 (F := Ideal) x0 x1 x2 x3 x4) (funext fun a => Fin.ext ?_)
  match a with
  | ⟨0, _⟩ => show (((b.val * 2048 + s.val) * 8 + g.val) * 128 + d.val) / 2097152 = b.val; omega
  | ⟨1, _⟩ => show (((b.val * 2048 + s.val) * 8 + g.val) * 128 + d.val) / 1024 % 2048 = s.val; omega
  | ⟨2, _⟩ => show (((b.val * 2048 + s.val) * 8 + g.val) * 128 + d.val) % 1024 = 128 * g.val + d.val; omega

/-- The keys' lanes as heads. -/
theorem klane_apply (b : Fin 16) (s : Fin 2048) (g : Fin 8) (d : Fin 128) :
    val_main_v58 (F := Ideal) x0 x1 x2 x3 x4 (ix4 b s g d)
      = val_main_v41 (F := Ideal) x0 x1 x2 x3 x4 (ix3 b s ⟨1024 + (chan g d).val, by omega⟩) := by
  rw [val_main_v58_apply, val_main_v43_apply]
  refine congrArg (val_main_v41 (F := Ideal) x0 x1 x2 x3 x4) (funext fun a => Fin.ext ?_)
  match a with
  | ⟨0, _⟩ => show (((b.val * 2048 + s.val) * 8 + g.val) * 128 + d.val) / 2097152 = b.val; omega
  | ⟨1, _⟩ => show (((b.val * 2048 + s.val) * 8 + g.val) * 128 + d.val) / 1024 % 2048 = s.val; omega
  | ⟨2, _⟩ => show 1024 + (((b.val * 2048 + s.val) * 8 + g.val) * 128 + d.val) % 1024 = 1024 + (128 * g.val + d.val); omega

/-- The sum of a query head's squares. -/
theorem qsum_apply (b : Fin 16) (s : Fin 2048) (g : Fin 8) :
    val_main_v47 (F := Ideal) x0 x1 x2 x3 x4 (ix3 b s g)
      = ∑ x : Fin 128, val_main_v45 (F := Ideal) x0 x1 x2 x3 x4 (ix4 b s g x) * val_main_v45 (F := Ideal) x0 x1 x2 x3 x4 (ix4 b s g x) := by
  rw [val_main_v47_apply, val_main_cst_2_apply]
  refine Eq.trans (congrArg (· + _) ofBits_zero) ((zero_add _).trans (Finset.sum_congr rfl fun k _ => ?_))
  have h : idx_main_v47 (ix3 b s g) k = ix4 b s g k := funext fun a => match a with
    | ⟨0, _⟩ => rfl
    | ⟨1, _⟩ => rfl
    | ⟨2, _⟩ => rfl
    | ⟨3, _⟩ => rfl
  rw [h, val_main_v46_apply]
  generalize val_main_v45 (F := Ideal) x0 x1 x2 x3 x4 = y
  rfl

/-- The sum of a key head's squares. -/
theorem ksum_apply (b : Fin 16) (s : Fin 2048) (g : Fin 8) :
    val_main_v60 (F := Ideal) x0 x1 x2 x3 x4 (ix3 b s g)
      = ∑ x : Fin 128, val_main_v58 (F := Ideal) x0 x1 x2 x3 x4 (ix4 b s g x) * val_main_v58 (F := Ideal) x0 x1 x2 x3 x4 (ix4 b s g x) := by
  rw [val_main_v60_apply, val_main_cst_5_apply]
  refine Eq.trans (congrArg (· + _) ofBits_zero) ((zero_add _).trans (Finset.sum_congr rfl fun k _ => ?_))
  have h : idx_main_v60 (ix3 b s g) k = ix4 b s g k := funext fun a => match a with
    | ⟨0, _⟩ => rfl
    | ⟨1, _⟩ => rfl
    | ⟨2, _⟩ => rfl
    | ⟨3, _⟩ => rfl
  rw [h, val_main_v59_apply]
  generalize val_main_v58 (F := Ideal) x0 x1 x2 x3 x4 = y
  rfl

/-- The queries' heads over their length, scaled. -/
theorem qhead_apply (b : Fin 16) (s : Fin 2048) (g : Fin 8) (d : Fin 128) :
    val_main_v57 (F := Ideal) x0 x1 x2 x3 x4 (ix4 b s g d)
      = unitQ (fun c => val_main_v41 (F := Ideal) x0 x1 x2 x3 x4 (ix3 b s ⟨c.val, by omega⟩)) g d := by
  have h : idx_main_v48 (idx_main_v52 (ix4 b s g d)) = ix3 b s g := funext fun a => match a with
    | ⟨0, _⟩ => rfl
    | ⟨1, _⟩ => rfl
    | ⟨2, _⟩ => rfl
  unfold unitQ unit
  rw [val_main_v57_apply, val_main_v53_apply, val_main_v52_apply, val_main_v51_apply, val_main_v50_apply, val_main_v49_apply,
    val_main_v48_apply, val_main_v56_apply, h, qsum_apply, val_main_cst_3_apply]
  unfold val_main_v55
  rw [id, val_main_v54_apply, val_main_cst_4_apply]
  simp only [qlane_apply]
  generalize val_main_v41 (F := Ideal) x0 x1 x2 x3 x4 = y
  rfl

/-- The keys' heads over their length. -/
theorem khead_apply (b : Fin 16) (s : Fin 2048) (g : Fin 8) (d : Fin 128) :
    val_main_v66 (F := Ideal) x0 x1 x2 x3 x4 (ix4 b s g d)
      = unit (fun c => val_main_v41 (F := Ideal) x0 x1 x2 x3 x4 (ix3 b s ⟨1024 + c.val, by omega⟩)) g d := by
  have h : idx_main_v61 (idx_main_v65 (ix4 b s g d)) = ix3 b s g := funext fun a => match a with
    | ⟨0, _⟩ => rfl
    | ⟨1, _⟩ => rfl
    | ⟨2, _⟩ => rfl
  unfold unit
  rw [val_main_v66_apply, val_main_v65_apply, val_main_v64_apply, val_main_v63_apply, val_main_v62_apply, val_main_v61_apply, h,
    ksum_apply, val_main_cst_6_apply]
  simp only [klane_apply]
  generalize val_main_v41 (F := Ideal) x0 x1 x2 x3 x4 = y
  rfl

/-- The queries' rows. -/
theorem query_apply (r : Fin 32768) (g : Fin 8) (d : Fin 128) :
    val_main_v88 (F := Ideal) x0 x1 x2 x3 x4 (ix2 r (chan g d))
      = unitQ (fun c => val_main_v41 (F := Ideal) x0 x1 x2 x3 x4
          (ix3 ⟨r.val / 2048, by omega⟩ ⟨r.val % 2048, by omega⟩ ⟨c.val, by omega⟩)) g d := by
  rw [← qhead_apply, val_main_v88_apply]
  refine congrArg (val_main_v57 (F := Ideal) x0 x1 x2 x3 x4) (funext fun a => Fin.ext ?_)
  match a with
  | ⟨0, _⟩ => show (r.val * 1024 + (128 * g.val + d.val)) / 2097152 = r.val / 2048; omega
  | ⟨1, _⟩ => show (r.val * 1024 + (128 * g.val + d.val)) / 1024 % 2048 = r.val % 2048; omega
  | ⟨2, _⟩ => show (r.val * 1024 + (128 * g.val + d.val)) / 128 % 8 = g.val; omega
  | ⟨3, _⟩ => show (r.val * 1024 + (128 * g.val + d.val)) % 128 = d.val; omega

/-- The keys' rows. -/
theorem key_apply (r : Fin 32768) (g : Fin 8) (d : Fin 128) :
    val_main_v89 (F := Ideal) x0 x1 x2 x3 x4 (ix2 r (chan g d))
      = unit (fun c => val_main_v41 (F := Ideal) x0 x1 x2 x3 x4
          (ix3 ⟨r.val / 2048, by omega⟩ ⟨r.val % 2048, by omega⟩ ⟨1024 + c.val, by omega⟩)) g d := by
  rw [← khead_apply, val_main_v89_apply]
  refine congrArg (val_main_v66 (F := Ideal) x0 x1 x2 x3 x4) (funext fun a => Fin.ext ?_)
  match a with
  | ⟨0, _⟩ => show (r.val * 1024 + (128 * g.val + d.val)) / 2097152 = r.val / 2048; omega
  | ⟨1, _⟩ => show (r.val * 1024 + (128 * g.val + d.val)) / 1024 % 2048 = r.val % 2048; omega
  | ⟨2, _⟩ => show (r.val * 1024 + (128 * g.val + d.val)) / 128 % 8 = g.val; omega
  | ⟨3, _⟩ => show (r.val * 1024 + (128 * g.val + d.val)) % 128 = d.val; omega

/-- The values' heads. -/
theorem value_apply (r : Fin 32768) (e : Fin 1024) :
    val_main_v90 (F := Ideal) x0 x1 x2 x3 x4 (ix2 r e)
      = val_main_v41 (F := Ideal) x0 x1 x2 x3 x4
          (ix3 ⟨r.val / 2048, by omega⟩ ⟨r.val % 2048, by omega⟩ ⟨2048 + e.val, by omega⟩) := by
  unfold val_main_v90 val_main_v44
  generalize val_main_v41 (F := Ideal) x0 x1 x2 x3 x4 = y
  pointwise

/-- The three thirds of the convolved rows. -/
theorem thirds_apply (r : Fin 32768) (e : Fin 1024) :
    val_main_v91 (F := Ideal) x0 x1 x2 x3 x4 (ix2 r ⟨e.val, by omega⟩) = val_main_v88 (F := Ideal) x0 x1 x2 x3 x4 (ix2 r e)
    ∧ val_main_v91 (F := Ideal) x0 x1 x2 x3 x4 (ix2 r ⟨1024 + e.val, by omega⟩) = val_main_v89 (F := Ideal) x0 x1 x2 x3 x4 (ix2 r e)
    ∧ val_main_v91 (F := Ideal) x0 x1 x2 x3 x4 (ix2 r ⟨2048 + e.val, by omega⟩)
        = val_main_v90 (F := Ideal) x0 x1 x2 x3 x4 (ix2 r e) := by
  unfold val_main_v91
  generalize val_main_v88 (F := Ideal) x0 x1 x2 x3 x4 = y
  generalize val_main_v89 (F := Ideal) x0 x1 x2 x3 x4 = z
  generalize val_main_v90 (F := Ideal) x0 x1 x2 x3 x4 = w
  refine ⟨?_, ?_, ?_⟩
  · pointwise
  · pointwise
  · pointwise
    rw [dif_neg (by omega), dif_neg (by omega)]
    exact congrArg (fun i => w (ix2 r i)) (Fin.ext (by show 2048 + e.val - 1024 - 1024 = e.val; omega))

/-- The last rows of the half sequences before the convolution. -/
theorem state_apply (o : Fin 32) (j : Fin 8) (f : Fin 3072) :
    val_main_v97 (F := Ideal) x0 x2 x3 (ix3 o j f)
      = fed (fun l k => x0 (ix3 ⟨o.val / 2, by omega⟩ l k)) (fun k => x2 (ix1 k)) (fun k f => x3 (ix2 k f)) f
          ⟨1024 * (o.val % 2) + (1016 + j.val), by omega⟩ := by
  refine Eq.trans ?_ (fed_apply x0 x2 x3 ⟨o.val / 2, by omega⟩ ⟨1024 * (o.val % 2) + (1016 + j.val), by omega⟩ f)
  rw [val_main_v97_apply, val_main_v96_apply]
  refine congrArg (val_main_v14 (F := Ideal) x0 x2 x3) (funext fun a => Fin.ext ?_)
  match a with
  | ⟨0, _⟩ => show ((o.val * 1024 + (1016 + j.val)) * 3072 + f.val) / 6291456 = o.val / 2; omega
  | ⟨1, _⟩ =>
    show ((o.val * 1024 + (1016 + j.val)) * 3072 + f.val) / 3072 % 2048 = 1024 * (o.val % 2) + (1016 + j.val)
    omega
  | ⟨2, _⟩ => show ((o.val * 1024 + (1016 + j.val)) * 3072 + f.val) % 3072 = f.val; omega

/-- The logistic gates. -/
theorem beta_apply (r : Fin 32768) (e : Fin 8) :
    val_main_v92 (F := Ideal) x0 x2 x3 (ix2 r e)
      = Layer.sig (proj (fun k => x0 (ix3 ⟨r.val / 2048, by omega⟩ ⟨r.val % 2048, by omega⟩ k)) (fun k => x2 (ix1 k))
          (fun k f => x3 (ix2 k f)) ⟨7168 + e.val, by omega⟩) := by
  unfold Layer.sig
  rw [← proj_apply]
  unfold val_main_v92 val_main_v72 val_main_v71 val_main_v70 val_main_v69 val_main_v68 val_main_v67 val_main_cst_7
    val_main_cst_8 val_main_v15
  generalize val_main_v13 (F := Ideal) x0 x2 x3 = y
  pointwise

/-- The smooth maximum of the shifted gates. -/
theorem soft_apply (b : Fin 16) (s : Fin 2048) (e : Fin 8) :
    val_main_v82 (F := Ideal) x0 x2 x3 x6 (ix3 b s e) = softplus (val_main_v75 (F := Ideal) x0 x2 x3 x6 (ix3 b s e)) := by
  unfold softplus val_main_v82 val_main_v81 val_main_v80 val_main_v79 val_main_v78 val_main_v77 val_main_v76
    val_main_cst_9
  generalize val_main_v75 (F := Ideal) x0 x2 x3 x6 = y
  pointwise
  rfl

/-- The decays. -/
theorem decay_apply (r : Fin 32768) (e : Fin 8) :
    val_main_v93 (F := Ideal) x0 x2 x3 x5 x6 (ix2 r e)
      = -Ideal.exp (x5 (ix1 e)) * softplus (proj (fun k => x0 (ix3 ⟨r.val / 2048, by omega⟩ ⟨r.val % 2048, by omega⟩ k))
          (fun k => x2 (ix1 k)) (fun k f => x3 (ix2 k f)) ⟨7176 + e.val, by omega⟩ + x6 (ix1 e)) := by
  have h : val_main_v75 (F := Ideal) x0 x2 x3 x6 (ix3 ⟨r.val / 2048, by omega⟩ ⟨r.val % 2048, by omega⟩ e)
      = proj (fun k => x0 (ix3 ⟨r.val / 2048, by omega⟩ ⟨r.val % 2048, by omega⟩ k))
          (fun k => x2 (ix1 k)) (fun k f => x3 (ix2 k f)) ⟨7176 + e.val, by omega⟩ + x6 (ix1 e) := by
    rw [← proj_apply]
    unfold val_main_v75 val_main_v74 val_main_v73 val_main_v16
    generalize val_main_v13 (F := Ideal) x0 x2 x3 = y
    pointwise
  rw [← h, ← soft_apply]
  unfold val_main_v93 val_main_v87 val_main_v86 val_main_v85 val_main_v84 val_main_v83
  generalize val_main_v82 (F := Ideal) x0 x2 x3 x6 = y
  pointwise

/-- The convolved rows are the problem's heads. -/
theorem rows_apply (r : Fin 32768) (o : Fin 3) (g : Fin 8) (d : Fin 128) :
    val_main_v91 (F := Ideal) x0 x1 x2 x3 x4 (ix2 r ⟨1024 * o.val + (chan g d).val, by omega⟩)
      = heads act unitQ unit (fun l k => x0 (ix3 ⟨r.val / 2048, by omega⟩ l k)) (fun k => x2 (ix1 k)) (fun k f => x3 (ix2 k f))
          (fun j f => x1 (ix3 ⟨r.val / 2048, by omega⟩ j f)) (fun j f => x4 (ix2 j f)) ⟨r.val % 2048, by omega⟩ o g d := by
  obtain ⟨h0, h1, h2⟩ := thirds_apply x0 x1 x2 x3 x4 r (chan g d)
  unfold heads
  match o with
  | ⟨0, _⟩ =>
    have hi : (ix2 r ⟨1024 * 0 + (chan g d).val, by omega⟩ : S32768x3072.Idx) = ix2 r ⟨(chan g d).val, by omega⟩ :=
      congrArg (ix2 r) (Fin.ext (by show 1024 * 0 + (128 * g.val + d.val) = 128 * g.val + d.val; omega))
    refine (congrArg (val_main_v91 (F := Ideal) x0 x1 x2 x3 x4) hi).trans (h0.trans ((query_apply x0 x1 x2 x3 x4 r g d).trans ?_))
    exact congrArg (fun y => unitQ y g d) (funext fun c => mixed_apply x0 x1 x2 x3 x4 _ _ _)
  | ⟨1, _⟩ =>
    refine h1.trans ((key_apply x0 x1 x2 x3 x4 r g d).trans ?_)
    exact congrArg (fun y => unit y g d) (funext fun c => mixed_apply x0 x1 x2 x3 x4 _ _ _)
  | ⟨2, _⟩ =>
    refine h2.trans ((value_apply x0 x1 x2 x3 x4 r (chan g d)).trans ?_)
    exact mixed_apply x0 x1 x2 x3 x4 _ _ _

/-- The gates' three groups of lanes. -/
theorem groups_apply (r : Fin 32768) (f : Fin 128) :
    val_main_v95 (F := Ideal) x0 x2 x3 x5 x6 (ix2 r f)
      = if h : f.val < 8 then val_main_v92 (F := Ideal) x0 x2 x3 (ix2 r ⟨f.val, h⟩)
        else if h' : f.val < 16 then val_main_v93 (F := Ideal) x0 x2 x3 x5 x6 (ix2 r ⟨f.val - 8, by omega⟩) else 0 := by
  unfold val_main_v95 val_main_v94 val_main_cst_10
  generalize val_main_v92 (F := Ideal) x0 x2 x3 = y
  generalize val_main_v93 (F := Ideal) x0 x2 x3 x5 x6 = z
  by_cases h : f.val < 8
  · rw [dif_pos h]
    pointwise
    rw [dif_pos h]
  · rw [dif_neg h]
    by_cases h' : f.val < 16
    · rw [dif_pos h']
      pointwise
      rw [dif_neg h, dif_pos (by omega)]
    · rw [dif_neg h']
      pointwise
      rw [dif_neg h, dif_neg (by omega)]

/-- The gates are the problem's. -/
theorem gates_apply (r : Fin 32768) (f : Fin 128) :
    val_main_v95 (F := Ideal) x0 x2 x3 x5 x6 (ix2 r f)
      = gates Layer.sig (fun k => x0 (ix3 ⟨r.val / 2048, by omega⟩ ⟨r.val % 2048, by omega⟩ k)) (fun k => x2 (ix1 k))
          (fun k f => x3 (ix2 k f)) (fun j => x5 (ix1 j)) (fun j => x6 (ix1 j)) f := by
  rw [groups_apply]
  unfold gates
  by_cases h : f.val < 8
  · rw [dif_pos h, dif_pos h]
    exact beta_apply x0 x2 x3 r ⟨f.val, h⟩
  · rw [dif_neg h, dif_neg h]
    by_cases h' : f.val < 16
    · rw [dif_pos h', dif_pos h']
      refine (decay_apply x0 x2 x3 x5 x6 r ⟨f.val - 8, by omega⟩).trans ?_
      have e : (⟨7176 + (f.val - 8), by omega⟩ : Fin 9232) = ⟨7168 + f.val, by omega⟩ :=
        Fin.ext (by show 7176 + (f.val - 8) = 7168 + f.val; omega)
      show -Ideal.exp _ * softplus (proj _ _ _ ⟨7176 + (f.val - 8), by omega⟩ + _) = _
      rw [e]
    · rw [dif_neg h', dif_neg h']

end Cert.Proofs.ConvReference
-- ==== Proof.ConvClaim.lean ====
module

public import proofs.«01_k».proof.Defs
public import proofs.«01_k».proof.Proof.Pre
public import proofs.«01_k».proof.Proof.ConvRun
public import proofs.«01_k».proof.Proof.ConvIdealRun
public import proofs.«01_k».proof.Proof.ConvKernel
public import proofs.«01_k».proof.Proof.ConvRefValue
public import proofs.«01_k».proof.Proof.Gen.ConvRefIdeal.Run
public import proofs.«01_k».proof.Proof.Gen.Pre_conv_finite

@[expose] public section

set_option maxRecDepth 16384

noncomputable section

namespace Cert.Proofs.Conv

open Idealize.ShloMosaic Idealize.SL.Sem

instance : Subsingleton (Cert.Pre_conv_finite.S_).Idx := ⟨fun _ _ => funext fun a => a.elim0⟩

section
open Cert.Pre_conv_finite Cert.Pre_conv_finite.Gen

/-- The precondition says that every element of the arguments it names is a real. -/
theorem real_args (x0 : FVec Ideal S16x2048x1024 .f32) (x1 : FVec Ideal S16x3x3072 .f32) (x2 : FVec Ideal S1024 .f32)
    (x3 : FVec Ideal S1024x9232 .f32) (x4 : FVec Ideal S4x3072 .f32) (x5 x6 : FVec Ideal S8 .f32)
    (h : fn (F := Ideal) x0 x1 x2 x3 x4 x5 x6 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) := by
  have h1 := congrFun h (fun a => a.elim0)
  unfold fn fn_part1 at h1
  obtain ⟨h1, e4⟩ := IntOp.andi_eq_one.1 h1
  obtain ⟨h1, e3⟩ := IntOp.andi_eq_one.1 h1
  obtain ⟨h1, e2⟩ := IntOp.andi_eq_one.1 h1
  obtain ⟨e0, e1⟩ := IntOp.andi_eq_one.1 h1
  exact ⟨Finite.real_of_all x0 _ _ _ _ _ e0, Finite.real_of_all x1 _ _ _ _ _ e1, Finite.real_of_all x2 _ _ _ _ _ e2,
    Finite.real_of_all x3 _ _ _ _ _ e3, Finite.real_of_all x4 _ _ _ _ _ e4⟩
end

/-- On finite rows, buffered rows, weights and taps the kernel and the reference leave the same convolved rows, gates and
last rows. -/
theorem algebraic : Cert.algebraic_ConvIdeal_ConvRefIdeal_pre_conv_finite (hConvIdeal := Cert.ConvIdeal.Gen.facts)
    (hConvRefIdeal := Cert.ConvRefIdeal.Gen.facts) (hPre_conv_finite := Cert.Pre_conv_finite.Gen.facts) := by
  intro m g m' g' hpre hagree
  refine ⟨fun c => (Cert.ConvIdeal.Carry.dats m 0 c).arrAt 8 Cert.ConvIdeal.cfg0.N,
    fun c => (Cert.ConvIdeal.Carry.dats m 0 c).arrAt 9 Cert.ConvIdeal.cfg0.N,
    fun c => (Cert.ConvIdeal.Carry.dats m 0 c).arrAt 10 Cert.ConvIdeal.cfg0.N, run_blocks m g, ?_⟩
  refine (θ_run _ _ _).mono (fun r h c => ⟨?_, ?_, ?_, (h c).2.2.2⟩) (Cert.ConvRefIdeal.Value.run m' g')
  · obtain ⟨a0, a1, a2, a3, a4, a5, a6⟩ := hagree c
    obtain ⟨r0, r1, r2, r3, r4⟩ := real_args _ _ _ _ _ _ _ (hpre c)
    refine (h c).1.trans ?_
    rw [Cert.ConvRefIdeal.Read.val_main_v91_eq, a0, a1, a2, a3, a4]
    refine Eq.trans ?_ (conv_value m c).symm
    funext y
    obtain ⟨r, e, rfl⟩ : ∃ (r : Fin 32768) (e : Fin 3072), y = ix2 r e := ⟨y 0, y 1, (ix2_eta y).symm⟩
    obtain ⟨o, g, d, rfl⟩ := exists_lane e
    refine (ConvReference.rows_apply _ _ _ _ _ r o g d).trans ?_
    refine Eq.trans ?_ (convFn_at _ _ _ (X m c) (B m c) (W m c) (P m c) (K m c)
      (ix2 r ⟨1024 * o.val + (Layer.chan g d).val, by omega⟩) ⟨r.val / 2048, by omega⟩ ⟨r.val % 2048, by omega⟩ o g d
      (by show r.val = 2048 * (r.val / 2048) + r.val % 2048; omega) rfl).symm
    exact (Layer.heads_eq _ _ _ _ _ _ o g d (fun l k => r0 _) (fun k => r2 _) (fun k f => r3 _) (fun j f => r1 _)
      fun j f => r4 _).symm
  · obtain ⟨a0, a1, a2, a3, a4, a5, a6⟩ := hagree c
    obtain ⟨r0, r1, r2, r3, r4⟩ := real_args _ _ _ _ _ _ _ (hpre c)
    refine (h c).2.1.trans ?_
    rw [Cert.ConvRefIdeal.Read.val_main_v95_eq, a0, a2, a3, a5, a6]
    refine Eq.trans ?_ (gate_value m c).symm
    funext y
    obtain ⟨r, e, rfl⟩ : ∃ (r : Fin 32768) (e : Fin 128), y = ix2 r e := ⟨y 0, y 1, (ix2_eta y).symm⟩
    refine (ConvReference.gates_apply _ _ _ _ _ r e).trans ?_
    refine Eq.trans ?_ (gateFn_at _ (X m c) (W m c) (P m c) (L m c) (D m c) (ix2 r e) ⟨r.val / 2048, by omega⟩
      ⟨r.val % 2048, by omega⟩ e (by show r.val = 2048 * (r.val / 2048) + r.val % 2048; omega) rfl).symm
    exact (Layer.gates_eq _ _ _ _ _ e (fun k => r0 _) (fun k => r2 _) fun k f => r3 _).symm
  · obtain ⟨a0, a1, a2, a3, a4, a5, a6⟩ := hagree c
    refine (h c).2.2.1.trans ?_
    rw [a0, a2, a3]
    refine (Cert.ConvRefIdeal.Read.val_main_v97_eq _ _ _).trans ?_
    refine Eq.trans ?_ (state_value m c).symm
    funext y
    obtain ⟨o, j, f, rfl⟩ : ∃ (o : Fin 32) (j : Fin 8) (f : Fin 3072), y = ix3 o j f := ⟨y 0, y 1, y 2, (ix3_eta y).symm⟩
    exact (ConvReference.state_apply _ _ _ o j f).trans (stateFn_at (X m c) (W m c) (P m c) (ix3 o j f) ⟨o.val / 2, by omega⟩
      ⟨1024 * (o.val % 2) + (1016 + j.val), by omega⟩ f rfl rfl rfl).symm

end Cert.Proofs.Conv
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_inputs
public import proofs.«01_k».proof.Proof.Gen.FfnIdeal.Value
public import proofs.«01_k».proof.Proof.Gen.MergeIdeal.Value
public import proofs.«01_k».proof.Proof.Gen.FfnRefIdeal.Run
public import proofs.«01_k».proof.Proof.Gen.FfnRefIdeal.Read
public import proofs.«01_k».proof.Proof.Gen.MergeRefIdeal.Run
public import proofs.«01_k».proof.Proof.Gen.MergeRefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.FfnRefIdeal
public import proofs.«01_k».proof.Proof.Gen.MergeRefIdeal
public import proofs.«01_k».proof.Proof.Gen.Pre_ffn_finite
public import proofs.«01_k».proof.Proof.Gen.Pre_merge_finite
public import proofs.«01_k».proof.Proof.SampleClaim
public import proofs.«01_k».proof.Proof.FfnClaim
public import proofs.«01_k».proof.Proof.MergeClaim
public import proofs.«01_k».proof.Proof.ProjectClaim
public import proofs.«01_k».proof.Proof.ProjectSampleClaim
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.ProjectIdeal.Value
public import proofs.«01_k».proof.Proof.Gen.ProjectRefIdeal
public import proofs.«01_k».proof.Proof.Gen.ProjectRefIdeal.Run
public import proofs.«01_k».proof.Proof.Gen.ProjectRefIdeal.Read
public import proofs.«01_k».proof.Proof.Gen.ProjectSample
public import proofs.«01_k».proof.Proof.Gen.ProjectSample.Skeleton
public import proofs.«01_k».proof.Proof.Gen.ProjectSample.Launch
public import proofs.«01_k».proof.Proof.Gen.ProjectSample.Points
public import proofs.«01_k».proof.Proof.Gen.ProjectSample.Frame
public import proofs.«01_k».proof.Proof.Gen.ProjectSampleIdeal
public import proofs.«01_k».proof.Proof.Gen.ProjectSampleIdeal.Skeleton
public import proofs.«01_k».proof.Proof.Gen.ProjectSampleIdeal.Launch
public import proofs.«01_k».proof.Proof.Gen.ProjectSampleIdeal.Points
public import proofs.«01_k».proof.Proof.Gen.ProjectSampleIdeal.Frame
public import proofs.«01_k».proof.Proof.Gen.ProjectSampleIdeal.Value
public import proofs.«01_k».proof.Proof.Gen.ProjectSampleRefIdeal
public import proofs.«01_k».proof.Proof.Gen.ProjectSampleRefIdeal.Run
public import proofs.«01_k».proof.Proof.Gen.ProjectSampleRefIdeal.Read
public import proofs.«01_k».proof.Proof.FfnSampleClaim
public import proofs.«01_k».proof.Proof.ConvClaim
public import proofs.«01_k».proof.Proof.Gen.FfnSample
public import proofs.«01_k».proof.Proof.Gen.FfnSample.Skeleton
public import proofs.«01_k».proof.Proof.Gen.FfnSample.Launch
public import proofs.«01_k».proof.Proof.Gen.FfnSample.Points
public import proofs.«01_k».proof.Proof.Gen.FfnSample.Frame
public import proofs.«01_k».proof.Proof.Gen.FfnSampleIdeal
public import proofs.«01_k».proof.Proof.Gen.FfnSampleIdeal.Skeleton
public import proofs.«01_k».proof.Proof.Gen.FfnSampleIdeal.Launch
public import proofs.«01_k».proof.Proof.Gen.FfnSampleIdeal.Points
public import proofs.«01_k».proof.Proof.Gen.FfnSampleIdeal.Frame
public import proofs.«01_k».proof.Proof.Gen.FfnSampleIdeal.Value
public import proofs.«01_k».proof.Proof.Gen.FfnSampleRefIdeal
public import proofs.«01_k».proof.Proof.Gen.FfnSampleRefIdeal.Run
public import proofs.«01_k».proof.Proof.Gen.FfnSampleRefIdeal.Read
public import proofs.«01_k».proof.Proof.Gen.Pre_ffn_sample_finite
public import proofs.«01_k».proof.Proof.ConvRun
public import proofs.«01_k».proof.Proof.ConvIdealRun
public import proofs.«01_k».proof.Proof.Gen.Conv
public import proofs.«01_k».proof.Proof.Gen.ConvIdeal
public import proofs.«01_k».proof.Proof.Gen.ConvRefIdeal
public import proofs.«01_k».proof.Proof.Gen.ConvRefIdeal.Run
public import proofs.«01_k».proof.Proof.Gen.ConvRefIdeal.Read
public import proofs.«01_k».proof.Proof.Gen.Pre_conv_finite
public import Idealize.ShloMosaic.Adequacy
public import Idealize.ShloMosaic.Init

@[expose] public section

noncomputable section

namespace Cert.Proof

open Idealize.ShloMosaic Idealize.SL.Sem Cert.Kernel

/-- The claim: the programs' frames, and the kernel's result equal to the reference's. -/
theorem claim : Cert.Claim := ⟨Cert.Kernel.Gen.facts,
  Cert.KernelIdeal.Gen.facts,
  Cert.ReferenceIdeal.Gen.facts,
  Cert.Ffn.Gen.facts,
  Cert.FfnIdeal.Gen.facts,
  Cert.FfnRefIdeal.Gen.facts,
  Cert.Merge.Gen.facts,
  Cert.MergeIdeal.Gen.facts,
  Cert.MergeRefIdeal.Gen.facts,
  Cert.Project.Gen.facts,
  Cert.ProjectIdeal.Gen.facts,
  Cert.ProjectRefIdeal.Gen.facts,
  Cert.ProjectSample.Gen.facts,
  Cert.ProjectSampleIdeal.Gen.facts,
  Cert.ProjectSampleRefIdeal.Gen.facts,
  Cert.FfnSample.Gen.facts,
  Cert.FfnSampleIdeal.Gen.facts,
  Cert.FfnSampleRefIdeal.Gen.facts,
  Cert.Conv.Gen.facts,
  Cert.ConvIdeal.Gen.facts,
  Cert.ConvRefIdeal.Gen.facts,
  Cert.Pre_finite_inputs.Gen.facts,
  Cert.Pre_ffn_finite.Gen.facts,
  Cert.Pre_merge_finite.Gen.facts,
  Cert.Pre_ffn_sample_finite.Gen.facts,
  Cert.Pre_conv_finite.Gen.facts,
  fun m ρ _ => Cert.Kernel.Gen.frame m ρ,
  fun m ρ _ => Cert.KernelIdeal.Gen.frame m ρ,
  fun m ρ _ => Cert.KernelIdeal.Gen.frame m ρ,
  fun m ρ _ => (θ_run _ _ _).mono (fun r h => ⟨fun c => (h c).2, Idealize.ShloMosaic.sem_eq_zero_of_no_sems (by decide) r.2⟩)
    (Cert.ReferenceIdeal.Value.run m ρ),
  fun m ρ _ => (θ_run _ _ _).mono (fun r h => ⟨fun c => (h c).2, Idealize.ShloMosaic.sem_eq_zero_of_no_sems (by decide) r.2⟩)
    (Cert.ReferenceIdeal.Value.run m ρ),
  fun m ρ _ => Cert.Ffn.Gen.frame m ρ,
  fun m ρ _ => Cert.FfnIdeal.Gen.frame m ρ,
  fun m ρ _ => Cert.FfnIdeal.Gen.frame m ρ,
  fun m ρ _ => (θ_run _ _ _).mono (fun r h => ⟨fun c => (h c).2, Idealize.ShloMosaic.sem_eq_zero_of_no_sems (by decide) r.2⟩)
    (Cert.FfnRefIdeal.Value.run m ρ),
  fun m ρ _ => (θ_run _ _ _).mono (fun r h => ⟨fun c => (h c).2, Idealize.ShloMosaic.sem_eq_zero_of_no_sems (by decide) r.2⟩)
    (Cert.FfnRefIdeal.Value.run m ρ),
  fun m ρ _ => Cert.Merge.Gen.frame m ρ,
  fun m ρ _ => Cert.MergeIdeal.Gen.frame m ρ,
  fun m ρ _ => Cert.MergeIdeal.Gen.frame m ρ,
  fun m ρ _ => (θ_run _ _ _).mono (fun r h => ⟨fun c => (h c).2, Idealize.ShloMosaic.sem_eq_zero_of_no_sems (by decide) r.2⟩)
    (Cert.MergeRefIdeal.Value.run m ρ),
  fun m ρ _ => (θ_run _ _ _).mono (fun r h => ⟨fun c => (h c).2, Idealize.ShloMosaic.sem_eq_zero_of_no_sems (by decide) r.2⟩)
    (Cert.MergeRefIdeal.Value.run m ρ),
  fun m ρ _ => Cert.Project.Gen.frame m ρ,
  fun m ρ _ => Cert.ProjectIdeal.Gen.frame m ρ,
  fun m ρ _ => (θ_run _ _ _).mono (fun r h => ⟨fun c => (h c).2.2.2, Idealize.ShloMosaic.sem_eq_zero_of_no_sems (by decide) r.2⟩)
    (Cert.ProjectRefIdeal.Value.run m ρ),
  fun m ρ _ => Cert.ProjectSample.Gen.frame m ρ,
  fun m ρ _ => Cert.ProjectSampleIdeal.Gen.frame m ρ,
  fun m ρ _ => (θ_run _ _ _).mono (fun r h => ⟨fun c => (h c).2.2.2, Idealize.ShloMosaic.sem_eq_zero_of_no_sems (by decide) r.2⟩)
    (Cert.ProjectSampleRefIdeal.Value.run m ρ),
  fun m ρ _ => Cert.FfnSample.Gen.frame m ρ,
  fun m ρ _ => Cert.FfnSampleIdeal.Gen.frame m ρ,
  fun m ρ _ => Cert.FfnSampleIdeal.Gen.frame m ρ,
  fun m ρ _ => (θ_run _ _ _).mono (fun r h => ⟨fun c => (h c).2, Idealize.ShloMosaic.sem_eq_zero_of_no_sems (by decide) r.2⟩)
    (Cert.FfnSampleRefIdeal.Value.run m ρ),
  fun m ρ _ => (θ_run _ _ _).mono (fun r h => ⟨fun c => (h c).2, Idealize.ShloMosaic.sem_eq_zero_of_no_sems (by decide) r.2⟩)
    (Cert.FfnSampleRefIdeal.Value.run m ρ),
  fun m ρ _ => Cert.Conv.Carry.frame m ρ,
  fun m ρ _ => Cert.ConvIdeal.Carry.frame m ρ,
  fun m ρ _ => Cert.ConvIdeal.Carry.frame m ρ,
  fun m ρ _ => (θ_run _ _ _).mono (fun r h => ⟨fun c => (h c).2.2.2, Idealize.ShloMosaic.sem_eq_zero_of_no_sems (by decide) r.2⟩)
    (Cert.ConvRefIdeal.Value.run m ρ),
  fun m ρ _ => (θ_run _ _ _).mono (fun r h => ⟨fun c => (h c).2.2.2, Idealize.ShloMosaic.sem_eq_zero_of_no_sems (by decide) r.2⟩)
    (Cert.ConvRefIdeal.Value.run m ρ),
  trivial,
  Cert.Proofs.AttnSample.algebraic,
  trivial,
  Cert.Proofs.Ffn.algebraic,
  trivial,
  Cert.Proofs.Merge.algebraic,
  trivial,
  Cert.Proofs.Project.algebraic,
  trivial,
  Cert.Proofs.ProjectSample.algebraic,
  trivial,
  Cert.Proofs.FfnSample.algebraic,
  trivial,
  Cert.Proofs.Conv.algebraic⟩

end Cert.Proof

end
